-- ==== Defs.lean ====
def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)) →
    ∃ (v0 : (c : Dev Cert.Kernel1Ideal.nD) → Buf (Elt Ideal) ((c.tc : Thread Cert.Kernel1Ideal.nD Cert.Kernel1Ideal.τ).loc Cert.Kernel1Ideal.main_v12_0)) (v1 : (c : Dev Cert.Kernel1Ideal.nD) → Buf (Elt Ideal) ((c.tc : Thread Cert.Kernel1Ideal.nD Cert.Kernel1Ideal.τ).loc Cert.Kernel1Ideal.main_v12_1)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v12_0) = v0 c
          ∧ r.2.mem ((c.tc : Thread Cert.Kernel1Ideal.nD Cert.Kernel1Ideal.τ).loc Cert.Kernel1Ideal.main_v12_1) = v1 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v76) = v0 c
          ∧ r.2.mem ((c.tc : Thread Cert.Reference1Ideal.nD Cert.Reference1Ideal.τ).loc Cert.Reference1Ideal.main_v77) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_v77) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel1.lean ====
abbrev S2048x8x1024 : Shape := ⟨3, ![2048, 8, 1024]⟩
abbrev S2x8x3072 : Shape := ⟨3, ![2, 8, 3072]⟩
abbrev S1x1024 : Shape := ⟨2, ![1, 1024]⟩
abbrev S1x1024x3072 : Shape := ⟨3, ![1, 1024, 3072]⟩
abbrev S1x3x3072 : Shape := ⟨3, ![1, 3, 3072]⟩
abbrev S1x3072 : Shape := ⟨2, ![1, 3072]⟩
abbrev S1x3072x1024 : Shape := ⟨3, ![1, 3072, 1024]⟩
abbrev S1024 : Shape := ⟨1, ![1024]⟩
abbrev S1024x3072 : Shape := ⟨2, ![1024, 3072]⟩
abbrev S3x3072 : Shape := ⟨2, ![3, 3072]⟩
abbrev S3072 : Shape := ⟨1, ![3072]⟩
abbrev S3072x1024 : Shape := ⟨2, ![3072, 1024]⟩
abbrev S8x2048x1024 : Shape := ⟨3, ![8, 2048, 1024]⟩
abbrev S64x8x1024 : Shape := ⟨3, ![64, 8, 1024]⟩
abbrev S16x3072 : Shape := ⟨2, ![16, 3072]⟩
abbrev S2x64x8x1024 : Shape := ⟨4, ![2, 64, 8, 1024]⟩
abbrev S2 : Shape := ⟨1, ![2]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S16x1024 : Shape := ⟨2, ![16, 1024]⟩
abbrev S496x1024 : Shape := ⟨2, ![496, 1024]⟩
abbrev S8x1024 : Shape := ⟨2, ![8, 1024]⟩
abbrev S504x1024 : Shape := ⟨2, ![504, 1024]⟩
abbrev S2x8x1024 : Shape := ⟨3, ![2, 8, 1024]⟩
abbrev S1x64x8x1024 : Shape := ⟨4, ![1, 64, 8, 1024]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩
abbrev S1x64x1x1024 : Shape := ⟨4, ![1, 64, 1, 1024]⟩

abbrev nBuf : Space → Nat
  | .hbm => 23
  | .vmem => 13
  | .smem => 0
  | _ => 0

abbrev bufTy : (tb : Table) → Fin (tcTables nBuf tb) → BufTy
  | .hbm, ⟨0, _⟩ => ⟨S2048x8x1024, .f32⟩
  | .hbm, ⟨1, _⟩ => ⟨S2x8x3072, .f32⟩
  | .hbm, ⟨2, _⟩ => ⟨S1x1024, .f32⟩
  | .hbm, ⟨3, _⟩ => ⟨S1x1024x3072, .f32⟩
  | .hbm, ⟨4, _⟩ => ⟨S1x1024x3072, .f32⟩
  | .hbm, ⟨5, _⟩ => ⟨S1x3x3072, .f32⟩
  | .hbm, ⟨6, _⟩ => ⟨S1x3072, .f32⟩
  | .hbm, ⟨7, _⟩ => ⟨S1x3072x1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1024x3072, .f32⟩
  | .hbm, ⟨12, _⟩ => ⟨S1024x3072, .bf16⟩
  | .hbm, ⟨13, _⟩ => ⟨S1024x3072, .f32⟩
  | .hbm, ⟨14, _⟩ => ⟨S1024x3072, .bf16⟩
  | .hbm, ⟨15, _⟩ => ⟨S3x3072, .f32⟩
  | .hbm, ⟨16, _⟩ => ⟨S3072, .f32⟩
  | .hbm, ⟨17, _⟩ => ⟨S1x3072, .f32⟩
  | .hbm, ⟨18, _⟩ => ⟨S3072x1024, .f32⟩
  | .hbm, ⟨19, _⟩ => ⟨S3072x1024, .bf16⟩
  | .hbm, ⟨20, _⟩ => ⟨S1x1024, .f32⟩
  | .hbm, ⟨21, _⟩ => ⟨S8x2048x1024, .f32⟩
  | .hbm, ⟨22, _⟩ => ⟨S2x8x3072, .f32⟩
  | .local _ .vmem, ⟨0, _⟩ => ⟨S64x8x1024, .f32⟩
  | .local _ .vmem, ⟨1, _⟩ => ⟨S64x8x1024, .f32⟩
  | .local _ .vmem, ⟨2, _⟩ => ⟨S2x8x3072, .f32⟩
  | .local _ .vmem, ⟨3, _⟩ => ⟨S1x1024, .f32⟩
  | .local _ .vmem, ⟨4, _⟩ => ⟨S1024x3072, .bf16⟩
  | .local _ .vmem, ⟨5, _⟩ => ⟨S1024x3072, .bf16⟩
  | .local _ .vmem, ⟨6, _⟩ => ⟨S3x3072, .f32⟩
  | .local _ .vmem, ⟨7, _⟩ => ⟨S1x3072, .f32⟩
  | .local _ .vmem, ⟨8, _⟩ => ⟨S3072x1024, .bf16⟩
  | .local _ .vmem, ⟨9, _⟩ => ⟨S1x1024, .f32⟩
  | .local _ .vmem, ⟨10, _⟩ => ⟨S2x8x3072, .f32⟩
  | .local _ .vmem, ⟨11, _⟩ => ⟨S16x3072, .f32⟩
  | .local _ .vmem, ⟨12, _⟩ => ⟨S2x64x8x1024, .f32⟩
  | _, _ => ⟨S2048x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨2, ![1, 32], ![false, false]⟩

def k0_off1 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let v206 : Index := Scalar.indexCast v2
  let c0_92 : Index := 0#32
  let c0_93 : Index := 0#32
  let c0_94 : Index := 0#32
  ![v206.toNat, 0, 0, 0]
def k0_off2 (i : grid0.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off3 (i : grid0.Coords) : Fin 3 → Nat :=
  let c0_i32_96 : BitVec 32 := 0#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32 : BitVec 32 := 64#32
  let v210 : BitVec 32 := Scalar.muli v1 c64_i32
  let c0_i32_97 : BitVec 32 := 0#32
  ![0, v210.toNat, 0]
def k0_off4 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_98 : BitVec 32 := 0#32
  let c0_i32_95 : BitVec 32 := 0#32
  let c0_i32_99 : BitVec 32 := 0#32
  ![v2.toNat, 0, 0, 0]
def k0_off5 (i : grid0.Coords) : Fin 3 → Nat :=
  let c1_i32_101 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_100 : BitVec 32 := 64#32
  let v217 : BitVec 32 := Scalar.muli v1 c64_i32_100
  let c0_i32_102 : BitVec 32 := 0#32
  ![1, v217.toNat, 0]
def k0_off6 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_103 : BitVec 32 := 0#32
  let c1_i32 : BitVec 32 := 1#32
  let c0_i32_104 : BitVec 32 := 0#32
  ![v2.toNat, 0, 1, 0]
def k0_off7 (i : grid0.Coords) : Fin 3 → Nat :=
  let c2_i32_107 : BitVec 32 := 2#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_105 : BitVec 32 := 64#32
  let v224 : BitVec 32 := Scalar.muli v1 c64_i32_105
  let c0_i32_108 : BitVec 32 := 0#32
  ![2, v224.toNat, 0]
def k0_off8 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_109 : BitVec 32 := 0#32
  let c2_i32_106 : BitVec 32 := 2#32
  let c0_i32_110 : BitVec 32 := 0#32
  ![v2.toNat, 0, 2, 0]
def k0_off9 (i : grid0.Coords) : Fin 3 → Nat :=
  let c3_i32_112 : BitVec 32 := 3#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_111 : BitVec 32 := 64#32
  let v231 : BitVec 32 := Scalar.muli v1 c64_i32_111
  let c0_i32_113 : BitVec 32 := 0#32
  ![3, v231.toNat, 0]
def k0_off10 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_114 : BitVec 32 := 0#32
  let c3_i32 : BitVec 32 := 3#32
  let c0_i32_115 : BitVec 32 := 0#32
  ![v2.toNat, 0, 3, 0]
def k0_off11 (i : grid0.Coords) : Fin 3 → Nat :=
  let c4_i32_117 : BitVec 32 := 4#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_116 : BitVec 32 := 64#32
  let v238 : BitVec 32 := Scalar.muli v1 c64_i32_116
  let c0_i32_118 : BitVec 32 := 0#32
  ![4, v238.toNat, 0]
def k0_off12 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_119 : BitVec 32 := 0#32
  let c4_i32 : BitVec 32 := 4#32
  let c0_i32_120 : BitVec 32 := 0#32
  ![v2.toNat, 0, 4, 0]
def k0_off13 (i : grid0.Coords) : Fin 3 → Nat :=
  let c5_i32_122 : BitVec 32 := 5#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_121 : BitVec 32 := 64#32
  let v245 : BitVec 32 := Scalar.muli v1 c64_i32_121
  let c0_i32_123 : BitVec 32 := 0#32
  ![5, v245.toNat, 0]
def k0_off14 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_124 : BitVec 32 := 0#32
  let c5_i32 : BitVec 32 := 5#32
  let c0_i32_125 : BitVec 32 := 0#32
  ![v2.toNat, 0, 5, 0]
def k0_off15 (i : grid0.Coords) : Fin 3 → Nat :=
  let c6_i32_127 : BitVec 32 := 6#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_126 : BitVec 32 := 64#32
  let v252 : BitVec 32 := Scalar.muli v1 c64_i32_126
  let c0_i32_128 : BitVec 32 := 0#32
  ![6, v252.toNat, 0]
def k0_off16 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_129 : BitVec 32 := 0#32
  let c6_i32 : BitVec 32 := 6#32
  let c0_i32_130 : BitVec 32 := 0#32
  ![v2.toNat, 0, 6, 0]
def k0_off17 (i : grid0.Coords) : Fin 3 → Nat :=
  let c7_i32_132 : BitVec 32 := 7#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_131 : BitVec 32 := 64#32
  let v259 : BitVec 32 := Scalar.muli v1 c64_i32_131
  let c0_i32_133 : BitVec 32 := 0#32
  ![7, v259.toNat, 0]
def k0_off18 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_134 : BitVec 32 := 0#32
  let c7_i32 : BitVec 32 := 7#32
  let c0_i32_135 : BitVec 32 := 0#32
  ![v2.toNat, 0, 7, 0]
def k0_cond2 (i : grid0.Coords) : BitVec 1 :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c0_i32_136 : BitVec 32 := 0#32
  let v266 : BitVec 1 := Scalar.cmpi .sgt v1 c0_i32_136
  let v267 : BitVec 32 := Scalar.extui v266
  let c0_i32_137 : BitVec 32 := 0#32
  let v268 : BitVec 1 := Scalar.cmpi .ne v267 c0_i32_137
  v268

def k0_off19 (i : grid0.Coords) : Fin 1 → Nat :=
  let c1_i32_140 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let v273 : BitVec 32 := Scalar.subi c1_i32_140 v2
  ![v273.toNat]
def k0_off20 (i : grid0.Coords) : Fin 3 → Nat :=
  let c0_i32_143 : BitVec 32 := 0#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_139 : BitVec 32 := 1#32
  let v272 : BitVec 32 := Scalar.subi v1 c1_i32_139
  let c64_i32_141 : BitVec 32 := 64#32
  let v274 : BitVec 32 := Scalar.muli v272 c64_i32_141
  let c0_i32_144 : BitVec 32 := 0#32
  ![0, v274.toNat, 0]
def k0_off21 (i : grid0.Coords) : Fin 4 → Nat :=
  let c1_i32_140 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let v273 : BitVec 32 := Scalar.subi c1_i32_140 v2
  let c0_i32_145 : BitVec 32 := 0#32
  let c0_i32_142 : BitVec 32 := 0#32
  let c0_i32_146 : BitVec 32 := 0#32
  ![v273.toNat, 0, 0, 0]
def k0_off22 (i : grid0.Coords) : Fin 3 → Nat :=
  let c1_i32_149 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_139 : BitVec 32 := 1#32
  let v272 : BitVec 32 := Scalar.subi v1 c1_i32_139
  let c64_i32_147 : BitVec 32 := 64#32
  let v281 : BitVec 32 := Scalar.muli v272 c64_i32_147
  let c0_i32_150 : BitVec 32 := 0#32
  ![1, v281.toNat, 0]
def k0_off23 (i : grid0.Coords) : Fin 4 → Nat :=
  let c1_i32_140 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let v273 : BitVec 32 := Scalar.subi c1_i32_140 v2
  let c0_i32_151 : BitVec 32 := 0#32
  let c1_i32_148 : BitVec 32 := 1#32
  let c0_i32_152 : BitVec 32 := 0#32
  ![v273.toNat, 0, 1, 0]
def k0_off24 (i : grid0.Coords) : Fin 3 → Nat :=
  let c2_i32_155 : BitVec 32 := 2#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_139 : BitVec 32 := 1#32
  let v272 : BitVec 32 := Scalar.subi v1 c1_i32_139
  let c64_i32_153 : BitVec 32 := 64#32
  let v288 : BitVec 32 := Scalar.muli v272 c64_i32_153
  let c0_i32_156 : BitVec 32 := 0#32
  ![2, v288.toNat, 0]
def k0_off25 (i : grid0.Coords) : Fin 4 → Nat :=
  let c1_i32_140 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let v273 : BitVec 32 := Scalar.subi c1_i32_140 v2
  let c0_i32_157 : BitVec 32 := 0#32
  let c2_i32_154 : BitVec 32 := 2#32
  let c0_i32_158 : BitVec 32 := 0#32
  ![v273.toNat, 0, 2, 0]
def k0_off26 (i : grid0.Coords) : Fin 3 → Nat :=
  let c3_i32_161 : BitVec 32 := 3#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_139 : BitVec 32 := 1#32
  let v272 : BitVec 32 := Scalar.subi v1 c1_i32_139
  let c64_i32_159 : BitVec 32 := 64#32
  let v295 : BitVec 32 := Scalar.muli v272 c64_i32_159
  let c0_i32_162 : BitVec 32 := 0#32
  ![3, v295.toNat, 0]
def k0_off27 (i : grid0.Coords) : Fin 4 → Nat :=
  let c1_i32_140 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let v273 : BitVec 32 := Scalar.subi c1_i32_140 v2
  let c0_i32_163 : BitVec 32 := 0#32
  let c3_i32_160 : BitVec 32 := 3#32
  let c0_i32_164 : BitVec 32 := 0#32
  ![v273.toNat, 0, 3, 0]
def k0_off28 (i : grid0.Coords) : Fin 3 → Nat :=
  let c4_i32_167 : BitVec 32 := 4#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_139 : BitVec 32 := 1#32
  let v272 : BitVec 32 := Scalar.subi v1 c1_i32_139
  let c64_i32_165 : BitVec 32 := 64#32
  let v302 : BitVec 32 := Scalar.muli v272 c64_i32_165
  let c0_i32_168 : BitVec 32 := 0#32
  ![4, v302.toNat, 0]
def k0_off29 (i : grid0.Coords) : Fin 4 → Nat :=
  let c1_i32_140 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let v273 : BitVec 32 := Scalar.subi c1_i32_140 v2
  let c0_i32_169 : BitVec 32 := 0#32
  let c4_i32_166 : BitVec 32 := 4#32
  let c0_i32_170 : BitVec 32 := 0#32
  ![v273.toNat, 0, 4, 0]
def k0_off30 (i : grid0.Coords) : Fin 3 → Nat :=
  let c5_i32_173 : BitVec 32 := 5#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_139 : BitVec 32 := 1#32
  let v272 : BitVec 32 := Scalar.subi v1 c1_i32_139
  let c64_i32_171 : BitVec 32 := 64#32
  let v309 : BitVec 32 := Scalar.muli v272 c64_i32_171
  let c0_i32_174 : BitVec 32 := 0#32
  ![5, v309.toNat, 0]
def k0_off31 (i : grid0.Coords) : Fin 4 → Nat :=
  let c1_i32_140 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let v273 : BitVec 32 := Scalar.subi c1_i32_140 v2
  let c0_i32_175 : BitVec 32 := 0#32
  let c5_i32_172 : BitVec 32 := 5#32
  let c0_i32_176 : BitVec 32 := 0#32
  ![v273.toNat, 0, 5, 0]
def k0_off32 (i : grid0.Coords) : Fin 3 → Nat :=
  let c6_i32_179 : BitVec 32 := 6#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_139 : BitVec 32 := 1#32
  let v272 : BitVec 32 := Scalar.subi v1 c1_i32_139
  let c64_i32_177 : BitVec 32 := 64#32
  let v316 : BitVec 32 := Scalar.muli v272 c64_i32_177
  let c0_i32_180 : BitVec 32 := 0#32
  ![6, v316.toNat, 0]
def k0_off33 (i : grid0.Coords) : Fin 4 → Nat :=
  let c1_i32_140 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let v273 : BitVec 32 := Scalar.subi c1_i32_140 v2
  let c0_i32_181 : BitVec 32 := 0#32
  let c6_i32_178 : BitVec 32 := 6#32
  let c0_i32_182 : BitVec 32 := 0#32
  ![v273.toNat, 0, 6, 0]
def k0_off34 (i : grid0.Coords) : Fin 3 → Nat :=
  let c7_i32_185 : BitVec 32 := 7#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_139 : BitVec 32 := 1#32
  let v272 : BitVec 32 := Scalar.subi v1 c1_i32_139
  let c64_i32_183 : BitVec 32 := 64#32
  let v323 : BitVec 32 := Scalar.muli v272 c64_i32_183
  let c0_i32_186 : BitVec 32 := 0#32
  ![7, v323.toNat, 0]
def k0_off35 (i : grid0.Coords) : Fin 4 → Nat :=
  let c1_i32_140 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let v273 : BitVec 32 := Scalar.subi c1_i32_140 v2
  let c0_i32_187 : BitVec 32 := 0#32
  let c7_i32_184 : BitVec 32 := 7#32
  let c0_i32_188 : BitVec 32 := 0#32
  ![v273.toNat, 0, 7, 0]
def k0_cond3 (i : grid0.Coords) : BitVec 1 :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c31_i32 : BitVec 32 := 31#32
  let v269 : BitVec 1 := Scalar.cmpi .eq v1 c31_i32
  let v270 : BitVec 32 := Scalar.extui v269
  let c0_i32_138 : BitVec 32 := 0#32
  let v271 : BitVec 1 := Scalar.cmpi .ne v270 c0_i32_138
  v271

def k0_off36 (i : grid0.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off37 (i : grid0.Coords) : Fin 3 → Nat :=
  let c0_i32_141 : BitVec 32 := 0#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_139 : BitVec 32 := 64#32
  let v272 : BitVec 32 := Scalar.muli v1 c64_i32_139
  let c0_i32_142 : BitVec 32 := 0#32
  ![0, v272.toNat, 0]
def k0_off38 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_143 : BitVec 32 := 0#32
  let c0_i32_140 : BitVec 32 := 0#32
  let c0_i32_144 : BitVec 32 := 0#32
  ![v2.toNat, 0, 0, 0]
def k0_off39 (i : grid0.Coords) : Fin 3 → Nat :=
  let c1_i32_147 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_145 : BitVec 32 := 64#32
  let v279 : BitVec 32 := Scalar.muli v1 c64_i32_145
  let c0_i32_148 : BitVec 32 := 0#32
  ![1, v279.toNat, 0]
def k0_off40 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_149 : BitVec 32 := 0#32
  let c1_i32_146 : BitVec 32 := 1#32
  let c0_i32_150 : BitVec 32 := 0#32
  ![v2.toNat, 0, 1, 0]
def k0_off41 (i : grid0.Coords) : Fin 3 → Nat :=
  let c2_i32_153 : BitVec 32 := 2#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_151 : BitVec 32 := 64#32
  let v286 : BitVec 32 := Scalar.muli v1 c64_i32_151
  let c0_i32_154 : BitVec 32 := 0#32
  ![2, v286.toNat, 0]
def k0_off42 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_155 : BitVec 32 := 0#32
  let c2_i32_152 : BitVec 32 := 2#32
  let c0_i32_156 : BitVec 32 := 0#32
  ![v2.toNat, 0, 2, 0]
def k0_off43 (i : grid0.Coords) : Fin 3 → Nat :=
  let c3_i32_159 : BitVec 32 := 3#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_157 : BitVec 32 := 64#32
  let v293 : BitVec 32 := Scalar.muli v1 c64_i32_157
  let c0_i32_160 : BitVec 32 := 0#32
  ![3, v293.toNat, 0]
def k0_off44 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_161 : BitVec 32 := 0#32
  let c3_i32_158 : BitVec 32 := 3#32
  let c0_i32_162 : BitVec 32 := 0#32
  ![v2.toNat, 0, 3, 0]
def k0_off45 (i : grid0.Coords) : Fin 3 → Nat :=
  let c4_i32_165 : BitVec 32 := 4#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_163 : BitVec 32 := 64#32
  let v300 : BitVec 32 := Scalar.muli v1 c64_i32_163
  let c0_i32_166 : BitVec 32 := 0#32
  ![4, v300.toNat, 0]
def k0_off46 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_167 : BitVec 32 := 0#32
  let c4_i32_164 : BitVec 32 := 4#32
  let c0_i32_168 : BitVec 32 := 0#32
  ![v2.toNat, 0, 4, 0]
def k0_off47 (i : grid0.Coords) : Fin 3 → Nat :=
  let c5_i32_171 : BitVec 32 := 5#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_169 : BitVec 32 := 64#32
  let v307 : BitVec 32 := Scalar.muli v1 c64_i32_169
  let c0_i32_172 : BitVec 32 := 0#32
  ![5, v307.toNat, 0]
def k0_off48 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_173 : BitVec 32 := 0#32
  let c5_i32_170 : BitVec 32 := 5#32
  let c0_i32_174 : BitVec 32 := 0#32
  ![v2.toNat, 0, 5, 0]
def k0_off49 (i : grid0.Coords) : Fin 3 → Nat :=
  let c6_i32_177 : BitVec 32 := 6#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_175 : BitVec 32 := 64#32
  let v314 : BitVec 32 := Scalar.muli v1 c64_i32_175
  let c0_i32_178 : BitVec 32 := 0#32
  ![6, v314.toNat, 0]
def k0_off50 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_179 : BitVec 32 := 0#32
  let c6_i32_176 : BitVec 32 := 6#32
  let c0_i32_180 : BitVec 32 := 0#32
  ![v2.toNat, 0, 6, 0]
def k0_off51 (i : grid0.Coords) : Fin 3 → Nat :=
  let c7_i32_183 : BitVec 32 := 7#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_181 : BitVec 32 := 64#32
  let v321 : BitVec 32 := Scalar.muli v1 c64_i32_181
  let c0_i32_184 : BitVec 32 := 0#32
  ![7, v321.toNat, 0]
def k0_off52 (i : grid0.Coords) : Fin 4 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_185 : BitVec 32 := 0#32
  let c7_i32_182 : BitVec 32 := 7#32
  let c0_i32_186 : BitVec 32 := 0#32
  ![v2.toNat, 0, 7, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x8x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference1Ideal.lean ====
abbrev S2048x8x1024 : Shape := ⟨3, ![2048, 8, 1024]⟩
abbrev S2x8x3072 : Shape := ⟨3, ![2, 8, 3072]⟩
abbrev S1x1024 : Shape := ⟨2, ![1, 1024]⟩
abbrev S1x1024x3072 : Shape := ⟨3, ![1, 1024, 3072]⟩
abbrev S1x3x3072 : Shape := ⟨3, ![1, 3, 3072]⟩
abbrev S1x3072 : Shape := ⟨2, ![1, 3072]⟩
abbrev S1x3072x1024 : Shape := ⟨3, ![1, 3072, 1024]⟩
abbrev S1024 : Shape := ⟨1, ![1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3072 : Shape := ⟨2, ![1024, 3072]⟩
abbrev S8x2048x3072 : Shape := ⟨3, ![8, 2048, 3072]⟩
abbrev S8x2x3072 : Shape := ⟨3, ![8, 2, 3072]⟩
abbrev S3x3072 : Shape := ⟨2, ![3, 3072]⟩
abbrev S3072 : Shape := ⟨1, ![3072]⟩
abbrev S8x2050x3072 : Shape := ⟨3, ![8, 2050, 3072]⟩
abbrev S1x1x3072 : Shape := ⟨3, ![1, 1, 3072]⟩
abbrev S3072x1024 : Shape := ⟨2, ![3072, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2048x8x1024, .f32⟩
  | .hbm, ⟨1, _⟩ => ⟨S2x8x3072, .f32⟩
  | .hbm, ⟨2, _⟩ => ⟨S1x1024, .f32⟩
  | .hbm, ⟨3, _⟩ => ⟨S1x1024x3072, .f32⟩
  | .hbm, ⟨4, _⟩ => ⟨S1x1024x3072, .f32⟩
  | .hbm, ⟨5, _⟩ => ⟨S1x3x3072, .f32⟩
  | .hbm, ⟨6, _⟩ => ⟨S1x3072, .f32⟩
  | .hbm, ⟨7, _⟩ => ⟨S1x3072x1024, .f32⟩
  | .hbm, ⟨8, _⟩ => ⟨S1024, .f32⟩
  | .hbm, ⟨9, _⟩ => ⟨S8x2048x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S1024x3072, .f32⟩
  | .hbm, ⟨28, _⟩ => ⟨S8x2048x3072, .f32⟩
  | .hbm, ⟨29, _⟩ => ⟨S8x2x3072, .f32⟩
  | .hbm, ⟨30, _⟩ => ⟨S3x3072, .f32⟩
  | .hbm, ⟨31, _⟩ => ⟨S3072, .f32⟩
  | .hbm, ⟨32, _⟩ => ⟨S8x2050x3072, .f32⟩
  | .hbm, ⟨33, _⟩ => ⟨S8x2048x3072, .f32⟩
  | .hbm, ⟨34, _⟩ => ⟨S1x3072, .f32⟩
  | .hbm, ⟨35, _⟩ => ⟨S3072, .f32⟩
  | .hbm, ⟨36, _⟩ => ⟨S1x1x3072, .f32⟩
  | .hbm, ⟨37, _⟩ => ⟨S8x2048x3072, .f32⟩
  | .hbm, ⟨38, _⟩ => ⟨S8x2048x3072, .f32⟩
  | .hbm, ⟨39, _⟩ => ⟨S1x1x3072, .f32⟩
  | .hbm, ⟨40, _⟩ => ⟨S8x2048x3072, .f32⟩
  | .hbm, ⟨41, _⟩ => ⟨S8x2048x3072, .f32⟩
  | .hbm, ⟨42, _⟩ => ⟨S8x2048x3072, .f32⟩
  | .hbm, ⟨43, _⟩ => ⟨S1x3072, .f32⟩
  | .hbm, ⟨44, _⟩ => ⟨S3072, .f32⟩
  | .hbm, ⟨45, _⟩ => ⟨S1x1x3072, .f32⟩
  | .hbm, ⟨46, _⟩ => ⟨S8x2048x3072, .f32⟩
  | .hbm, ⟨47, _⟩ => ⟨S8x2048x3072, .f32⟩
  | .hbm, ⟨48, _⟩ => ⟨S8x2048x3072, .f32⟩
  | .hbm, ⟨49, _⟩ => ⟨S8x2048x3072, .f32⟩
  | .hbm, ⟨50, _⟩ => ⟨S1x3072, .f32⟩
  | .hbm, ⟨51, _⟩ => ⟨S3072, .f32⟩
  | .hbm, ⟨52, _⟩ => ⟨S1x1x3072, .f32⟩
  | .hbm, ⟨53, _⟩ => ⟨S8x2048x3072, .f32⟩
  | .hbm, ⟨54, _⟩ => ⟨S8x2048x3072, .f32⟩
  | .hbm, ⟨55, _⟩ => ⟨S8x2048x3072, .f32⟩
  | .hbm, ⟨56, _⟩ => ⟨S8x2x3072, .f32⟩
  | .hbm, ⟨57, _⟩ => ⟨S8x2048x3072, .f32⟩
  | .hbm, ⟨58, _⟩ => ⟨S8x2048x3072, .f32⟩
  | .hbm, ⟨59, _⟩ => ⟨S_, .f32⟩
  | .hbm, ⟨60, _⟩ => ⟨S8x2048x3072, .f32⟩
  | .hbm, ⟨61, _⟩ => ⟨S8x2048x3072, .f32⟩
  | .hbm, ⟨62, _⟩ => ⟨S8x2048x3072, .f32⟩
  | .hbm, ⟨63, _⟩ => ⟨S_, .f32⟩
  | .hbm, ⟨64, _⟩ => ⟨S8x2048x3072, .f32⟩
  | .hbm, ⟨65, _⟩ => ⟨S8x2048x3072, .f32⟩
  | .hbm, ⟨66, _⟩ => ⟨S8x2048x3072, .f32⟩
  | .hbm, ⟨67, _⟩ => ⟨S_, .f32⟩
  | .hbm, ⟨68, _⟩ => ⟨S8x2048x3072, .f32⟩
  | .hbm, ⟨69, _⟩ => ⟨S8x2048x3072, .f32⟩
  | .hbm, ⟨70, _⟩ => ⟨S_, .f32⟩
  | .hbm, ⟨71, _⟩ => ⟨S8x2048x3072, .f32⟩
  | .hbm, ⟨72, _⟩ => ⟨S8x2048x3072, .f32⟩
  | .hbm, ⟨73, _⟩ => ⟨S8x2048x3072, .f32⟩
  | .hbm, ⟨74, _⟩ => ⟨S1024x3072, .f32⟩
  | .hbm, ⟨75, _⟩ => ⟨S8x2048x3072, .f32⟩
  | .hbm, ⟨76, _⟩ => ⟨S8x2048x3072, .f32⟩
  | .hbm, ⟨77, _⟩ => ⟨S3072x1024, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S_, .f32⟩
  | .hbm, ⟨85, _⟩ => ⟨S8x2048x1, .f32⟩
  | .hbm, ⟨86, _⟩ => ⟨S8x2048x1, .f32⟩
  | .hbm, ⟨87, _⟩ => ⟨S_, .f32⟩
  | .hbm, ⟨88, _⟩ => ⟨S8x2048x1, .f32⟩
  | .hbm, ⟨89, _⟩ => ⟨S8x2048x1, .f32⟩
  | .hbm, ⟨90, _⟩ => ⟨S8x2048x1, .f32⟩
  | .hbm, ⟨91, _⟩ => ⟨S8x2048x1024, .f32⟩
  | .hbm, ⟨92, _⟩ => ⟨S8x2048x1024, .f32⟩
  | .hbm, ⟨93, _⟩ => ⟨S1x1x1024, .f32⟩
  | .hbm, ⟨94, _⟩ => ⟨S8x2048x1024, .f32⟩
  | .hbm, ⟨95, _⟩ => ⟨S8x2048x1024, .f32⟩
  | .hbm, ⟨96, _⟩ => ⟨S2x8x3072, .f32⟩
  | _, _ => ⟨S2048x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Kernel2.lean ====
abbrev S4x128x1024 : Shape := ⟨3, ![4, 128, 1024]⟩
abbrev S2x128x3072 : Shape := ⟨3, ![2, 128, 3072]⟩
abbrev S1x1024 : Shape := ⟨2, ![1, 1024]⟩
abbrev S1x1024x3072 : Shape := ⟨3, ![1, 1024, 3072]⟩
abbrev S1x3x3072 : Shape := ⟨3, ![1, 3, 3072]⟩
abbrev S1x3072 : Shape := ⟨2, ![1, 3072]⟩
abbrev S1x3072x1024 : Shape := ⟨3, ![1, 3072, 1024]⟩
abbrev S1024 : Shape := ⟨1, ![1024]⟩
abbrev S1024x3072 : Shape := ⟨2, ![1024, 3072]⟩
abbrev S3x3072 : Shape := ⟨2, ![3, 3072]⟩
abbrev S3072 : Shape := ⟨1, ![3072]⟩
abbrev S3072x1024 : Shape := ⟨2, ![3072, 1024]⟩
abbrev S128x4x1024 : Shape := ⟨3, ![128, 4, 1024]⟩
abbrev S4x64x1024 : Shape := ⟨3, ![4, 64, 1024]⟩
abbrev S2x64x3072 : Shape := ⟨3, ![2, 64, 3072]⟩
abbrev S128x3072 : Shape := ⟨2, ![128, 3072]⟩
abbrev S2x4x64x1024 : Shape := ⟨4, ![2, 4, 64, 1024]⟩
abbrev S2 : Shape := ⟨1, ![2]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S128x1024 : Shape := ⟨2, ![128, 1024]⟩
abbrev S64x1024 : Shape := ⟨2, ![64, 1024]⟩
abbrev S192x1024 : Shape := ⟨2, ![192, 1024]⟩
abbrev S2x64x1024 : Shape := ⟨3, ![2, 64, 1024]⟩
abbrev S1x4x64x1024 : Shape := ⟨4, ![1, 4, 64, 1024]⟩
abbrev S1 : Shape := ⟨1, ![1]⟩
abbrev S_ : Shape := ⟨0, ![]⟩
abbrev S64x1x1024 : Shape := ⟨3, ![64, 1, 1024]⟩
abbrev S1x1x64x1024 : Shape := ⟨4, ![1, 1, 64, 1024]⟩

abbrev nBuf : Space → Nat
  | .hbm => 23
  | .vmem => 15
  | .smem => 0
  | _ => 0

abbrev bufTy : (tb : Table) → Fin (tcTables nBuf tb) → BufTy
  | .hbm, ⟨0, _⟩ => ⟨S4x128x1024, .f32⟩
  | .hbm, ⟨1, _⟩ => ⟨S2x128x3072, .f32⟩
  | .hbm, ⟨2, _⟩ => ⟨S1x1024, .f32⟩
  | .hbm, ⟨3, _⟩ => ⟨S1x1024x3072, .f32⟩
  | .hbm, ⟨4, _⟩ => ⟨S1x1024x3072, .f32⟩
  | .hbm, ⟨5, _⟩ => ⟨S1x3x3072, .f32⟩
  | .hbm, ⟨6, _⟩ => ⟨S1x3072, .f32⟩
  | .hbm, ⟨7, _⟩ => ⟨S1x3072x1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1024x3072, .f32⟩
  | .hbm, ⟨12, _⟩ => ⟨S1024x3072, .bf16⟩
  | .hbm, ⟨13, _⟩ => ⟨S1024x3072, .f32⟩
  | .hbm, ⟨14, _⟩ => ⟨S1024x3072, .bf16⟩
  | .hbm, ⟨15, _⟩ => ⟨S3x3072, .f32⟩
  | .hbm, ⟨16, _⟩ => ⟨S3072, .f32⟩
  | .hbm, ⟨17, _⟩ => ⟨S1x3072, .f32⟩
  | .hbm, ⟨18, _⟩ => ⟨S3072x1024, .f32⟩
  | .hbm, ⟨19, _⟩ => ⟨S3072x1024, .bf16⟩
  | .hbm, ⟨20, _⟩ => ⟨S1x1024, .f32⟩
  | .hbm, ⟨21, _⟩ => ⟨S128x4x1024, .f32⟩
  | .hbm, ⟨22, _⟩ => ⟨S2x128x3072, .f32⟩
  | .local _ .vmem, ⟨0, _⟩ => ⟨S4x64x1024, .f32⟩
  | .local _ .vmem, ⟨1, _⟩ => ⟨S4x64x1024, .f32⟩
  | .local _ .vmem, ⟨2, _⟩ => ⟨S2x64x3072, .f32⟩
  | .local _ .vmem, ⟨3, _⟩ => ⟨S2x64x3072, .f32⟩
  | .local _ .vmem, ⟨4, _⟩ => ⟨S1x1024, .f32⟩
  | .local _ .vmem, ⟨5, _⟩ => ⟨S1024x3072, .bf16⟩
  | .local _ .vmem, ⟨6, _⟩ => ⟨S1024x3072, .bf16⟩
  | .local _ .vmem, ⟨7, _⟩ => ⟨S3x3072, .f32⟩
  | .local _ .vmem, ⟨8, _⟩ => ⟨S1x3072, .f32⟩
  | .local _ .vmem, ⟨9, _⟩ => ⟨S3072x1024, .bf16⟩
  | .local _ .vmem, ⟨10, _⟩ => ⟨S1x1024, .f32⟩
  | .local _ .vmem, ⟨11, _⟩ => ⟨S2x64x3072, .f32⟩
  | .local _ .vmem, ⟨12, _⟩ => ⟨S2x64x3072, .f32⟩
  | .local _ .vmem, ⟨13, _⟩ => ⟨S128x3072, .f32⟩
  | .local _ .vmem, ⟨14, _⟩ => ⟨S2x4x64x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 1], ![false, false]⟩

def k0_off1 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v206 : Index := Scalar.indexCast v2
  let c0_92 : Index := 0#32
  let c0_93 : Index := 0#32
  let c0_94 : Index := 0#32
  ![v206.toNat, 0, 0, 0]
def k0_mult1 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32 : BitVec 32 := 64#32
  let v210 : BitVec 32 := Scalar.muli v1 c64_i32
  v210
def k0_off2 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off3 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32 : BitVec 32 := 64#32
  let v210 : BitVec 32 := Scalar.muli v1 c64_i32
  let v211 : BitVec 32 := v210
  let c0_i32_96 : BitVec 32 := 0#32
  let c0_i32_97 : BitVec 32 := 0#32
  ![v211.toNat, 0, 0]
def k0_off4 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_95 : BitVec 32 := 0#32
  let c0_i32_98 : BitVec 32 := 0#32
  let c0_i32_99 : BitVec 32 := 0#32
  ![v2.toNat, 0, 0, 0]
def k0_mult2 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_100 : BitVec 32 := 64#32
  let v218 : BitVec 32 := Scalar.muli v1 c64_i32_100
  v218
def k0_off5 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_100 : BitVec 32 := 64#32
  let v218 : BitVec 32 := Scalar.muli v1 c64_i32_100
  let v219 : BitVec 32 := v218
  let c1_i32_102 : BitVec 32 := 1#32
  let c0_i32_103 : BitVec 32 := 0#32
  ![v219.toNat, 1, 0]
def k0_off6 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32_101 : BitVec 32 := 1#32
  let c0_i32_104 : BitVec 32 := 0#32
  let c0_i32_105 : BitVec 32 := 0#32
  ![v2.toNat, 1, 0, 0]
def k0_mult3 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_106 : BitVec 32 := 64#32
  let v226 : BitVec 32 := Scalar.muli v1 c64_i32_106
  v226
def k0_off7 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_106 : BitVec 32 := 64#32
  let v226 : BitVec 32 := Scalar.muli v1 c64_i32_106
  let v227 : BitVec 32 := v226
  let c2_i32_108 : BitVec 32 := 2#32
  let c0_i32_109 : BitVec 32 := 0#32
  ![v227.toNat, 2, 0]
def k0_off8 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c2_i32_107 : BitVec 32 := 2#32
  let c0_i32_110 : BitVec 32 := 0#32
  let c0_i32_111 : BitVec 32 := 0#32
  ![v2.toNat, 2, 0, 0]
def k0_mult4 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_112 : BitVec 32 := 64#32
  let v234 : BitVec 32 := Scalar.muli v1 c64_i32_112
  v234
def k0_off9 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_112 : BitVec 32 := 64#32
  let v234 : BitVec 32 := Scalar.muli v1 c64_i32_112
  let v235 : BitVec 32 := v234
  let c3_i32_113 : BitVec 32 := 3#32
  let c0_i32_114 : BitVec 32 := 0#32
  ![v235.toNat, 3, 0]
def k0_off10 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c3_i32 : BitVec 32 := 3#32
  let c0_i32_115 : BitVec 32 := 0#32
  let c0_i32_116 : BitVec 32 := 0#32
  ![v2.toNat, 3, 0, 0]
def k0_cond2 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_117 : BitVec 32 := 0#32
  let v242 : BitVec 1 := Scalar.cmpi .sgt v1 c0_i32_117
  let v243 : BitVec 32 := Scalar.extui v242
  let c0_i32_118 : BitVec 32 := 0#32
  let v244 : BitVec 1 := Scalar.cmpi .ne v243 c0_i32_118
  v244

def k0_mult5 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_121 : BitVec 32 := 1#32
  let v248 : BitVec 32 := Scalar.subi v1 c1_i32_121
  let c64_i32_123 : BitVec 32 := 64#32
  let v250 : BitVec 32 := Scalar.muli v248 c64_i32_123
  v250
def k0_off11 (i : grid0.Coords) : Fin 1 → Nat :=
  let c1_i32_122 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v249 : BitVec 32 := Scalar.subi c1_i32_122 v2
  ![v249.toNat]
def k0_off12 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_121 : BitVec 32 := 1#32
  let v248 : BitVec 32 := Scalar.subi v1 c1_i32_121
  let c64_i32_123 : BitVec 32 := 64#32
  let v250 : BitVec 32 := Scalar.muli v248 c64_i32_123
  let v251 : BitVec 32 := v250
  let c0_i32_125 : BitVec 32 := 0#32
  let c0_i32_126 : BitVec 32 := 0#32
  ![v251.toNat, 0, 0]
def k0_off13 (i : grid0.Coords) : Fin 4 → Nat :=
  let c1_i32_122 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v249 : BitVec 32 := Scalar.subi c1_i32_122 v2
  let c0_i32_124 : BitVec 32 := 0#32
  let c0_i32_127 : BitVec 32 := 0#32
  let c0_i32_128 : BitVec 32 := 0#32
  ![v249.toNat, 0, 0, 0]
def k0_mult6 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_121 : BitVec 32 := 1#32
  let v248 : BitVec 32 := Scalar.subi v1 c1_i32_121
  let c64_i32_129 : BitVec 32 := 64#32
  let v258 : BitVec 32 := Scalar.muli v248 c64_i32_129
  v258
def k0_off14 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_121 : BitVec 32 := 1#32
  let v248 : BitVec 32 := Scalar.subi v1 c1_i32_121
  let c64_i32_129 : BitVec 32 := 64#32
  let v258 : BitVec 32 := Scalar.muli v248 c64_i32_129
  let v259 : BitVec 32 := v258
  let c1_i32_131 : BitVec 32 := 1#32
  let c0_i32_132 : BitVec 32 := 0#32
  ![v259.toNat, 1, 0]
def k0_off15 (i : grid0.Coords) : Fin 4 → Nat :=
  let c1_i32_122 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v249 : BitVec 32 := Scalar.subi c1_i32_122 v2
  let c1_i32_130 : BitVec 32 := 1#32
  let c0_i32_133 : BitVec 32 := 0#32
  let c0_i32_134 : BitVec 32 := 0#32
  ![v249.toNat, 1, 0, 0]
def k0_mult7 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_121 : BitVec 32 := 1#32
  let v248 : BitVec 32 := Scalar.subi v1 c1_i32_121
  let c64_i32_135 : BitVec 32 := 64#32
  let v266 : BitVec 32 := Scalar.muli v248 c64_i32_135
  v266
def k0_off16 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_121 : BitVec 32 := 1#32
  let v248 : BitVec 32 := Scalar.subi v1 c1_i32_121
  let c64_i32_135 : BitVec 32 := 64#32
  let v266 : BitVec 32 := Scalar.muli v248 c64_i32_135
  let v267 : BitVec 32 := v266
  let c2_i32_137 : BitVec 32 := 2#32
  let c0_i32_138 : BitVec 32 := 0#32
  ![v267.toNat, 2, 0]
def k0_off17 (i : grid0.Coords) : Fin 4 → Nat :=
  let c1_i32_122 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v249 : BitVec 32 := Scalar.subi c1_i32_122 v2
  let c2_i32_136 : BitVec 32 := 2#32
  let c0_i32_139 : BitVec 32 := 0#32
  let c0_i32_140 : BitVec 32 := 0#32
  ![v249.toNat, 2, 0, 0]
def k0_mult8 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_121 : BitVec 32 := 1#32
  let v248 : BitVec 32 := Scalar.subi v1 c1_i32_121
  let c64_i32_141 : BitVec 32 := 64#32
  let v274 : BitVec 32 := Scalar.muli v248 c64_i32_141
  v274
def k0_off18 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_121 : BitVec 32 := 1#32
  let v248 : BitVec 32 := Scalar.subi v1 c1_i32_121
  let c64_i32_141 : BitVec 32 := 64#32
  let v274 : BitVec 32 := Scalar.muli v248 c64_i32_141
  let v275 : BitVec 32 := v274
  let c3_i32_143 : BitVec 32 := 3#32
  let c0_i32_144 : BitVec 32 := 0#32
  ![v275.toNat, 3, 0]
def k0_off19 (i : grid0.Coords) : Fin 4 → Nat :=
  let c1_i32_122 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v249 : BitVec 32 := Scalar.subi c1_i32_122 v2
  let c3_i32_142 : BitVec 32 := 3#32
  let c0_i32_145 : BitVec 32 := 0#32
  let c0_i32_146 : BitVec 32 := 0#32
  ![v249.toNat, 3, 0, 0]
def k0_cond3 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_119 : BitVec 32 := 1#32
  let v245 : BitVec 1 := Scalar.cmpi .eq v1 c1_i32_119
  let v246 : BitVec 32 := Scalar.extui v245
  let c0_i32_120 : BitVec 32 := 0#32
  let v247 : BitVec 1 := Scalar.cmpi .ne v246 c0_i32_120
  v247

def k0_mult9 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_121 : BitVec 32 := 64#32
  let v248 : BitVec 32 := Scalar.muli v1 c64_i32_121
  v248
def k0_off20 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off21 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_121 : BitVec 32 := 64#32
  let v248 : BitVec 32 := Scalar.muli v1 c64_i32_121
  let v249 : BitVec 32 := v248
  let c0_i32_123 : BitVec 32 := 0#32
  let c0_i32_124 : BitVec 32 := 0#32
  ![v249.toNat, 0, 0]
def k0_off22 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_122 : BitVec 32 := 0#32
  let c0_i32_125 : BitVec 32 := 0#32
  let c0_i32_126 : BitVec 32 := 0#32
  ![v2.toNat, 0, 0, 0]
def k0_mult10 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_127 : BitVec 32 := 64#32
  let v256 : BitVec 32 := Scalar.muli v1 c64_i32_127
  v256
def k0_off23 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_127 : BitVec 32 := 64#32
  let v256 : BitVec 32 := Scalar.muli v1 c64_i32_127
  let v257 : BitVec 32 := v256
  let c1_i32_129 : BitVec 32 := 1#32
  let c0_i32_130 : BitVec 32 := 0#32
  ![v257.toNat, 1, 0]
def k0_off24 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32_128 : BitVec 32 := 1#32
  let c0_i32_131 : BitVec 32 := 0#32
  let c0_i32_132 : BitVec 32 := 0#32
  ![v2.toNat, 1, 0, 0]
def k0_mult11 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_133 : BitVec 32 := 64#32
  let v264 : BitVec 32 := Scalar.muli v1 c64_i32_133
  v264
def k0_off25 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_133 : BitVec 32 := 64#32
  let v264 : BitVec 32 := Scalar.muli v1 c64_i32_133
  let v265 : BitVec 32 := v264
  let c2_i32_135 : BitVec 32 := 2#32
  let c0_i32_136 : BitVec 32 := 0#32
  ![v265.toNat, 2, 0]
def k0_off26 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c2_i32_134 : BitVec 32 := 2#32
  let c0_i32_137 : BitVec 32 := 0#32
  let c0_i32_138 : BitVec 32 := 0#32
  ![v2.toNat, 2, 0, 0]
def k0_mult12 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_139 : BitVec 32 := 64#32
  let v272 : BitVec 32 := Scalar.muli v1 c64_i32_139
  v272
def k0_off27 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c64_i32_139 : BitVec 32 := 64#32
  let v272 : BitVec 32 := Scalar.muli v1 c64_i32_139
  let v273 : BitVec 32 := v272
  let c3_i32_141 : BitVec 32 := 3#32
  let c0_i32_142 : BitVec 32 := 0#32
  ![v273.toNat, 3, 0]
def k0_off28 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c3_i32_140 : BitVec 32 := 3#32
  let c0_i32_143 : BitVec 32 := 0#32
  let c0_i32_144 : BitVec 32 := 0#32
  ![v2.toNat, 3, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x64x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S4x128x1024 : Shape := ⟨3, ![4, 128, 1024]⟩
abbrev S2x128x3072 : Shape := ⟨3, ![2, 128, 3072]⟩
abbrev S1x1024 : Shape := ⟨2, ![1, 1024]⟩
abbrev S1x1024x3072 : Shape := ⟨3, ![1, 1024, 3072]⟩
abbrev S1x3x3072 : Shape := ⟨3, ![1, 3, 3072]⟩
abbrev S1x3072 : Shape := ⟨2, ![1, 3072]⟩
abbrev S1x3072x1024 : Shape := ⟨3, ![1, 3072, 1024]⟩
abbrev S1024 : Shape := ⟨1, ![1024]⟩
abbrev S128x4x1024 : Shape := ⟨3, ![128, 4, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x3072 : Shape := ⟨2, ![1024, 3072]⟩
abbrev S128x4x3072 : Shape := ⟨3, ![128, 4, 3072]⟩
abbrev S128x2x3072 : Shape := ⟨3, ![128, 2, 3072]⟩
abbrev S3x3072 : Shape := ⟨2, ![3, 3072]⟩
abbrev S3072 : Shape := ⟨1, ![3072]⟩
abbrev S128x6x3072 : Shape := ⟨3, ![128, 6, 3072]⟩
abbrev S1x1x3072 : Shape := ⟨3, ![1, 1, 3072]⟩
abbrev S3072x1024 : Shape := ⟨2, ![3072, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S2x128x3072, .f32⟩
  | .hbm, ⟨2, _⟩ => ⟨S1x1024, .f32⟩
  | .hbm, ⟨3, _⟩ => ⟨S1x1024x3072, .f32⟩
  | .hbm, ⟨4, _⟩ => ⟨S1x1024x3072, .f32⟩
  | .hbm, ⟨5, _⟩ => ⟨S1x3x3072, .f32⟩
  | .hbm, ⟨6, _⟩ => ⟨S1x3072, .f32⟩
  | .hbm, ⟨7, _⟩ => ⟨S1x3072x1024, .f32⟩
  | .hbm, ⟨8, _⟩ => ⟨S1024, .f32⟩
  | .hbm, ⟨9, _⟩ => ⟨S128x4x1024, .f32⟩
  | .hbm, ⟨10, _⟩ => ⟨S1024, .f32⟩
  | .hbm, ⟨11, _⟩ => ⟨S128x4x1024, .f32⟩
  | .hbm, ⟨12, _⟩ => ⟨S_, .f32⟩
  | .hbm, ⟨13, _⟩ => ⟨S128x4, .f32⟩
  | .hbm, ⟨14, _⟩ => ⟨S128x4x1, .f32⟩
  | .hbm, ⟨15, _⟩ => ⟨S_, .f32⟩
  | .hbm, ⟨16, _⟩ => ⟨S128x4x1, .f32⟩
  | .hbm, ⟨17, _⟩ => ⟨S128x4x1, .f32⟩
  | .hbm, ⟨18, _⟩ => ⟨S_, .f32⟩
  | .hbm, ⟨19, _⟩ => ⟨S128x4x1, .f32⟩
  | .hbm, ⟨20, _⟩ => ⟨S128x4x1, .f32⟩
  | .hbm, ⟨21, _⟩ => ⟨S128x4x1, .f32⟩
  | .hbm, ⟨22, _⟩ => ⟨S128x4x1024, .f32⟩
  | .hbm, ⟨23, _⟩ => ⟨S128x4x1024, .f32⟩
  | .hbm, ⟨24, _⟩ => ⟨S1x1x1024, .f32⟩
  | .hbm, ⟨25, _⟩ => ⟨S128x4x1024, .f32⟩
  | .hbm, ⟨26, _⟩ => ⟨S128x4x1024, .f32⟩
  | .hbm, ⟨27, _⟩ => ⟨S1024x3072, .f32⟩
  | .hbm, ⟨28, _⟩ => ⟨S128x4x3072, .f32⟩
  | .hbm, ⟨29, _⟩ => ⟨S128x2x3072, .f32⟩
  | .hbm, ⟨30, _⟩ => ⟨S3x3072, .f32⟩
  | .hbm, ⟨31, _⟩ => ⟨S3072, .f32⟩
  | .hbm, ⟨32, _⟩ => ⟨S128x6x3072, .f32⟩
  | .hbm, ⟨33, _⟩ => ⟨S128x4x3072, .f32⟩
  | .hbm, ⟨34, _⟩ => ⟨S1x3072, .f32⟩
  | .hbm, ⟨35, _⟩ => ⟨S3072, .f32⟩
  | .hbm, ⟨36, _⟩ => ⟨S1x1x3072, .f32⟩
  | .hbm, ⟨37, _⟩ => ⟨S128x4x3072, .f32⟩
  | .hbm, ⟨38, _⟩ => ⟨S128x4x3072, .f32⟩
  | .hbm, ⟨39, _⟩ => ⟨S1x1x3072, .f32⟩
  | .hbm, ⟨40, _⟩ => ⟨S128x4x3072, .f32⟩
  | .hbm, ⟨41, _⟩ => ⟨S128x4x3072, .f32⟩
  | .hbm, ⟨42, _⟩ => ⟨S128x4x3072, .f32⟩
  | .hbm, ⟨43, _⟩ => ⟨S1x3072, .f32⟩
  | .hbm, ⟨44, _⟩ => ⟨S3072, .f32⟩
  | .hbm, ⟨45, _⟩ => ⟨S1x1x3072, .f32⟩
  | .hbm, ⟨46, _⟩ => ⟨S128x4x3072, .f32⟩
  | .hbm, ⟨47, _⟩ => ⟨S128x4x3072, .f32⟩
  | .hbm, ⟨48, _⟩ => ⟨S128x4x3072, .f32⟩
  | .hbm, ⟨49, _⟩ => ⟨S128x4x3072, .f32⟩
  | .hbm, ⟨50, _⟩ => ⟨S1x3072, .f32⟩
  | .hbm, ⟨51, _⟩ => ⟨S3072, .f32⟩
  | .hbm, ⟨52, _⟩ => ⟨S1x1x3072, .f32⟩
  | .hbm, ⟨53, _⟩ => ⟨S128x4x3072, .f32⟩
  | .hbm, ⟨54, _⟩ => ⟨S128x4x3072, .f32⟩
  | .hbm, ⟨55, _⟩ => ⟨S128x4x3072, .f32⟩
  | .hbm, ⟨56, _⟩ => ⟨S128x2x3072, .f32⟩
  | .hbm, ⟨57, _⟩ => ⟨S128x4x3072, .f32⟩
  | .hbm, ⟨58, _⟩ => ⟨S128x4x3072, .f32⟩
  | .hbm, ⟨59, _⟩ => ⟨S_, .f32⟩
  | .hbm, ⟨60, _⟩ => ⟨S128x4x3072, .f32⟩
  | .hbm, ⟨61, _⟩ => ⟨S128x4x3072, .f32⟩
  | .hbm, ⟨62, _⟩ => ⟨S128x4x3072, .f32⟩
  | .hbm, ⟨63, _⟩ => ⟨S_, .f32⟩
  | .hbm, ⟨64, _⟩ => ⟨S128x4x3072, .f32⟩
  | .hbm, ⟨65, _⟩ => ⟨S128x4x3072, .f32⟩
  | .hbm, ⟨66, _⟩ => ⟨S128x4x3072, .f32⟩
  | .hbm, ⟨67, _⟩ => ⟨S_, .f32⟩
  | .hbm, ⟨68, _⟩ => ⟨S128x4x3072, .f32⟩
  | .hbm, ⟨69, _⟩ => ⟨S128x4x3072, .f32⟩
  | .hbm, ⟨70, _⟩ => ⟨S_, .f32⟩
  | .hbm, ⟨71, _⟩ => ⟨S128x4x3072, .f32⟩
  | .hbm, ⟨72, _⟩ => ⟨S128x4x3072, .f32⟩
  | .hbm, ⟨73, _⟩ => ⟨S128x4x3072, .f32⟩
  | .hbm, ⟨74, _⟩ => ⟨S1024x3072, .f32⟩
  | .hbm, ⟨75, _⟩ => ⟨S128x4x3072, .f32⟩
  | .hbm, ⟨76, _⟩ => ⟨S128x4x3072, .f32⟩
  | .hbm, ⟨77, _⟩ => ⟨S3072x1024, .f32⟩
  | .hbm, ⟨78, _⟩ => ⟨S128x4x1024, .f32⟩
  | .hbm, ⟨79, _⟩ => ⟨S128x4x1024, .f32⟩
  | .hbm, ⟨80, _⟩ => ⟨S128x4x1024, .f32⟩
  | .hbm, ⟨81, _⟩ => ⟨S_, .f32⟩
  | .hbm, ⟨82, _⟩ => ⟨S128x4, .f32⟩
  | .hbm, ⟨83, _⟩ => ⟨S128x4x1, .f32⟩
  | .hbm, ⟨84, _⟩ => ⟨S_, .f32⟩
  | .hbm, ⟨85, _⟩ => ⟨S128x4x1, .f32⟩
  | .hbm, ⟨86, _⟩ => ⟨S128x4x1, .f32⟩
  | .hbm, ⟨87, _⟩ => ⟨S_, .f32⟩
  | .hbm, ⟨88, _⟩ => ⟨S128x4x1, .f32⟩
  | .hbm, ⟨89, _⟩ => ⟨S128x4x1, .f32⟩
  | .hbm, ⟨90, _⟩ => ⟨S128x4x1, .f32⟩
  | .hbm, ⟨91, _⟩ => ⟨S128x4x1024, .f32⟩
  | .hbm, ⟨92, _⟩ => ⟨S128x4x1024, .f32⟩
  | .hbm, ⟨93, _⟩ => ⟨S1x1x1024, .f32⟩
  | .hbm, ⟨94, _⟩ => ⟨S128x4x1024, .f32⟩
  | .hbm, ⟨95, _⟩ => ⟨S128x4x1024, .f32⟩
  | .hbm, ⟨96, _⟩ => ⟨S2x128x3072, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Kernel3.lean ====
abbrev S16x8x1024 : Shape := ⟨3, ![16, 8, 1024]⟩
abbrev S1x1024 : Shape := ⟨2, ![1, 1024]⟩
abbrev S1x1024x3072 : Shape := ⟨3, ![1, 1024, 3072]⟩
abbrev S1024 : Shape := ⟨1, ![1024]⟩
abbrev S1024x3072 : Shape := ⟨2, ![1024, 3072]⟩
abbrev S2x8x3072 : Shape := ⟨3, ![2, 8, 3072]⟩
abbrev S2x8x1024 : Shape := ⟨3, ![2, 8, 1024]⟩
abbrev S16x1024 : Shape := ⟨2, ![16, 1024]⟩
abbrev S16 : Shape := ⟨1, ![16]⟩
abbrev S16x1 : Shape := ⟨2, ![16, 1]⟩
abbrev S16x3072 : Shape := ⟨2, ![16, 3072]⟩

abbrev nBuf : Space → Nat
  | .hbm => 8
  | .vmem => 4
  | .smem => 0
  | _ => 0

abbrev bufTy : (tb : Table) → Fin (tcTables nBuf tb) → BufTy
  | .hbm, ⟨0, _⟩ => ⟨S16x8x1024, .f32⟩
  | .hbm, ⟨1, _⟩ => ⟨S1x1024, .f32⟩
  | .hbm, ⟨2, _⟩ => ⟨S1x1024x3072, .f32⟩
  | .hbm, ⟨3, _⟩ => ⟨S1024, .f32⟩
  | .hbm, ⟨4, _⟩ => ⟨S1x1024, .f32⟩
  | .hbm, ⟨5, _⟩ => ⟨S1024x3072, .f32⟩
  | .hbm, ⟨6, _⟩ => ⟨S1024x3072, .bf16⟩
  | .hbm, ⟨7, _⟩ => ⟨S2x8x3072, .f32⟩
  | .local _ .vmem, ⟨0, _⟩ => ⟨S2x8x1024, .f32⟩
  | .local _ .vmem, ⟨1, _⟩ => ⟨S1x1024, .f32⟩
  | .local _ .vmem, ⟨2, _⟩ => ⟨S1024x3072, .bf16⟩
  | .local _ .vmem, ⟨3, _⟩ => ⟨S2x8x3072, .f32⟩
  | _, _ => ⟨S16x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S16x8x1024 : Shape := ⟨3, ![16, 8, 1024]⟩
abbrev S1x1024 : Shape := ⟨2, ![1, 1024]⟩
abbrev S1x1024x3072 : Shape := ⟨3, ![1, 1024, 3072]⟩
abbrev S8x16x1024 : Shape := ⟨3, ![8, 16, 1024]⟩
abbrev S1024 : Shape := ⟨1, ![1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S1024x3072 : Shape := ⟨2, ![1024, 3072]⟩
abbrev S8x16x3072 : Shape := ⟨3, ![8, 16, 3072]⟩
abbrev S8x2x3072 : Shape := ⟨3, ![8, 2, 3072]⟩
abbrev S8x18x3072 : Shape := ⟨3, ![8, 18, 3072]⟩
abbrev S2x8x3072 : Shape := ⟨3, ![2, 8, 3072]⟩

abbrev nBuf : Space → Nat
  | .hbm => 28
  | .vmem => 0
  | .smem => 0
  | _ => 0

abbrev bufTy : (tb : Table) → Fin (tcTables nBuf tb) → BufTy
  | .hbm, ⟨0, _⟩ => ⟨S16x8x1024, .f32⟩
  | .hbm, ⟨1, _⟩ => ⟨S1x1024, .f32⟩
  | .hbm, ⟨2, _⟩ => ⟨S1x1024x3072, .f32⟩
  | .hbm, ⟨3, _⟩ => ⟨S8x16x1024, .f32⟩
  | .hbm, ⟨4, _⟩ => ⟨S1024, .f32⟩
  | .hbm, ⟨5, _⟩ => ⟨S8x16x1024, .f32⟩
  | .hbm, ⟨6, _⟩ => ⟨S_, .f32⟩
  | .hbm, ⟨7, _⟩ => ⟨S8x16, .f32⟩
  | .hbm, ⟨8, _⟩ => ⟨S8x16x1, .f32⟩
  | .hbm, ⟨9, _⟩ => ⟨S_, .f32⟩
  | .hbm, ⟨10, _⟩ => ⟨S8x16x1, .f32⟩
  | .hbm, ⟨11, _⟩ => ⟨S8x16x1, .f32⟩
  | .hbm, ⟨12, _⟩ => ⟨S_, .f32⟩
  | .hbm, ⟨13, _⟩ => ⟨S8x16x1, .f32⟩
  | .hbm, ⟨14, _⟩ => ⟨S8x16x1, .f32⟩
  | .hbm, ⟨15, _⟩ => ⟨S8x16x1, .f32⟩
  | .hbm, ⟨16, _⟩ => ⟨S8x16x1024, .f32⟩
  | .hbm, ⟨17, _⟩ => ⟨S8x16x1024, .f32⟩
  | .hbm, ⟨18, _⟩ => ⟨S1x1x1024, .f32⟩
  | .hbm, ⟨19, _⟩ => ⟨S8x16x1024, .f32⟩
  | .hbm, ⟨20, _⟩ => ⟨S8x16x1024, .f32⟩
  | .hbm, ⟨21, _⟩ => ⟨S1024x3072, .f32⟩
  | .hbm, ⟨22, _⟩ => ⟨S8x16x3072, .f32⟩
  | .hbm, ⟨23, _⟩ => ⟨S_, .f32⟩
  | .hbm, ⟨24, _⟩ => ⟨S8x2x3072, .f32⟩
  | .hbm, ⟨25, _⟩ => ⟨S8x18x3072, .f32⟩
  | .hbm, ⟨26, _⟩ => ⟨S8x2x3072, .f32⟩
  | .hbm, ⟨27, _⟩ => ⟨S2x8x3072, .f32⟩
  | _, _ => ⟨S16x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Kernel1Ideal.Operands.lean ====
/-
  The operands of the feed-forward call's body, the pieces its own copies move, and the deliveries of a batch of
  copies.

  The call runs over 32 points of 64 rows of each of eight sequences. At each point it fills one slot of a two-slot
  buffer with the finished rows, and starts eight copies, one per sequence, from the slot to the result in HBM. The
  copies of a point are awaited at the next one; those of the last point at its own end.
-/
module

public import proofs.«01_k».proof.Proof.Gen.Kernel1Ideal.Frame
public import proofs.«01_k».proof.Proof.Gen.Kernel1Ideal.Launch
public import proofs.«01_k».proof.Proof.Gen.Kernel1Ideal.Skeleton
public import proofs.«01_k».proof.Proof.Gen.Kernel1Ideal.Points
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Ring.WriteBehind
public import Idealize.ShloMosaic.Lib.Tactic
public import Idealize.ShloMosaic.Lib.WordCmp

@[expose] public section

noncomputable section

namespace Cert.Kernel1Ideal.Hand

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The last two pre-activations of the eight sequences, carried in scratch. -/
abbrev scU : Memref sig .tc .vmem S16x3072 .f32 := Memref.whole cc0_scratch0
/-- The two-slot buffer the copies read. -/
abbrev scY : Memref sig .tc .vmem S2x64x8x1024 .f32 := Memref.whole cc0_scratch1
/-- The result left in HBM. -/
abbrev hbY : Memref sig .tc .hbm S8x2048x1024 .f32 := Memref.whole main_v12_0

/-- Contents of a memref's buffer. -/
abbrev BufOf (c : Dev nD) {sp : Space} {S : Shape} {e : EltTy} (M : Memref sig .tc sp S e) : Type := Buf (Elt F) (M.view.loc (c : Thread nD τ))

/-- One sequence's rows in a slot of the two-slot buffer, at the offsets `o`. -/
abbrev tile (o : Fin 4 → ℕ) (h : ∀ a, o a + S1x64x1x1024.size a ≤ S2x64x8x1024.size a) : Memref sig .tc .vmem S64x1024 .f32 :=
  (scY.slice (Rect.unit (s := S2x64x8x1024) o S1x64x1x1024.size h) (fun _ => rfl)).squeeze S64x1024 squeezes_S1x64x1x1024_S64x1024
/-- Sixty-four rows of one sequence of the result, at the offsets `o`. -/
abbrev piece (o : Fin 3 → ℕ) (h : ∀ a, o a + S1x64x1024.size a ≤ S8x2048x1024.size a) : Memref sig .tc .hbm S64x1024 .f32 :=
  (hbY.slice (Rect.unit (s := S8x2048x1024) o S1x64x1024.size h) (fun _ => rfl)).squeeze S64x1024 squeezes_S1x64x1024_S64x1024
/-- The counter of a slot's copies, at the offset `o`. -/
abbrev counter (o : Fin 1 → ℕ) (h : ∀ a, o a + S1.size a ≤ S2.size a) : DmaSem sig :=
  ((cc0_scratch2.slice (Rect.unit (s := S2) o S1.size h)).squeeze S_ squeezes_S1_S_).sem

/-- The elements of the source of the copy of sequence `k` at a point. -/
def tileSet (i : grid0.Coords) : Fin 8 → Finset S2x64x8x1024.Idx
  | 0 => (tile (k0_off4 i) (k0_off4_inb i)).view.set
  | 1 => (tile (k0_off6 i) (k0_off6_inb i)).view.set
  | 2 => (tile (k0_off8 i) (k0_off8_inb i)).view.set
  | 3 => (tile (k0_off10 i) (k0_off10_inb i)).view.set
  | 4 => (tile (k0_off12 i) (k0_off12_inb i)).view.set
  | 5 => (tile (k0_off14 i) (k0_off14_inb i)).view.set
  | 6 => (tile (k0_off16 i) (k0_off16_inb i)).view.set
  | 7 => (tile (k0_off18 i) (k0_off18_inb i)).view.set
/-- The elements of the target of the copy of sequence `k` at a point. -/
def pieceSet (i : grid0.Coords) : Fin 8 → Finset S8x2048x1024.Idx
  | 0 => (piece (k0_off3 i) (k0_off3_inb i)).view.set
  | 1 => (piece (k0_off5 i) (k0_off5_inb i)).view.set
  | 2 => (piece (k0_off7 i) (k0_off7_inb i)).view.set
  | 3 => (piece (k0_off9 i) (k0_off9_inb i)).view.set
  | 4 => (piece (k0_off11 i) (k0_off11_inb i)).view.set
  | 5 => (piece (k0_off13 i) (k0_off13_inb i)).view.set
  | 6 => (piece (k0_off15 i) (k0_off15_inb i)).view.set
  | 7 => (piece (k0_off17 i) (k0_off17_inb i)).view.set
/-- The slot a point fills, and its elements. -/
abbrev slotAt (i : grid0.Coords) : Memref sig .tc .vmem S1x64x8x1024 .f32 :=
  scY.slice (Rect.unit (s := S2x64x8x1024) (k0_off1 i) S1x64x8x1024.size (k0_off1_inb i)) (fun _ => rfl)
abbrev slotSet (i : grid0.Coords) : Finset S2x64x8x1024.Idx := (slotAt i).view.set

/-- The first two points of the grid, and the last. -/
abbrev pt0 : Fin cfg0.N := ⟨0, by decide⟩
abbrev pt1 : Fin cfg0.N := ⟨1, by decide⟩
abbrev pt31 : Fin cfg0.N := ⟨31, by decide⟩

theorem offs (t : Fin cfg0.N) : k0_off1 (grid0.coords t) = ![t.val % 2, 0, 0, 0]
    ∧ k0_off3 (grid0.coords t) = ![0, 64 * t.val, 0] ∧ k0_off4 (grid0.coords t) = ![t.val % 2, 0, 0, 0]
    ∧ k0_off5 (grid0.coords t) = ![1, 64 * t.val, 0] ∧ k0_off6 (grid0.coords t) = ![t.val % 2, 0, 1, 0]
    ∧ k0_off7 (grid0.coords t) = ![2, 64 * t.val, 0] ∧ k0_off8 (grid0.coords t) = ![t.val % 2, 0, 2, 0]
    ∧ k0_off9 (grid0.coords t) = ![3, 64 * t.val, 0] ∧ k0_off10 (grid0.coords t) = ![t.val % 2, 0, 3, 0]
    ∧ k0_off11 (grid0.coords t) = ![4, 64 * t.val, 0] ∧ k0_off12 (grid0.coords t) = ![t.val % 2, 0, 4, 0]
    ∧ k0_off13 (grid0.coords t) = ![5, 64 * t.val, 0] ∧ k0_off14 (grid0.coords t) = ![t.val % 2, 0, 5, 0]
    ∧ k0_off15 (grid0.coords t) = ![6, 64 * t.val, 0] ∧ k0_off16 (grid0.coords t) = ![t.val % 2, 0, 6, 0]
    ∧ k0_off17 (grid0.coords t) = ![7, 64 * t.val, 0] ∧ k0_off18 (grid0.coords t) = ![t.val % 2, 0, 7, 0] := by
  revert t; decide +kernel

theorem mem_tile (o : Fin 4 → ℕ) (h) (x : S2x64x8x1024.Idx) (t k : ℕ) (e : o = ![t, 0, k, 0]) :
    x ∈ (tile o h).view.set ↔ (x 0).val = t ∧ (x 2).val = k := by
  rw [show (tile o h).view.set = (Rect.unit (s := S2x64x8x1024) o S1x64x1x1024.size h).set from
    (View.set_reshape _ _).trans (View.set_slice_whole _ _), Rect.mem_set_unit]
  subst e
  constructor
  · intro hx
    have h0 := hx 0; have h1 := hx 2
    simp [Shape.size] at h0 h1
    omega
  · rintro ⟨h0, h1⟩ a
    have hx2 : (x 1).val < 64 := (x 1).isLt
    have hx3 : (x 3).val < 1024 := (x 3).isLt
    fin_cases a <;> simp [Shape.size] <;> omega

theorem mem_tileSet (t : Fin cfg0.N) (k : Fin 8) (x : S2x64x8x1024.Idx) :
    x ∈ tileSet (grid0.coords t) k ↔ (x 0).val = t.val % 2 ∧ (x 2).val = k.val := by
  obtain ⟨e1, e3, e4, e5, e6, e7, e8, e9, e10, e11, e12, e13, e14, e15, e16, e17, e18⟩ := offs t
  match k with
  | 0 => exact mem_tile _ _ x _ _ e4
  | 1 => exact mem_tile _ _ x _ _ e6
  | 2 => exact mem_tile _ _ x _ _ e8
  | 3 => exact mem_tile _ _ x _ _ e10
  | 4 => exact mem_tile _ _ x _ _ e12
  | 5 => exact mem_tile _ _ x _ _ e14
  | 6 => exact mem_tile _ _ x _ _ e16
  | 7 => exact mem_tile _ _ x _ _ e18

theorem mem_slotSet (t : Fin cfg0.N) (x : S2x64x8x1024.Idx) : x ∈ slotSet (grid0.coords t) ↔ (x 0).val = t.val % 2 := by
  rw [show slotSet (grid0.coords t) = (Rect.unit (s := S2x64x8x1024) (k0_off1 (grid0.coords t)) S1x64x8x1024.size (k0_off1_inb _)).set from
    View.set_slice_whole _ _, Rect.mem_set_unit, (offs t).1]
  constructor
  · intro hx
    have h0 := hx 0
    simp [Shape.size] at h0
    omega
  · rintro h0 a
    have hx1 : (x 1).val < 64 := (x 1).isLt
    have hx2 : (x 2).val < 8 := (x 2).isLt
    have hx3 : (x 3).val < 1024 := (x 3).isLt
    fin_cases a <;> simp [Shape.size] <;> omega

/-- Two points of the same parity fill the same slot. -/
theorem slotSet_parity (t t' : Fin cfg0.N) (h : t.val % 2 = t'.val % 2) : slotSet (grid0.coords t) = slotSet (grid0.coords t') := by
  ext x; rw [mem_slotSet, mem_slotSet, h]

theorem mem_piece (o : Fin 3 → ℕ) (h) (x : S8x2048x1024.Idx) (t k : ℕ) (e : o = ![k, 64 * t, 0]) :
    x ∈ (piece o h).view.set ↔ (x 1).val / 64 = t ∧ (x 0).val = k := by
  rw [show (piece o h).view.set = (Rect.unit (s := S8x2048x1024) o S1x64x1024.size h).set from
    (View.set_reshape _ _).trans (View.set_slice_whole _ _), Rect.mem_set_unit]
  subst e
  constructor
  · intro hx
    have h0 := hx 0; have h1 := hx 1
    simp [Shape.size] at h0 h1
    omega
  · rintro ⟨h0, h1⟩ a
    have hx2 : (x 2).val < 1024 := (x 2).isLt
    fin_cases a <;> simp [Shape.size] <;> omega

theorem mem_pieceSet (t : Fin cfg0.N) (k : Fin 8) (x : S8x2048x1024.Idx) :
    x ∈ pieceSet (grid0.coords t) k ↔ (x 1).val / 64 = t.val ∧ (x 0).val = k.val := by
  obtain ⟨e1, e3, e4, e5, e6, e7, e8, e9, e10, e11, e12, e13, e14, e15, e16, e17, e18⟩ := offs t
  match k with
  | 0 => exact mem_piece _ _ x _ _ e3
  | 1 => exact mem_piece _ _ x _ _ e5
  | 2 => exact mem_piece _ _ x _ _ e7
  | 3 => exact mem_piece _ _ x _ _ e9
  | 4 => exact mem_piece _ _ x _ _ e11
  | 5 => exact mem_piece _ _ x _ _ e13
  | 6 => exact mem_piece _ _ x _ _ e15
  | 7 => exact mem_piece _ _ x _ _ e17

/-- The eight tiles of point `t`'s slot, each at the contents `f`. -/
def tiles (c : Dev nD) (t : Fin cfg0.N) (f : BufOf (F := F) c scY) : sProp 𝕄 :=
  iprop(((tile (k0_off4 (grid0.coords t)) (k0_off4_inb _)).view.loc (c : Thread nD τ) ↦[(tile (k0_off4 (grid0.coords t)) (k0_off4_inb _)).view.set]{fullShare} f)
    ∗ ((tile (k0_off6 (grid0.coords t)) (k0_off6_inb _)).view.loc (c : Thread nD τ) ↦[(tile (k0_off6 (grid0.coords t)) (k0_off6_inb _)).view.set]{fullShare} f)
    ∗ ((tile (k0_off8 (grid0.coords t)) (k0_off8_inb _)).view.loc (c : Thread nD τ) ↦[(tile (k0_off8 (grid0.coords t)) (k0_off8_inb _)).view.set]{fullShare} f)
    ∗ ((tile (k0_off10 (grid0.coords t)) (k0_off10_inb _)).view.loc (c : Thread nD τ) ↦[(tile (k0_off10 (grid0.coords t)) (k0_off10_inb _)).view.set]{fullShare} f)
    ∗ ((tile (k0_off12 (grid0.coords t)) (k0_off12_inb _)).view.loc (c : Thread nD τ) ↦[(tile (k0_off12 (grid0.coords t)) (k0_off12_inb _)).view.set]{fullShare} f)
    ∗ ((tile (k0_off14 (grid0.coords t)) (k0_off14_inb _)).view.loc (c : Thread nD τ) ↦[(tile (k0_off14 (grid0.coords t)) (k0_off14_inb _)).view.set]{fullShare} f)
    ∗ ((tile (k0_off16 (grid0.coords t)) (k0_off16_inb _)).view.loc (c : Thread nD τ) ↦[(tile (k0_off16 (grid0.coords t)) (k0_off16_inb _)).view.set]{fullShare} f)
    ∗ ((tile (k0_off18 (grid0.coords t)) (k0_off18_inb _)).view.loc (c : Thread nD τ) ↦[(tile (k0_off18 (grid0.coords t)) (k0_off18_inb _)).view.set]{fullShare} f))
/-- The eight pieces of the result that point `t` writes, each at the contents `f`. -/
def pieces (c : Dev nD) (t : Fin cfg0.N) (f : BufOf (F := F) c hbY) : sProp 𝕄 :=
  iprop(((piece (k0_off3 (grid0.coords t)) (k0_off3_inb _)).view.loc (c : Thread nD τ) ↦[(piece (k0_off3 (grid0.coords t)) (k0_off3_inb _)).view.set]{fullShare} f)
    ∗ ((piece (k0_off5 (grid0.coords t)) (k0_off5_inb _)).view.loc (c : Thread nD τ) ↦[(piece (k0_off5 (grid0.coords t)) (k0_off5_inb _)).view.set]{fullShare} f)
    ∗ ((piece (k0_off7 (grid0.coords t)) (k0_off7_inb _)).view.loc (c : Thread nD τ) ↦[(piece (k0_off7 (grid0.coords t)) (k0_off7_inb _)).view.set]{fullShare} f)
    ∗ ((piece (k0_off9 (grid0.coords t)) (k0_off9_inb _)).view.loc (c : Thread nD τ) ↦[(piece (k0_off9 (grid0.coords t)) (k0_off9_inb _)).view.set]{fullShare} f)
    ∗ ((piece (k0_off11 (grid0.coords t)) (k0_off11_inb _)).view.loc (c : Thread nD τ) ↦[(piece (k0_off11 (grid0.coords t)) (k0_off11_inb _)).view.set]{fullShare} f)
    ∗ ((piece (k0_off13 (grid0.coords t)) (k0_off13_inb _)).view.loc (c : Thread nD τ) ↦[(piece (k0_off13 (grid0.coords t)) (k0_off13_inb _)).view.set]{fullShare} f)
    ∗ ((piece (k0_off15 (grid0.coords t)) (k0_off15_inb _)).view.loc (c : Thread nD τ) ↦[(piece (k0_off15 (grid0.coords t)) (k0_off15_inb _)).view.set]{fullShare} f)
    ∗ ((piece (k0_off17 (grid0.coords t)) (k0_off17_inb _)).view.loc (c : Thread nD τ) ↦[(piece (k0_off17 (grid0.coords t)) (k0_off17_inb _)).view.set]{fullShare} f))

/-- A slot held is its eight tiles held, -/
theorem slot_tiles (c : Dev nD) (t : Fin cfg0.N) (f : BufOf (F := F) c scY) :
    (scY.view.loc (c : Thread nD τ) ↦[slotSet (grid0.coords t)]{fullShare} f : sProp 𝕄) = tiles c t f := by
  have hc : Finset.univ.biUnion (fun k => tileSet (grid0.coords t) k) = slotSet (grid0.coords t) := by
    ext x
    simp only [Finset.mem_biUnion, Finset.mem_univ, _root_.true_and]
    constructor
    · rintro ⟨k, hk⟩; exact (mem_slotSet t x).mpr ((mem_tileSet t k x).mp hk).1
    · intro h; exact ⟨⟨(x 2).val, (x 2).isLt⟩, (mem_tileSet t _ x).mpr ⟨(mem_slotSet t x).mp h, rfl⟩⟩
  have hd : ∀ k ∈ (Finset.univ : Finset (Fin 8)), ∀ k' ∈ (Finset.univ : Finset (Fin 8)), k ≠ k' →
      Disjoint (tileSet (grid0.coords t) k) (tileSet (grid0.coords t) k') := by
    intro k _ k' _ hk
    rw [Finset.disjoint_left]
    intro x h1 h2
    exact hk (Fin.ext (((mem_tileSet t k x).mp h1).2.symm.trans ((mem_tileSet t k' x).mp h2).2))
  rw [← hc, pointsTo_biUnion _ _ hd, BI.bigSep_eq_bigSepL_of_eq [0, 1, 2, 3, 4, 5, 6, 7] (by decide) (by decide)]; rfl

/-- and the two-slot buffer held whole is its two slots held. -/
theorem scY_slots (c : Dev nD) (f : BufOf (F := F) c scY) :
    (scY.view.loc (c : Thread nD τ) ↦{fullShare} f : sProp 𝕄)
      = iprop((scY.view.loc (c : Thread nD τ) ↦[slotSet (grid0.coords pt0)]{fullShare} f)
        ∗ (scY.view.loc (c : Thread nD τ) ↦[slotSet (grid0.coords pt1)]{fullShare} f)) := by
  have hc : ({pt0, pt1} : Finset (Fin cfg0.N)).biUnion (fun t => slotSet (grid0.coords t)) = (Finset.univ : Finset S2x64x8x1024.Idx) := by
    ext x
    simp only [Finset.mem_biUnion, Finset.mem_univ, iff_true]
    have h2 : (x 0).val < 2 := (x 0).isLt
    rcases Nat.lt_or_ge (x 0).val 1 with h | h
    · exact ⟨pt0, by simp, (mem_slotSet _ x).mpr (show (x 0).val = 0 % 2 by omega)⟩
    · exact ⟨pt1, by simp, (mem_slotSet _ x).mpr (show (x 0).val = 1 % 2 by omega)⟩
  have hd : ∀ k ∈ ({pt0, pt1} : Finset (Fin cfg0.N)), ∀ k' ∈ ({pt0, pt1} : Finset (Fin cfg0.N)), k ≠ k' →
      Disjoint (slotSet (grid0.coords k)) (slotSet (grid0.coords k')) := by
    intro k h1 k' h2 hk
    rw [Finset.disjoint_left]
    intro x a b
    have e := ((mem_slotSet k x).mp a).symm.trans ((mem_slotSet k' x).mp b)
    simp only [Finset.mem_insert, Finset.mem_singleton] at h1 h2
    rcases h1 with rfl | rfl <;> rcases h2 with rfl | rfl
    · exact hk rfl
    · exact absurd e (by decide)
    · exact absurd e (by decide)
    · exact hk rfl
  rw [show (Finset.univ : Finset (Idx (scY.view.loc (c : Thread nD τ)))) = ({pt0, pt1} : Finset (Fin cfg0.N)).biUnion (fun t => slotSet (grid0.coords t)) from hc.symm,
    pointsTo_biUnion _ _ hd, BI.bigSep_eq_bigSepL_of_eq [pt0, pt1] (by decide) (by decide)]; rfl

/-! ## The result, by points -/

/-- The rows of the points before `n`. -/
def upTo (n : ℕ) : Finset S8x2048x1024.Idx := Finset.univ.filter fun x => (x 1).val < 64 * n
/-- The rows of the points from `n` on. -/
def onFrom (n : ℕ) : Finset S8x2048x1024.Idx := Finset.univ.filter fun x => 64 * n ≤ (x 1).val
/-- The rows of point `t`. -/
def rowsOf (t : Fin cfg0.N) : Finset S8x2048x1024.Idx := Finset.univ.biUnion fun k => pieceSet (grid0.coords t) k

theorem mem_upTo (n : ℕ) (x : S8x2048x1024.Idx) : x ∈ upTo n ↔ (x 1).val < 64 * n := by simp [upTo]
theorem mem_onFrom (n : ℕ) (x : S8x2048x1024.Idx) : x ∈ onFrom n ↔ 64 * n ≤ (x 1).val := by simp [onFrom]
theorem mem_rowsOf (t : Fin cfg0.N) (x : S8x2048x1024.Idx) : x ∈ rowsOf t ↔ (x 1).val / 64 = t.val := by
  simp only [rowsOf, Finset.mem_biUnion, Finset.mem_univ, _root_.true_and]
  exact ⟨fun ⟨k, hk⟩ => ((mem_pieceSet t k x).mp hk).1, fun h => ⟨⟨(x 0).val, (x 0).isLt⟩, (mem_pieceSet t _ x).mpr ⟨h, rfl⟩⟩⟩

theorem rowsOf_pieces (c : Dev nD) (t : Fin cfg0.N) (f : BufOf (F := F) c hbY) :
    (hbY.view.loc (c : Thread nD τ) ↦[rowsOf t]{fullShare} f : sProp 𝕄) = pieces c t f := by
  have hd : ∀ k ∈ (Finset.univ : Finset (Fin 8)), ∀ k' ∈ (Finset.univ : Finset (Fin 8)), k ≠ k' →
      Disjoint (pieceSet (grid0.coords t) k) (pieceSet (grid0.coords t) k') := by
    intro k _ k' _ hk
    rw [Finset.disjoint_left]
    intro x h1 h2
    exact hk (Fin.ext (((mem_pieceSet t k x).mp h1).2.symm.trans ((mem_pieceSet t k' x).mp h2).2))
  unfold rowsOf
  rw [pointsTo_biUnion _ _ hd, BI.bigSep_eq_bigSepL_of_eq [0, 1, 2, 3, 4, 5, 6, 7] (by decide) (by decide)]; rfl

/-- Two disjoint regions that make up a third. -/
theorem two_regions (c : Dev nD) (f : BufOf (F := F) c hbY) (A B C : Finset S8x2048x1024.Idx) (hC : ∀ x, x ∈ C ↔ x ∈ A ∨ x ∈ B)
    (hd : ∀ x, x ∈ A → x ∉ B) :
    (hbY.view.loc (c : Thread nD τ) ↦[C]{fullShare} f : sProp 𝕄)
      = iprop((hbY.view.loc (c : Thread nD τ) ↦[A]{fullShare} f) ∗ (hbY.view.loc (c : Thread nD τ) ↦[B]{fullShare} f)) := by
  have hc : (Finset.univ : Finset (Fin 2)).biUnion (fun k => if k = 0 then A else B) = C := by
    ext x
    simp only [Finset.mem_biUnion, Finset.mem_univ, _root_.true_and, Fin.exists_fin_two, hC]
    simp
  have hd' : ∀ k ∈ (Finset.univ : Finset (Fin 2)), ∀ k' ∈ (Finset.univ : Finset (Fin 2)), k ≠ k' →
      Disjoint (if k = 0 then A else B) (if k' = 0 then A else B) := by
    intro k _ k' _ hk
    rw [Finset.disjoint_left]
    intro x h1 h2
    match k, k' with
    | 0, 0 => exact hk rfl
    | 0, 1 => exact hd x h1 h2
    | 1, 0 => exact hd x h2 h1
    | 1, 1 => exact hk rfl
  rw [← hc, pointsTo_biUnion _ _ hd', BI.bigSep_eq_bigSepL_of_eq [0, 1] (by decide) (by decide)]; rfl

/-- The result held whole is every point's rows. -/
theorem whole_onFrom (c : Dev nD) (f : BufOf (F := F) c hbY) :
    (hbY.view.loc (c : Thread nD τ) ↦{fullShare} f : sProp 𝕄)
      = iprop((hbY.view.loc (c : Thread nD τ) ↦[upTo 0]{fullShare} f) ∗ (hbY.view.loc (c : Thread nD τ) ↦[onFrom 0]{fullShare} f)) :=
  two_regions c f (upTo 0) (onFrom 0) Finset.univ
    (fun x => ⟨fun _ => Or.inr ((mem_onFrom 0 x).mpr (by omega)), fun _ => Finset.mem_univ x⟩)
    (fun x h => absurd ((mem_upTo 0 x).mp h) (by omega))

/-- The rows from point `t` on are its own and the later ones. -/
theorem onFrom_split (c : Dev nD) (t : Fin cfg0.N) (f : BufOf (F := F) c hbY) :
    (hbY.view.loc (c : Thread nD τ) ↦[onFrom t.val]{fullShare} f : sProp 𝕄)
      = iprop(pieces c t f ∗ (hbY.view.loc (c : Thread nD τ) ↦[onFrom (t.val + 1)]{fullShare} f)) := by
  rw [← rowsOf_pieces]
  refine two_regions c f _ _ _ (fun x => ?_) (fun x => ?_)
  · rw [mem_onFrom, mem_onFrom, mem_rowsOf]; omega
  · rw [mem_onFrom, mem_rowsOf]; omega

/-- The rows up to point `t` and its own are those up to the next point. -/
theorem upTo_join (c : Dev nD) (t : Fin cfg0.N) (f : BufOf (F := F) c hbY) :
    (hbY.view.loc (c : Thread nD τ) ↦[upTo (t.val + 1)]{fullShare} f : sProp 𝕄)
      = iprop((hbY.view.loc (c : Thread nD τ) ↦[upTo t.val]{fullShare} f) ∗ pieces c t f) := by
  rw [← rowsOf_pieces]
  refine two_regions c f _ _ _ (fun x => ?_) (fun x => ?_)
  · rw [mem_upTo, mem_upTo, mem_rowsOf]; omega
  · rw [mem_upTo, mem_rowsOf]; omega

/-- The rows up to the end are the result held whole. -/
theorem upTo_whole (c : Dev nD) (f : BufOf (F := F) c hbY) :
    (hbY.view.loc (c : Thread nD τ) ↦[upTo 32]{fullShare} f : sProp 𝕄) = (hbY.view.loc (c : Thread nD τ) ↦{fullShare} f) := by
  have h : upTo 32 = (Finset.univ : Finset S8x2048x1024.Idx) := by
    ext x
    have hx : (x 1).val < 2048 := (x 1).isLt
    rw [mem_upTo]; exact ⟨fun _ => Finset.mem_univ x, fun _ => by omega⟩
  rw [h]

/-- No rows, at whatever contents. -/
theorem upTo_none (c : Dev nD) (f g : BufOf (F := F) c hbY) :
    (hbY.view.loc (c : Thread nD τ) ↦[upTo 0]{fullShare} f : sProp 𝕄) = (hbY.view.loc (c : Thread nD τ) ↦[upTo 0]{fullShare} g) :=
  pointsTo_congr fun x hx => absurd ((mem_upTo 0 x).mp hx) (by omega)

/-- What the copy of sequence `k` at a point delivers: its piece of the result at the landed contents, its source back. -/
def deliv (c : Dev nD) (i : grid0.Coords) (gS : BufOf (F := F) c scY) (gV : BufOf (F := F) c hbY) : Fin 8 → sProp 𝕄
  | 0 => iprop(((piece (k0_off3 i) (k0_off3_inb i)).view.loc (c : Thread nD τ) ↦[(piece (k0_off3 i) (k0_off3_inb i)).view.set]{fullShare} (piece (k0_off3 i) (k0_off3_inb i)).view.writes (Elt F) gV [⟨Rect.whole S64x1024, ReadAs.same.apply ((tile (k0_off4 i) (k0_off4_inb i)).view.read (Elt F) gS)⟩])
      ∗ ((tile (k0_off4 i) (k0_off4_inb i)).view.loc (c : Thread nD τ) ↦[(tile (k0_off4 i) (k0_off4_inb i)).view.set]{fullShare} gS))
  | 1 => iprop(((piece (k0_off5 i) (k0_off5_inb i)).view.loc (c : Thread nD τ) ↦[(piece (k0_off5 i) (k0_off5_inb i)).view.set]{fullShare} (piece (k0_off5 i) (k0_off5_inb i)).view.writes (Elt F) gV [⟨Rect.whole S64x1024, ReadAs.same.apply ((tile (k0_off6 i) (k0_off6_inb i)).view.read (Elt F) gS)⟩])
      ∗ ((tile (k0_off6 i) (k0_off6_inb i)).view.loc (c : Thread nD τ) ↦[(tile (k0_off6 i) (k0_off6_inb i)).view.set]{fullShare} gS))
  | 2 => iprop(((piece (k0_off7 i) (k0_off7_inb i)).view.loc (c : Thread nD τ) ↦[(piece (k0_off7 i) (k0_off7_inb i)).view.set]{fullShare} (piece (k0_off7 i) (k0_off7_inb i)).view.writes (Elt F) gV [⟨Rect.whole S64x1024, ReadAs.same.apply ((tile (k0_off8 i) (k0_off8_inb i)).view.read (Elt F) gS)⟩])
      ∗ ((tile (k0_off8 i) (k0_off8_inb i)).view.loc (c : Thread nD τ) ↦[(tile (k0_off8 i) (k0_off8_inb i)).view.set]{fullShare} gS))
  | 3 => iprop(((piece (k0_off9 i) (k0_off9_inb i)).view.loc (c : Thread nD τ) ↦[(piece (k0_off9 i) (k0_off9_inb i)).view.set]{fullShare} (piece (k0_off9 i) (k0_off9_inb i)).view.writes (Elt F) gV [⟨Rect.whole S64x1024, ReadAs.same.apply ((tile (k0_off10 i) (k0_off10_inb i)).view.read (Elt F) gS)⟩])
      ∗ ((tile (k0_off10 i) (k0_off10_inb i)).view.loc (c : Thread nD τ) ↦[(tile (k0_off10 i) (k0_off10_inb i)).view.set]{fullShare} gS))
  | 4 => iprop(((piece (k0_off11 i) (k0_off11_inb i)).view.loc (c : Thread nD τ) ↦[(piece (k0_off11 i) (k0_off11_inb i)).view.set]{fullShare} (piece (k0_off11 i) (k0_off11_inb i)).view.writes (Elt F) gV [⟨Rect.whole S64x1024, ReadAs.same.apply ((tile (k0_off12 i) (k0_off12_inb i)).view.read (Elt F) gS)⟩])
      ∗ ((tile (k0_off12 i) (k0_off12_inb i)).view.loc (c : Thread nD τ) ↦[(tile (k0_off12 i) (k0_off12_inb i)).view.set]{fullShare} gS))
  | 5 => iprop(((piece (k0_off13 i) (k0_off13_inb i)).view.loc (c : Thread nD τ) ↦[(piece (k0_off13 i) (k0_off13_inb i)).view.set]{fullShare} (piece (k0_off13 i) (k0_off13_inb i)).view.writes (Elt F) gV [⟨Rect.whole S64x1024, ReadAs.same.apply ((tile (k0_off14 i) (k0_off14_inb i)).view.read (Elt F) gS)⟩])
      ∗ ((tile (k0_off14 i) (k0_off14_inb i)).view.loc (c : Thread nD τ) ↦[(tile (k0_off14 i) (k0_off14_inb i)).view.set]{fullShare} gS))
  | 6 => iprop(((piece (k0_off15 i) (k0_off15_inb i)).view.loc (c : Thread nD τ) ↦[(piece (k0_off15 i) (k0_off15_inb i)).view.set]{fullShare} (piece (k0_off15 i) (k0_off15_inb i)).view.writes (Elt F) gV [⟨Rect.whole S64x1024, ReadAs.same.apply ((tile (k0_off16 i) (k0_off16_inb i)).view.read (Elt F) gS)⟩])
      ∗ ((tile (k0_off16 i) (k0_off16_inb i)).view.loc (c : Thread nD τ) ↦[(tile (k0_off16 i) (k0_off16_inb i)).view.set]{fullShare} gS))
  | 7 => iprop(((piece (k0_off17 i) (k0_off17_inb i)).view.loc (c : Thread nD τ) ↦[(piece (k0_off17 i) (k0_off17_inb i)).view.set]{fullShare} (piece (k0_off17 i) (k0_off17_inb i)).view.writes (Elt F) gV [⟨Rect.whole S64x1024, ReadAs.same.apply ((tile (k0_off18 i) (k0_off18_inb i)).view.read (Elt F) gS)⟩])
      ∗ ((tile (k0_off18 i) (k0_off18_inb i)).view.loc (c : Thread nD τ) ↦[(tile (k0_off18 i) (k0_off18_inb i)).view.set]{fullShare} gS))

instance deliv_storable (c : Dev nD) (i : grid0.Coords) (gS : BufOf (F := F) c scY) (gV : BufOf (F := F) c hbY) (k : Fin 8) :
    Storable (upEmb : UEmb _ 𝕄) (deliv c i gS gV k) := by
  match k with
  | 0 => simp only [deliv]; infer_instance
  | 1 => simp only [deliv]; infer_instance
  | 2 => simp only [deliv]; infer_instance
  | 3 => simp only [deliv]; infer_instance
  | 4 => simp only [deliv]; infer_instance
  | 5 => simp only [deliv]; infer_instance
  | 6 => simp only [deliv]; infer_instance
  | 7 => simp only [deliv]; infer_instance

/-- Naming the contents of a region held. -/
theorem name_contents {ℓ : Loc nD τ sig} {I : Finset (Idx ℓ)} {f : Buf (Elt F) ℓ} :
    (ℓ ↦[I]{fullShare} f : sProp 𝕄) ⊢ iprop(∃ g, ⌜g = f⌝ ∗ ℓ ↦[I]{fullShare} g) := by
  iintro H; iexists f; isplitr; · ipureintro; rfl
  iexact H

end Cert.Kernel1Ideal.Hand

end
-- ==== Proof.Kernel1Ideal.Pieces.lean ====
/-
  What one point of the feed-forward call leaves, as functions of its operands' blocks: the three column tiles of the
  new convolution state, and the slab of finished rows.
-/
module

public import proofs.«01_k».proof.Proof.Kernel1Ideal.Operands
public import Idealize.ShloMosaic.Lib.VecWindow
public import Idealize.ShloMosaic.Lib.WholeRead
public import Idealize.ShloMosaic.Lib.WritesUnit

@[expose] public section

noncomputable section

namespace Cert.Kernel1Ideal.Hand

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The part of an array a load through a rectangle reads. -/
def cut {s : Shape} {e : EltTy} (X : Vec F s e) (B : LoadRect s) : B.shape.Idx → Elt F e := fun i => X (B.idx i)

/-- A load from a whole operand that reads `X` is the part of `X` under the rectangle. -/
theorem load_eq_cut {sp : Space} {s : Shape} {e : EltTy} {m : Memref sig .tc sp s e} (h : m.IsWhole) (X : Vec F s e)
    (B : LoadRect s) : View.readAt (Elt F) m.view B (h.unread X) = cut X B :=
  funext fun x => h.readAt_unread X B x

/-- Column tile 0 of a state scratch. -/
abbrev colU0 : Rect S16x3072 := (Rect.unit (s := S16x3072) ![0, 0] ![16, 1024] inb_S16x3072_S16x1024_0_0)
/-- Column tile 0 of a projection's weights. -/
abbrev colW0 : Rect S1024x3072 := (Rect.unit (s := S1024x3072) ![0, 0] ![1024, 1024] inb_S1024x3072_S1024x1024_0_0)
/-- Column tile 0 of the bias. -/
abbrev colB0 : Rect S1x3072 := (Rect.unit (s := S1x3072) ![0, 0] ![1, 1024] inb_S1x3072_S1x1024_0_0)
/-- Row tile 0 of the down projection's weights. -/
abbrev rowD0 : Rect S3072x1024 := (Rect.unit (s := S3072x1024) ![0, 0] ![1024, 1024] inb_S3072x1024_S1024x1024_0_0)
/-- Column tile 0 of the new convolution state. -/
abbrev colS0 : Rect S2x8x3072 := (Rect.unit (s := S2x8x3072) ![0, 0, 0] ![2, 8, 1024] inb_S2x8x3072_S2x8x1024_0_0_0)
/-- Tap 0 of the convolution, column tile 0. -/
abbrev tap00 : Rect S3x3072 := (Rect.unit (s := S3x3072) ![0, 0] ![1, 1024] inb_S3x3072_S1x1024_0_0)
/-- Tap 1 of the convolution, column tile 0. -/
abbrev tap10 : Rect S3x3072 := (Rect.unit (s := S3x3072) ![1, 0] ![1, 1024] inb_S3x3072_S1x1024_1_0)
/-- Tap 2 of the convolution, column tile 0. -/
abbrev tap20 : Rect S3x3072 := (Rect.unit (s := S3x3072) ![2, 0] ![1, 1024] inb_S3x3072_S1x1024_2_0)
/-- Column tile 1 of a state scratch. -/
abbrev colU1 : Rect S16x3072 := (Rect.unit (s := S16x3072) ![0, 1024] ![16, 1024] inb_S16x3072_S16x1024_0_1024)
/-- Column tile 1 of a projection's weights. -/
abbrev colW1 : Rect S1024x3072 := (Rect.unit (s := S1024x3072) ![0, 1024] ![1024, 1024] inb_S1024x3072_S1024x1024_0_1024)
/-- Column tile 1 of the bias. -/
abbrev colB1 : Rect S1x3072 := (Rect.unit (s := S1x3072) ![0, 1024] ![1, 1024] inb_S1x3072_S1x1024_0_1024)
/-- Row tile 1 of the down projection's weights. -/
abbrev rowD1 : Rect S3072x1024 := (Rect.unit (s := S3072x1024) ![1024, 0] ![1024, 1024] inb_S3072x1024_S1024x1024_1024_0)
/-- Column tile 1 of the new convolution state. -/
abbrev colS1 : Rect S2x8x3072 := (Rect.unit (s := S2x8x3072) ![0, 0, 1024] ![2, 8, 1024] inb_S2x8x3072_S2x8x1024_0_0_1024)
/-- Tap 0 of the convolution, column tile 1. -/
abbrev tap01 : Rect S3x3072 := (Rect.unit (s := S3x3072) ![0, 1024] ![1, 1024] inb_S3x3072_S1x1024_0_1024)
/-- Tap 1 of the convolution, column tile 1. -/
abbrev tap11 : Rect S3x3072 := (Rect.unit (s := S3x3072) ![1, 1024] ![1, 1024] inb_S3x3072_S1x1024_1_1024)
/-- Tap 2 of the convolution, column tile 1. -/
abbrev tap21 : Rect S3x3072 := (Rect.unit (s := S3x3072) ![2, 1024] ![1, 1024] inb_S3x3072_S1x1024_2_1024)
/-- Column tile 2 of a state scratch. -/
abbrev colU2 : Rect S16x3072 := (Rect.unit (s := S16x3072) ![0, 2048] ![16, 1024] inb_S16x3072_S16x1024_0_2048)
/-- Column tile 2 of a projection's weights. -/
abbrev colW2 : Rect S1024x3072 := (Rect.unit (s := S1024x3072) ![0, 2048] ![1024, 1024] inb_S1024x3072_S1024x1024_0_2048)
/-- Column tile 2 of the bias. -/
abbrev colB2 : Rect S1x3072 := (Rect.unit (s := S1x3072) ![0, 2048] ![1, 1024] inb_S1x3072_S1x1024_0_2048)
/-- Row tile 2 of the down projection's weights. -/
abbrev rowD2 : Rect S3072x1024 := (Rect.unit (s := S3072x1024) ![2048, 0] ![1024, 1024] inb_S3072x1024_S1024x1024_2048_0)
/-- Column tile 2 of the new convolution state. -/
abbrev colS2 : Rect S2x8x3072 := (Rect.unit (s := S2x8x3072) ![0, 0, 2048] ![2, 8, 1024] inb_S2x8x3072_S2x8x1024_0_0_2048)
/-- Tap 0 of the convolution, column tile 2. -/
abbrev tap02 : Rect S3x3072 := (Rect.unit (s := S3x3072) ![0, 2048] ![1, 1024] inb_S3x3072_S1x1024_0_2048)
/-- Tap 1 of the convolution, column tile 2. -/
abbrev tap12 : Rect S3x3072 := (Rect.unit (s := S3x3072) ![1, 2048] ![1, 1024] inb_S3x3072_S1x1024_1_2048)
/-- Tap 2 of the convolution, column tile 2. -/
abbrev tap22 : Rect S3x3072 := (Rect.unit (s := S3x3072) ![2, 2048] ![1, 1024] inb_S3x3072_S1x1024_2_2048)

/-- The whole block of rows. -/
abbrev allX : Rect S64x8x1024 := (Rect.unit (s := S64x8x1024) ![0, 0, 0] ![64, 8, 1024] inb_S64x8x1024_S64x8x1024_0_0_0)
/-- The whole state block. -/
abbrev allS : Rect S2x8x3072 := (Rect.unit (s := S2x8x3072) ![0, 0, 0] ![2, 8, 3072] inb_S2x8x3072_S2x8x3072_0_0_0)
/-- A whole row of gains. -/
abbrev allG : Rect S1x1024 := (Rect.unit (s := S1x1024) ![0, 0] ![1, 1024] inb_S1x1024_S1x1024_0_0)
/-- The whole state scratch. -/
abbrev allU : Rect S16x3072 := (Rect.unit (s := S16x3072) ![0, 0] ![16, 3072] inb_S16x3072_S16x3072_0_0)

/-- The state scratch as the point first fills it. -/
abbrev carried (x3 : Vec F S2x8x3072 .f32) : Vec F S16x3072 .f32 := k0_pay1 (cut x3 allS.toLoadRect)

/-- The normalised rows that enter the projections. -/
abbrev rowsIn (x2 : Vec F S64x8x1024 .f32) (x4 : Vec F S1x1024 .f32) : FVec F S512x1024 .bf16 :=
  k0_pay3 (cut x2 allX.toLoadRect) (cut x4 allG.toLoadRect)

/-- The rows after column tile 0 has been added. -/
abbrev rows0 (x2 : Vec F S64x8x1024 .f32) (u : Vec F S16x3072 .f32) (x4 : Vec F S1x1024 .f32)
    (x5 x6 : Vec F S1024x3072 .bf16) (x7 : Vec F S3x3072 .f32) (x8 : Vec F S1x3072 .f32) (x9 : Vec F S3072x1024 .bf16) :
    FVec F S512x1024 .f32 :=
  k0_pay11 (k0_pay2 (cut x2 allX.toLoadRect))
    (k0_pay10 (k0_pay4 (cut x2 allX.toLoadRect) (cut x4 allG.toLoadRect) (cut x5 colW0.toLoadRect))
      (k0_pay5 (cut x2 allX.toLoadRect) (cut x4 allG.toLoadRect) (cut x6 colW0.toLoadRect))
      (cut u colU0.toLoadRect) (k0_pay6 (cut x8 colB0.toLoadRect))
      (k0_pay7 (cut x2 allX.toLoadRect) (cut x4 allG.toLoadRect) (cut x5 colW0.toLoadRect) (cut u colU0.toLoadRect))
      (cut x7 tap00.toLoadRect) (cut x7 tap10.toLoadRect) (cut x7 tap20.toLoadRect))
    (cut x9 rowD0.toLoadRect)

/-- The rows after column tile 1 has been added. -/
abbrev rows1 (x2 : Vec F S64x8x1024 .f32) (u : Vec F S16x3072 .f32) (x4 : Vec F S1x1024 .f32)
    (x5 x6 : Vec F S1024x3072 .bf16) (x7 : Vec F S3x3072 .f32) (x8 : Vec F S1x3072 .f32) (x9 : Vec F S3072x1024 .bf16) :
    FVec F S512x1024 .f32 :=
  k0_pay17 (rows0 x2 u x4 x5 x6 x7 x8 x9) (k0_pay13 (rowsIn x2 x4) (cut x6 colW1.toLoadRect))
    (k0_pay14 (rowsIn x2 x4) (cut x5 colW1.toLoadRect) (cut u colU1.toLoadRect) (cut x8 colB1.toLoadRect)
      (cut x7 tap01.toLoadRect) (cut x7 tap11.toLoadRect) (cut x7 tap21.toLoadRect))
    (cut x9 rowD1.toLoadRect)

/-- The rows after column tile 2 has been added: the residual and the whole down projection. -/
abbrev rows2 (x2 : Vec F S64x8x1024 .f32) (u : Vec F S16x3072 .f32) (x4 : Vec F S1x1024 .f32)
    (x5 x6 : Vec F S1024x3072 .bf16) (x7 : Vec F S3x3072 .f32) (x8 : Vec F S1x3072 .f32) (x9 : Vec F S3072x1024 .bf16) :
    FVec F S512x1024 .f32 :=
  k0_pay24 (rows1 x2 u x4 x5 x6 x7 x8 x9) (k0_pay18 (rowsIn x2 x4) (cut x5 colW2.toLoadRect))
    (k0_pay19 (rowsIn x2 x4) (cut x6 colW2.toLoadRect))
    (k0_pay20 (rowsIn x2 x4) (cut x5 colW2.toLoadRect) (cut u colU2.toLoadRect) (cut x8 colB2.toLoadRect)
      (cut x7 tap02.toLoadRect))
    (k0_pay21 (cut u colU2.toLoadRect)) (cut x7 tap12.toLoadRect) (cut x7 tap22.toLoadRect)
    (cut x9 rowD2.toLoadRect)

/-- The slab of finished rows. -/
def slab (x2 : Vec F S64x8x1024 .f32) (u : Vec F S16x3072 .f32) (x4 : Vec F S1x1024 .f32)
    (x5 x6 : Vec F S1024x3072 .bf16) (x7 : Vec F S3x3072 .f32) (x8 : Vec F S1x3072 .f32) (x9 : Vec F S3072x1024 .bf16)
    (x10 : Vec F S1x1024 .f32) : FVec F S1x64x8x1024 .f32 :=
  k0_pay26 (rows2 x2 u x4 x5 x6 x7 x8 x9) (k0_pay25 (cut x10 allG.toLoadRect))

/-- The stores into the new convolution state, newest first. -/
def statePieces (x2 : Vec F S64x8x1024 .f32) (x4 : Vec F S1x1024 .f32) (x5 : Vec F S1024x3072 .bf16) :
    List (View.Piece (Elt F) S2x8x3072 .f32) :=
  [⟨colS2, k0_pay23 (k0_pay18 (rowsIn x2 x4) (cut x5 colW2.toLoadRect))⟩,
    ⟨colS1, k0_pay16 (rowsIn x2 x4) (cut x5 colW1.toLoadRect)⟩,
    ⟨colS0, k0_pay9 (k0_pay4 (cut x2 allX.toLoadRect) (cut x4 allG.toLoadRect) (cut x5 colW0.toLoadRect))⟩]

/-- The stores into the state scratch after its first contents, newest first. -/
def carryPieces (x2 : Vec F S64x8x1024 .f32) (x4 : Vec F S1x1024 .f32) (x5 : Vec F S1024x3072 .bf16) :
    List (View.Piece (Elt F) S16x3072 .f32) :=
  [⟨colU2, k0_pay22 (k0_pay18 (rowsIn x2 x4) (cut x5 colW2.toLoadRect))⟩,
    ⟨colU1, k0_pay15 (rowsIn x2 x4) (cut x5 colW1.toLoadRect)⟩,
    ⟨colU0, k0_pay8 (k0_pay4 (cut x2 allX.toLoadRect) (cut x4 allG.toLoadRect) (cut x5 colW0.toLoadRect))⟩]

/-- The store into the point's slot. -/
def slotPieces (i : grid0.Coords) (x2 : Vec F S64x8x1024 .f32) (u : Vec F S16x3072 .f32) (x4 : Vec F S1x1024 .f32)
    (x5 x6 : Vec F S1024x3072 .bf16) (x7 : Vec F S3x3072 .f32) (x8 : Vec F S1x3072 .f32) (x9 : Vec F S3072x1024 .bf16)
    (x10 : Vec F S1x1024 .f32) : List (View.Piece (Elt F) S2x64x8x1024 .f32) :=
  [⟨Rect.unit (s := S2x64x8x1024) (k0_off1 i) ![1, 64, 8, 1024] (k0_off1_inb i), slab x2 u x4 x5 x6 x7 x8 x9 x10⟩]

/-- A column tile read back after the whole scratch was filled. -/
theorem readBack0 (v : View sig .tc .vmem S16x3072 .f32) (p : Vec F S16x3072 .f32) :
    v.readCov (Val := Elt F) [⟨allU, p⟩] colU0.toLoadRect = cut p colU0.toLoadRect :=
  funext fun x => congrFun (View.read_writes_full v _ _ p []) (colU0.toLoadRect.idx x)

/-- Column tile 1 read back after the whole scratch was filled and tile 0 replaced. -/
theorem readBack1 (v : View sig .tc .vmem S16x3072 .f32) (p : Vec F S16x3072 .f32) (q : colU0.shape.Idx → Elt F .f32) :
    v.readCov (Val := Elt F) [⟨colU0, q⟩, ⟨allU, p⟩] colU1.toLoadRect = cut p colU1.toLoadRect :=
  funext fun x =>
    (View.read_writes_cons_unit_of_not_mem v _ _ q _ (colU1.toLoadRect.idx x) rfl 1 (Or.inr (by
      show 0 + 1024 ≤ 1024 + 1 * (x 1).val; omega))).trans
    (congrFun (View.read_writes_full v _ _ p []) (colU1.toLoadRect.idx x))

/-- Column tile 2 read back after the whole scratch was filled and tiles 0 and 1 replaced. -/
theorem readBack2 (v : View sig .tc .vmem S16x3072 .f32) (p : Vec F S16x3072 .f32) (q : colU0.shape.Idx → Elt F .f32)
    (r : colU1.shape.Idx → Elt F .f32) :
    v.readCov (Val := Elt F) [⟨colU1, r⟩, ⟨colU0, q⟩, ⟨allU, p⟩] colU2.toLoadRect = cut p colU2.toLoadRect :=
  funext fun x =>
    (View.read_writes_cons_unit_of_not_mem v _ _ r _ (colU2.toLoadRect.idx x) rfl 1 (Or.inr (by
      show 1024 + 1024 ≤ 2048 + 1 * (x 1).val; omega))).trans
    ((View.read_writes_cons_unit_of_not_mem v _ _ q _ (colU2.toLoadRect.idx x) rfl 1 (Or.inr (by
      show 0 + 1024 ≤ 2048 + 1 * (x 1).val; omega))).trans
    (congrFun (View.read_writes_full v _ _ p []) (colU2.toLoadRect.idx x)))

end Cert.Kernel1Ideal.Hand

end
-- ==== Proof.Kernel1Ideal.Flights.lean ====
/-
  The eight copies of a point, in flight and landed.
-/
module

public import proofs.«01_k».proof.Proof.Kernel1Ideal.Pieces

@[expose] public section

noncomputable section

namespace Cert.Kernel1Ideal.Hand

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The eight copies of point `t`, of which `k` are started and none is awaited, on the cell `sm`. -/
abbrev flights (c : Dev nD) (sm : DmaSem sig) (t : Fin cfg0.N) (gS : BufOf (F := F) c scY) (gV : BufOf (F := F) c hbY) (k : ℕ) : sProp 𝕄 :=
  Transfers.Batch (Lvl := ℕ) (countersEmb (U := Pipeline.UD sig nD τ)) (c : Thread nD τ) (SemLoc.dma sm) ()
    ((piece (k0_off3 (grid0.coords t)) (k0_off3_inb _)).view.amount (.dma sm)) (deliv c (grid0.coords t) gS gV) k 0

/-- What the eight copies of a point deliver. -/
def landed (c : Dev nD) (t : Fin cfg0.N) (gS : BufOf (F := F) c scY) (gV : BufOf (F := F) c hbY) : sProp 𝕄 :=
  iprop(deliv c (grid0.coords t) gS gV 0 ∗ deliv c (grid0.coords t) gS gV 1 ∗ deliv c (grid0.coords t) gS gV 2 ∗ deliv c (grid0.coords t) gS gV 3 ∗ deliv c (grid0.coords t) gS gV 4 ∗ deliv c (grid0.coords t) gS gV 5 ∗ deliv c (grid0.coords t) gS gV 6 ∗ deliv c (grid0.coords t) gS gV 7)

/-- One slot of the slab buffer, held by its own elements. -/
def slotHeld (c : Dev nD) (i : grid0.Coords) (f : BufOf (F := F) c scY) : sProp 𝕄 :=
  (slotAt i).view.loc (c : Thread nD τ) ↦[(slotAt i).view.set]{fullShare} f

/-- A part read of the contents the previous point left. -/
theorem readCarry (c : Dev nD) (f : BufOf (F := F) c scU) {u : Vec F S16x3072 .f32} (h : scU.view.read (Elt F) f = u) (r : LoadRect S16x3072) :
    View.readAt (Elt F) (View.whole cc0_scratch0) r f = cut u r := by
  subst h; rfl

/-- Four stores, the oldest first. -/
theorem writes_four (v : View sig .tc .vmem S16x3072 .f32) (f) (p q r w : View.Piece (Elt F) S16x3072 .f32) :
    v.writes (Elt F) f [p, q, r, w] = v.writes (Elt F) (v.writes (Elt F) f [w]) [p, q, r] := rfl

end Cert.Kernel1Ideal.Hand

end
-- ==== Proof.Kernel1Ideal.Landing.lean ====
/-
  What the eight copies of a point leave: on the piece of the result each lands on, one sequence's rows of the point's
  slab.
-/
module

public import proofs.«01_k».proof.Proof.Kernel1Ideal.Flights
public import Idealize.ShloMosaic.Lib.ValueLayout

@[expose] public section

noncomputable section

namespace Cert.Kernel1Ideal.Hand

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

theorem all4 {P : Fin 4 → Prop} (h0 : P 0) (h1 : P 1) (h2 : P 2) (h3 : P 3) : ∀ a, P a
  | 0 => h0
  | 1 => h1
  | 2 => h2
  | 3 => h3

/-- The rows of one sequence, the unit axis put back in front. -/
theorem rows_unit (h : (⟨2, ![64, 1024]⟩ : Shape).numel = (⟨3, ![1, 64, 1024]⟩ : Shape).numel) (x : Fin 64) (y : Fin 1024) :
    Shape.reshapeEquiv h (ix2 x y) = ix3 (0 : Fin 1) x y :=
  Shape.reshapeEquiv_eq_of_rowMajor h (by
    rw [Shape.rowMajor_val_three, Shape.rowMajor_val_two]
    show ((0 * 64 + x.val) * 1024 + y.val) = x.val * 1024 + y.val
    omega)

/-- The same with two unit axes, in front and between. -/
theorem rows_units (h : (⟨2, ![64, 1024]⟩ : Shape).numel = (⟨4, ![1, 64, 1, 1024]⟩ : Shape).numel) (x : Fin 64) (y : Fin 1024) :
    Shape.reshapeEquiv h (ix2 x y) = ix4 (0 : Fin 1) x (0 : Fin 1) y :=
  Shape.reshapeEquiv_eq_of_rowMajor h (by
    rw [Shape.rowMajor_val_four, Shape.rowMajor_val_two]
    show (((0 * 64 + x.val) * 1 + 0) * 1024 + y.val) = x.val * 1024 + y.val
    omega)

/-- Contents of the two-slot buffer, read through its own view. -/
theorem read_scY (c : Dev nD) (f : BufOf (F := F) c scY) (x : S2x64x8x1024.Idx) : f x = scY.view.read (Elt F) f x := rfl

/-- A slot after the slab was stored in it holds the slab. -/
theorem slot_read (c : Dev nD) (t : Fin cfg0.N) (f gS : BufOf (F := F) c scY) (p : FVec F S1x64x8x1024 .f32)
    (hg : gS = scY.view.writes (Elt F) f [⟨Rect.unit (s := S2x64x8x1024) (k0_off1 (grid0.coords t)) ![1, 64, 8, 1024] (k0_off1_inb _), p⟩])
    (x : S2x64x8x1024.Idx) (hx : (x 0).val = t.val % 2) : gS x = p (ix4 (0 : Fin 1) (x 1 : Fin 64) (x 2 : Fin 8) (x 3 : Fin 1024)) := by
  have hr := View.read_writes_cons_unit_of_mem (Val := Elt F) scY.view f (size := ![1, 64, 8, 1024]) (k0_off1_inb (grid0.coords t)) p [] x
    (ix4 (0 : Fin 1) (x 1 : Fin 64) (x 2 : Fin 8) (x 3 : Fin 1024)) (offs t).1
    (all4 hx (Nat.zero_add _).symm (Nat.zero_add _).symm (Nat.zero_add _).symm)
  rw [← hg] at hr
  exact (read_scY c gS x).trans hr

/-- Reading one sequence of a slot. -/
theorem tile_read (c : Dev nD) (o : Fin 4 → ℕ) (h) (t : ℕ) (k : Fin 8) (e : o = ![t % 2, 0, k.val, 0]) (gS : BufOf (F := F) c scY) (p : FVec F S1x64x8x1024 .f32)
    (hg : ∀ x : S2x64x8x1024.Idx, (x 0).val = t % 2 → gS x = p (ix4 (0 : Fin 1) (x 1 : Fin 64) (x 2 : Fin 8) (x 3 : Fin 1024))) (y : S64x1024.Idx) :
    (tile o h).view.read (Elt F) gS y = p (ix4 (0 : Fin 1) (y 0 : Fin 64) k (y 1 : Fin 1024)) := by
  obtain ⟨r, d, rfl⟩ : ∃ (r : Fin 64) (d : Fin 1024), y = ix2 r d := ⟨y 0, y 1, eq_ix2 y⟩
  have hz : Shape.reshapeEquiv squeezes_S1x64x1x1024_S64x1024.numel_eq (ix2 r d) = ix4 (0 : Fin 1) r (0 : Fin 1) d := rows_units _ r d
  show gS ((Rect.unit (s := S2x64x8x1024) o S1x64x1x1024.size h).emb (Shape.reshapeEquiv squeezes_S1x64x1x1024_S64x1024.numel_eq (ix2 r d))) = _
  rw [hz]
  subst e
  refine (hg _ ?_).trans (congrArg p ?_)
  · show t % 2 + 1 * 0 = t % 2; omega
  · funext a
    revert a
    exact all4 rfl (Fin.ext (show 0 + 1 * r.val = r.val by omega)) (Fin.ext (show k.val + 1 * 0 = k.val by omega)) (Fin.ext (show 0 + 1 * d.val = d.val by omega))

/-- Contents of the result, read through one piece of it. -/
theorem read_piece (c : Dev nD) (o : Fin 3 → ℕ) (h : ∀ a, o a + S1x64x1024.size a ≤ S8x2048x1024.size a) (f : BufOf (F := F) c hbY) (r : Fin 64) (d : Fin 1024) :
    f ((piece o h).view.emb (ix2 r d)) = (piece o h).view.read (Elt F) f (ix2 r d) := rfl

/-- What one awaited copy left on its piece of the result. -/
theorem piece_val (c : Dev nD) (o : Fin 3 → ℕ) (h) (o' : Fin 4 → ℕ) (h') (t : ℕ) (k : Fin 8) (e : o = ![k.val, 64 * t, 0]) (e' : o' = ![t % 2, 0, k.val, 0])
    (gS : BufOf (F := F) c scY) (gV G : BufOf (F := F) c hbY) (p : FVec F S1x64x8x1024 .f32)
    (hg : ∀ x : S2x64x8x1024.Idx, (x 0).val = t % 2 → gS x = p (ix4 (0 : Fin 1) (x 1 : Fin 64) (x 2 : Fin 8) (x 3 : Fin 1024)))
    (hG : ∀ (r : Fin 64) (x : S8x2048x1024.Idx), (x 1).val = 64 * t + r.val → G x = p (ix4 (0 : Fin 1) r (x 0 : Fin 8) (x 2 : Fin 1024)))
    (x : S8x2048x1024.Idx) (hx : x ∈ (piece o h).view.set) :
    (piece o h).view.writes (Elt F) gV [⟨Rect.whole S64x1024, ReadAs.same.apply ((tile o' h').view.read (Elt F) gS)⟩] x = G x := by
  obtain ⟨y, -, rfl⟩ := Finset.mem_map.mp hx
  obtain ⟨r, d, rfl⟩ : ∃ (r : Fin 64) (d : Fin 1024), y = ix2 r d := ⟨y 0, y 1, eq_ix2 y⟩
  have hz : Shape.reshapeEquiv squeezes_S1x64x1024_S64x1024.numel_eq (ix2 r d) = ix3 (0 : Fin 1) r d := rows_unit _ r d
  have hr := View.read_writes_cons_emb (piece o h).view gV (Rect.whole S64x1024) (ReadAs.same.apply ((tile o' h').view.read (Elt F) gS)) [] (ix2 r d)
  rw [show (Rect.whole S64x1024).emb (ix2 r d) = ix2 r d from by
    funext a; exact Fin.ext (show 0 + 1 * (ix2 r d a).val = (ix2 r d a).val by omega)] at hr
  refine (read_piece c o h _ r d).trans (hr.trans ?_)
  refine (tile_read c o' h' t k e' gS p hg (ix2 r d)).trans ?_
  have he : (piece o h).view.emb (ix2 r d) = (Rect.unit (s := S8x2048x1024) o S1x64x1024.size h).emb (Shape.reshapeEquiv squeezes_S1x64x1024_S64x1024.numel_eq (ix2 r d)) := rfl
  rw [he, hz]
  subst e
  refine (congrArg p ?_).trans (hG r _ ?_).symm
  · funext a
    revert a
    exact all4 rfl rfl (Fin.ext (show k.val = k.val + 1 * 0 by omega)) (Fin.ext (show d.val = 0 + 1 * d.val by omega))
  · show 64 * t + 1 * r.val = 64 * t + r.val; omega

/-- The same of the piece held. -/
theorem piece_pt (c : Dev nD) (o : Fin 3 → ℕ) (h) (o' : Fin 4 → ℕ) (h') (t : ℕ) (k : Fin 8) (e : o = ![k.val, 64 * t, 0]) (e' : o' = ![t % 2, 0, k.val, 0])
    (gS : BufOf (F := F) c scY) (gV G : BufOf (F := F) c hbY) (p : FVec F S1x64x8x1024 .f32)
    (hg : ∀ x : S2x64x8x1024.Idx, (x 0).val = t % 2 → gS x = p (ix4 (0 : Fin 1) (x 1 : Fin 64) (x 2 : Fin 8) (x 3 : Fin 1024)))
    (hG : ∀ (r : Fin 64) (x : S8x2048x1024.Idx), (x 1).val = 64 * t + r.val → G x = p (ix4 (0 : Fin 1) r (x 0 : Fin 8) (x 2 : Fin 1024))) :
    ((piece o h).view.loc (c : Thread nD τ) ↦[(piece o h).view.set]{fullShare}
        (piece o h).view.writes (Elt F) gV [⟨Rect.whole S64x1024, ReadAs.same.apply ((tile o' h').view.read (Elt F) gS)⟩] : sProp 𝕄)
      = ((piece o h).view.loc (c : Thread nD τ) ↦[(piece o h).view.set]{fullShare} G) :=
  pointsTo_congr (fun x hx => piece_val c o h o' h' t k e e' gS gV G p hg hG x hx)

/-- A point's eight deliveries: its rows of the result at the slab, and its slot back. -/
theorem landed_rows (c : Dev nD) (t : Fin cfg0.N) (gS : BufOf (F := F) c scY) (gV G : BufOf (F := F) c hbY) (p : FVec F S1x64x8x1024 .f32)
    (hg : ∀ x : S2x64x8x1024.Idx, (x 0).val = t.val % 2 → gS x = p (ix4 (0 : Fin 1) (x 1 : Fin 64) (x 2 : Fin 8) (x 3 : Fin 1024)))
    (hG : ∀ (r : Fin 64) (x : S8x2048x1024.Idx), (x 1).val = 64 * t.val + r.val → G x = p (ix4 (0 : Fin 1) r (x 0 : Fin 8) (x 2 : Fin 1024))) :
    landed c t gS gV ⊢ iprop(pieces c t G ∗ (scY.view.loc (c : Thread nD τ) ↦[slotSet (grid0.coords t)]{fullShare} gS)) := by
  obtain ⟨e1, e3, e4, e5, e6, e7, e8, e9, e10, e11, e12, e13, e14, e15, e16, e17, e18⟩ := offs t
  rw [slot_tiles]
  have d0 : deliv c (grid0.coords t) gS gV 0 = iprop(((piece (k0_off3 (grid0.coords t)) (k0_off3_inb _)).view.loc (c : Thread nD τ) ↦[(piece (k0_off3 (grid0.coords t)) (k0_off3_inb _)).view.set]{fullShare} G)
      ∗ ((tile (k0_off4 (grid0.coords t)) (k0_off4_inb _)).view.loc (c : Thread nD τ) ↦[(tile (k0_off4 (grid0.coords t)) (k0_off4_inb _)).view.set]{fullShare} gS)) :=
    congrArg (fun X : sProp 𝕄 => iprop(X ∗ _)) (piece_pt c _ (k0_off3_inb _) _ (k0_off4_inb _) t.val 0 e3 e4 gS gV G p hg hG)
  have d1 : deliv c (grid0.coords t) gS gV 1 = iprop(((piece (k0_off5 (grid0.coords t)) (k0_off5_inb _)).view.loc (c : Thread nD τ) ↦[(piece (k0_off5 (grid0.coords t)) (k0_off5_inb _)).view.set]{fullShare} G)
      ∗ ((tile (k0_off6 (grid0.coords t)) (k0_off6_inb _)).view.loc (c : Thread nD τ) ↦[(tile (k0_off6 (grid0.coords t)) (k0_off6_inb _)).view.set]{fullShare} gS)) :=
    congrArg (fun X : sProp 𝕄 => iprop(X ∗ _)) (piece_pt c _ (k0_off5_inb _) _ (k0_off6_inb _) t.val 1 e5 e6 gS gV G p hg hG)
  have d2 : deliv c (grid0.coords t) gS gV 2 = iprop(((piece (k0_off7 (grid0.coords t)) (k0_off7_inb _)).view.loc (c : Thread nD τ) ↦[(piece (k0_off7 (grid0.coords t)) (k0_off7_inb _)).view.set]{fullShare} G)
      ∗ ((tile (k0_off8 (grid0.coords t)) (k0_off8_inb _)).view.loc (c : Thread nD τ) ↦[(tile (k0_off8 (grid0.coords t)) (k0_off8_inb _)).view.set]{fullShare} gS)) :=
    congrArg (fun X : sProp 𝕄 => iprop(X ∗ _)) (piece_pt c _ (k0_off7_inb _) _ (k0_off8_inb _) t.val 2 e7 e8 gS gV G p hg hG)
  have d3 : deliv c (grid0.coords t) gS gV 3 = iprop(((piece (k0_off9 (grid0.coords t)) (k0_off9_inb _)).view.loc (c : Thread nD τ) ↦[(piece (k0_off9 (grid0.coords t)) (k0_off9_inb _)).view.set]{fullShare} G)
      ∗ ((tile (k0_off10 (grid0.coords t)) (k0_off10_inb _)).view.loc (c : Thread nD τ) ↦[(tile (k0_off10 (grid0.coords t)) (k0_off10_inb _)).view.set]{fullShare} gS)) :=
    congrArg (fun X : sProp 𝕄 => iprop(X ∗ _)) (piece_pt c _ (k0_off9_inb _) _ (k0_off10_inb _) t.val 3 e9 e10 gS gV G p hg hG)
  have d4 : deliv c (grid0.coords t) gS gV 4 = iprop(((piece (k0_off11 (grid0.coords t)) (k0_off11_inb _)).view.loc (c : Thread nD τ) ↦[(piece (k0_off11 (grid0.coords t)) (k0_off11_inb _)).view.set]{fullShare} G)
      ∗ ((tile (k0_off12 (grid0.coords t)) (k0_off12_inb _)).view.loc (c : Thread nD τ) ↦[(tile (k0_off12 (grid0.coords t)) (k0_off12_inb _)).view.set]{fullShare} gS)) :=
    congrArg (fun X : sProp 𝕄 => iprop(X ∗ _)) (piece_pt c _ (k0_off11_inb _) _ (k0_off12_inb _) t.val 4 e11 e12 gS gV G p hg hG)
  have d5 : deliv c (grid0.coords t) gS gV 5 = iprop(((piece (k0_off13 (grid0.coords t)) (k0_off13_inb _)).view.loc (c : Thread nD τ) ↦[(piece (k0_off13 (grid0.coords t)) (k0_off13_inb _)).view.set]{fullShare} G)
      ∗ ((tile (k0_off14 (grid0.coords t)) (k0_off14_inb _)).view.loc (c : Thread nD τ) ↦[(tile (k0_off14 (grid0.coords t)) (k0_off14_inb _)).view.set]{fullShare} gS)) :=
    congrArg (fun X : sProp 𝕄 => iprop(X ∗ _)) (piece_pt c _ (k0_off13_inb _) _ (k0_off14_inb _) t.val 5 e13 e14 gS gV G p hg hG)
  have d6 : deliv c (grid0.coords t) gS gV 6 = iprop(((piece (k0_off15 (grid0.coords t)) (k0_off15_inb _)).view.loc (c : Thread nD τ) ↦[(piece (k0_off15 (grid0.coords t)) (k0_off15_inb _)).view.set]{fullShare} G)
      ∗ ((tile (k0_off16 (grid0.coords t)) (k0_off16_inb _)).view.loc (c : Thread nD τ) ↦[(tile (k0_off16 (grid0.coords t)) (k0_off16_inb _)).view.set]{fullShare} gS)) :=
    congrArg (fun X : sProp 𝕄 => iprop(X ∗ _)) (piece_pt c _ (k0_off15_inb _) _ (k0_off16_inb _) t.val 6 e15 e16 gS gV G p hg hG)
  have d7 : deliv c (grid0.coords t) gS gV 7 = iprop(((piece (k0_off17 (grid0.coords t)) (k0_off17_inb _)).view.loc (c : Thread nD τ) ↦[(piece (k0_off17 (grid0.coords t)) (k0_off17_inb _)).view.set]{fullShare} G)
      ∗ ((tile (k0_off18 (grid0.coords t)) (k0_off18_inb _)).view.loc (c : Thread nD τ) ↦[(tile (k0_off18 (grid0.coords t)) (k0_off18_inb _)).view.set]{fullShare} gS)) :=
    congrArg (fun X : sProp 𝕄 => iprop(X ∗ _)) (piece_pt c _ (k0_off17_inb _) _ (k0_off18_inb _) t.val 7 e17 e18 gS gV G p hg hG)
  unfold landed
  rw [d0, d1, d2, d3, d4, d5, d6, d7]
  unfold pieces tiles
  iintro ⟨⟨P0, T0⟩, ⟨P1, T1⟩, ⟨P2, T2⟩, ⟨P3, T3⟩, ⟨P4, T4⟩, ⟨P5, T5⟩, ⟨P6, T6⟩, ⟨P7, T7⟩⟩
  isplitl [P0 P1 P2 P3 P4 P5 P6 P7]
  · isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  isplitl [T0]; · iexact T0
  isplitl [T1]; · iexact T1
  isplitl [T2]; · iexact T2
  isplitl [T3]; · iexact T3
  isplitl [T4]; · iexact T4
  isplitl [T5]; · iexact T5
  isplitl [T6]; · iexact T6
  iexact T7

/-- The two slots held, at whatever each holds, are the two-slot buffer held. -/
theorem slots_join (c : Dev nD) (f g : BufOf (F := F) c scY) :
    iprop((scY.view.loc (c : Thread nD τ) ↦[slotSet (grid0.coords pt0)]{fullShare} f) ∗ (scY.view.loc (c : Thread nD τ) ↦[slotSet (grid0.coords pt1)]{fullShare} g))
      ⊢ (iprop(∃ h : BufOf (F := F) c scY, scY.view.loc (c : Thread nD τ) ↦{fullShare} h) : sProp 𝕄) := by
  classical
  let h : BufOf (F := F) c scY := fun x => if x ∈ slotSet (grid0.coords pt0) then f x else g x
  rw [pointsTo_congr (f := f) (g := h) (fun x hx => (if_pos hx).symm),
    pointsTo_congr (f := g) (g := h) (fun x hx => (if_neg fun h0 => by
      have a := (mem_slotSet pt0 x).mp h0
      have b := (mem_slotSet pt1 x).mp hx
      exact absurd (a.symm.trans b) (by decide)).symm), ← scY_slots c h]
  iintro H; iexists h; iexact H

end Cert.Kernel1Ideal.Hand

end
-- ==== Proof.Kernel1Ideal.Run0.lean ====
/-
  The body of the feed-forward call run at its first point: it fills the carried pre-activations from the state it is
  given, fills a slot, and leaves the slot's eight copies in flight.
-/
module

public import proofs.«01_k».proof.Proof.Kernel1Ideal.Flights

@[expose] public section

noncomputable section

namespace Cert.Kernel1Ideal.Hand

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxRecDepth 16384 in
set_option maxHeartbeats 2000000 in
/-- The first point: the pieces it writes of the new convolution state, of the carried pre-activations and of the slot,
    and that it leaves its eight copies in flight. -/
theorem run0 (c : Dev nD) (arg2 : Memref sig .tc .vmem S64x8x1024 .f32) (h2 : arg2.IsWhole) (arg3 : Memref sig .tc .vmem S2x8x3072 .f32) (h3 : arg3.IsWhole) (arg4 : Memref sig .tc .vmem S1x1024 .f32) (h4 : arg4.IsWhole) (arg5 : Memref sig .tc .vmem S1024x3072 .bf16) (h5 : arg5.IsWhole) (arg6 : Memref sig .tc .vmem S1024x3072 .bf16) (h6 : arg6.IsWhole) (arg7 : Memref sig .tc .vmem S3x3072 .f32) (h7 : arg7.IsWhole) (arg8 : Memref sig .tc .vmem S1x3072 .f32) (h8 : arg8.IsWhole) (arg9 : Memref sig .tc .vmem S3072x1024 .bf16) (h9 : arg9.IsWhole) (arg10 : Memref sig .tc .vmem S1x1024 .f32) (h10 : arg10.IsWhole) (arg12 : Memref sig .tc .vmem S2x8x3072 .f32) (h12 : arg12.IsWhole)
    (x2 : Vec F S64x8x1024 .f32) (x3 : Vec F S2x8x3072 .f32) (x4 : Vec F S1x1024 .f32) (x5 : Vec F S1024x3072 .bf16) (x6 : Vec F S1024x3072 .bf16) (x7 : Vec F S3x3072 .f32) (x8 : Vec F S1x3072 .f32) (x9 : Vec F S3072x1024 .bf16) (x10 : Vec F S1x1024 .f32) :
    ∀ (gV : BufOf (F := F) c hbY) (W : Waits sig Unit) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg12 fullShare d)
            ∗ (∃ d, owns (c : Thread nD τ) scU fullShare d) ∗ (∃ d, owns (c : Thread nD τ) scY fullShare d)
            ∗ pieces c pt0 gV ∗ semVal ((c : Thread nD τ), SemLoc.dma (11 : DmaSem sig)) 0 ∗ owes (c : Thread nD τ) 0 W
            ∗ (iprop(owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ (∃ f, arg12.view.loc (c : Thread nD τ) ↦[arg12.view.set]{fullShare} arg12.view.writes (Elt F) f (statePieces x2 x4 x5))
                ∗ (∃ f, scU.view.loc (c : Thread nD τ) ↦[scU.view.set]{fullShare} scU.view.writes (Elt F) f (carryPieces x2 x4 x5))
                ∗ (∃ gS, ⌜∃ f, gS = scY.view.writes (Elt F) f (slotPieces (grid0.coords pt0) x2 (carried x3) x4 x5 x6 x7 x8 x9 x10)⌝ ∗ flights c (11 : DmaSem sig) pt0 gS gV 8
                    ∗ (scY.view.loc (c : Thread nD τ) ↦[slotSet (grid0.coords pt1)]{fullShare} gS))
                ∗ (∃ W', owes (c : Thread nD τ) 0 W')) -∗ K ⟨⟩))
          ⊢ wp frame (wpE (defs₀ (F := F)) Variants.none c none) Set.univ
              (cc0_ffn (grid0.coords pt0) arg2 h2 arg3 h3 arg4 h4 arg5 h5 arg6 h6 arg7 h7 arg8 h8 arg9 h9 arg10 h10 hbY (Memref.isWhole_whole _) arg12 h12 scU (Memref.isWhole_whole _) scY (Memref.isWhole_whole _) cc0_scratch2) K := by
  intro gV W K
  focus
    have e1 : (Scalar.cmpi .ne (Scalar.extui (Scalar.cmpi .eq (BitVec.ofNat 32 ((grid0.coords pt0) 1).val) 0#32) : BitVec 32) 0#32) = 1#1 := by decide +kernel
    have e2 : k0_cond2 (grid0.coords pt0) ≠ 1#1 := by decide +kernel
    have e3 : k0_cond3 (grid0.coords pt0) ≠ 1#1 := by decide +kernel
    simp only [cc0_ffn_eq_skeleton]; unfold cc0_ffn_skel
    simp only [k0_part3_eq_skeleton, k0_part4_eq_skeleton, k0_part5_eq_skeleton, k0_part6_eq_skeleton, k0_part7_eq_skeleton, k0_part8_eq_skeleton, k0_part9_eq_skeleton]
    unfold k0_part3_skel k0_part4_skel k0_part5_skel k0_part6_skel k0_part7_skel k0_part8_skel k0_part9_skel
    simp only [dif_pos e1, dif_neg e2, dif_neg e3]
    unfold owns
    iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%d12, %f12, -, H12⟩, ⟨%dU, %fU, -, HU⟩, ⟨%dY, %fY, -, HY⟩, HP, Hc, HW, Hk⟩
    obtain rfl := h2.eq_unread g2
    obtain rfl := h3.eq_unread g3
    obtain rfl := h4.eq_unread g4
    obtain rfl := h5.eq_unread g5
    obtain rfl := h6.eq_unread g6
    obtain rfl := h7.eq_unread g7
    obtain rfl := h8.eq_unread g8
    obtain rfl := h9.eq_unread g9
    obtain rfl := h10.eq_unread g10
    sl_exec
    icases (name_contents (F := F)) $$ HY with HY
    icases HY with ⟨%gS, %hgS, HY⟩
    icases (name_contents (F := F)) $$ HU with HU
    icases HU with ⟨%gC, %hgC, HU⟩
    icases (name_contents (F := F)) $$ H12 with H12
    icases H12 with ⟨%gO, %hgO, H12⟩
    dsimp only at hgS hgO hgC
    have hL : ∃ f, gS = scY.view.writes (Elt F) f (slotPieces (grid0.coords pt0) x2 (carried x3) x4 x5 x6 x7 x8 x9 x10) := by
      refine ⟨fY, hgS.trans ?_⟩
      clear hgS hgO hgC
      sl_unfold_run_names
      simp only [load_eq_cut, readBack0, readBack1, readBack2]
      rfl
    have hO : ∃ f, gO = arg12.view.writes (Elt F) f (statePieces x2 x4 x5) := by
      refine ⟨f12, hgO.trans ?_⟩
      clear hgS hgO hgC
      simp only [load_eq_cut]
      rfl
    have hC : ∃ f, gC = scU.view.writes (Elt F) f (carryPieces x2 x4 x5) := by
      refine ⟨scU.view.writes (Elt F) fU [⟨allU, carried x3⟩], hgC.trans ?_⟩
      clear hgS hgO hgC
      sl_unfold_run_names
      simp only [load_eq_cut]
      unfold carryPieces; exact writes_four _ _ _ _ _ _
    clear hgS hgO hgC
    ihave HY := (Entails.of_eq (show (scY.view.loc (c : Thread nD τ) ↦[scY.view.set]{fullShare} gS : sProp 𝕄) = _ from
      (congrArg (fun S => (scY.view.loc (c : Thread nD τ) ↦[S]{fullShare} gS : sProp 𝕄)) (View.set_whole _)).trans (scY_slots c gS))) $$ HY
    icases HY with ⟨HY, HY1⟩
    ihave HY := (Entails.of_eq (slot_tiles c pt0 gS)) $$ HY
    unfold tiles pieces
    icases HY with ⟨HT0, HT1, HT2, HT3, HT4, HT5, HT6, HT7⟩
    icases HP with ⟨HP0, HP1, HP2, HP3, HP4, HP5, HP6, HP7⟩
    imod (Transfers.batch_alloc' (Lvl := ℕ) (countersEmb (U := Pipeline.UD sig nD τ)) (c : Thread nD τ) () ((piece (k0_off3 (grid0.coords pt0)) (k0_off3_inb _)).view.amount (.dma (11 : DmaSem sig)))
      (deliv c (grid0.coords pt0) gS gV) (sm := SemLoc.dma (11 : DmaSem sig)) (E := Set.univ)) $$ Hc with HB
    unfold deliv
    sl_exec
    sl_step
    iapply Hk
    isplitl [H2]
    · iexists _; isplitr; swap; · iexact H2
      ipureintro; exact h2.read_unread x2
    isplitl [H3]
    · iexists _; isplitr; swap; · iexact H3
      ipureintro; exact h3.read_unread x3
    isplitl [H4]
    · iexists _; isplitr; swap; · iexact H4
      ipureintro; exact h4.read_unread x4
    isplitl [H5]
    · iexists _; isplitr; swap; · iexact H5
      ipureintro; exact h5.read_unread x5
    isplitl [H6]
    · iexists _; isplitr; swap; · iexact H6
      ipureintro; exact h6.read_unread x6
    isplitl [H7]
    · iexists _; isplitr; swap; · iexact H7
      ipureintro; exact h7.read_unread x7
    isplitl [H8]
    · iexists _; isplitr; swap; · iexact H8
      ipureintro; exact h8.read_unread x8
    isplitl [H9]
    · iexists _; isplitr; swap; · iexact H9
      ipureintro; exact h9.read_unread x9
    isplitl [H10]
    · iexists _; isplitr; swap; · iexact H10
      ipureintro; exact h10.read_unread x10
    isplitl [H12]
    · obtain ⟨f, hf⟩ := hO
      subst hf
      iexists _; iexact H12
    isplitl [HU]
    · obtain ⟨f, hf⟩ := hC
      subst hf
      iexists _; iexact HU
    isplitl [HB HY1]
    · iexists gS
      isplitr; · ipureintro; exact hL
      isplitl [HB]; · iexact HB
      iexact HY1
    iexists _; iexact HW

end Cert.Kernel1Ideal.Hand

end
-- ==== Proof.Kernel1Ideal.RunM.lean ====
/-
  The body of the feed-forward call run at a point between the first and the last: it fills a slot, starts the slot's
  eight copies, and awaits those of the point before.
-/
module

public import proofs.«01_k».proof.Proof.Kernel1Ideal.Flights

@[expose] public section

noncomputable section

namespace Cert.Kernel1Ideal.Hand

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxRecDepth 16384 in
set_option maxHeartbeats 2000000 in
/-- A point between the first and the last: the pieces it writes, that the copies of the point before have landed, and
    that it leaves its own in flight. -/
theorem runM (c : Dev nD) (arg2 : Memref sig .tc .vmem S64x8x1024 .f32) (h2 : arg2.IsWhole) (arg3 : Memref sig .tc .vmem S2x8x3072 .f32) (h3 : arg3.IsWhole) (arg4 : Memref sig .tc .vmem S1x1024 .f32) (h4 : arg4.IsWhole) (arg5 : Memref sig .tc .vmem S1024x3072 .bf16) (h5 : arg5.IsWhole) (arg6 : Memref sig .tc .vmem S1024x3072 .bf16) (h6 : arg6.IsWhole) (arg7 : Memref sig .tc .vmem S3x3072 .f32) (h7 : arg7.IsWhole) (arg8 : Memref sig .tc .vmem S1x3072 .f32) (h8 : arg8.IsWhole) (arg9 : Memref sig .tc .vmem S3072x1024 .bf16) (h9 : arg9.IsWhole) (arg10 : Memref sig .tc .vmem S1x1024 .f32) (h10 : arg10.IsWhole) (arg12 : Memref sig .tc .vmem S2x8x3072 .f32) (h12 : arg12.IsWhole)
    (x2 : Vec F S64x8x1024 .f32) (x3 : Vec F S2x8x3072 .f32) (x4 : Vec F S1x1024 .f32) (x5 : Vec F S1024x3072 .bf16) (x6 : Vec F S1024x3072 .bf16) (x7 : Vec F S3x3072 .f32) (x8 : Vec F S1x3072 .f32) (x9 : Vec F S3072x1024 .bf16) (x10 : Vec F S1x1024 .f32) (u : Vec F S16x3072 .f32) (t tp : Fin cfg0.N) (s sp : DmaSem sig)
    (e1 : (Scalar.cmpi .ne (Scalar.extui (Scalar.cmpi .eq (BitVec.ofNat 32 ((grid0.coords t) 1).val) 0#32) : BitVec 32) 0#32) ≠ 1#1) (e2 : k0_cond2 (grid0.coords t) = 1#1) (e3 : k0_cond3 (grid0.coords t) ≠ 1#1)
    (hs : counter (k0_off2 (grid0.coords t)) (k0_off2_inb _) = s) (hsp : counter (k0_off19 (grid0.coords t)) (k0_off19_inb _ e2) = sp) :
    ∀ (gS0 : BufOf (F := F) c scY) (gV : BufOf (F := F) c hbY) (W : Waits sig Unit) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg12 fullShare d)
            ∗ owns (c : Thread nD τ) scU fullShare u ∗ (∃ f, slotHeld c (grid0.coords t) f)
            ∗ flights c sp tp gS0 gV 8
            ∗ pieces c t gV ∗ semVal ((c : Thread nD τ), SemLoc.dma s) 0 ∗ owes (c : Thread nD τ) 0 W
            ∗ (iprop(owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ (∃ f, arg12.view.loc (c : Thread nD τ) ↦[arg12.view.set]{fullShare} arg12.view.writes (Elt F) f (statePieces x2 x4 x5))
                ∗ (∃ f, scU.view.loc (c : Thread nD τ) ↦[scU.view.set]{fullShare} scU.view.writes (Elt F) f (carryPieces x2 x4 x5))
                ∗ (∃ gS, ⌜∃ f, gS = scY.view.writes (Elt F) f (slotPieces (grid0.coords t) x2 u x4 x5 x6 x7 x8 x9 x10)⌝ ∗ flights c s t gS gV 8)
                ∗ landed c tp gS0 gV ∗ semVal ((c : Thread nD τ), SemLoc.dma sp) 0
                ∗ (∃ W', owes (c : Thread nD τ) 0 W')) -∗ K ⟨⟩))
          ⊢ wp frame (wpE (defs₀ (F := F)) Variants.none c none) Set.univ
              (cc0_ffn (grid0.coords t) arg2 h2 arg3 h3 arg4 h4 arg5 h5 arg6 h6 arg7 h7 arg8 h8 arg9 h9 arg10 h10 hbY (Memref.isWhole_whole _) arg12 h12 scU (Memref.isWhole_whole _) scY (Memref.isWhole_whole _) cc0_scratch2) K := by
  intro gS0 gV W K
  focus
    have hS : (scY.access (Rect.unit (s := S2x64x8x1024) (k0_off1 (grid0.coords t)) S1x64x8x1024.size (k0_off1_inb _))).set
        ⊆ (slotAt (grid0.coords t)).view.set := Finset.Subset.refl _
    simp only [cc0_ffn_eq_skeleton]; unfold cc0_ffn_skel
    simp only [k0_part3_eq_skeleton, k0_part4_eq_skeleton, k0_part5_eq_skeleton, k0_part6_eq_skeleton, k0_part7_eq_skeleton, k0_part8_eq_skeleton, k0_part9_eq_skeleton]
    unfold k0_part3_skel k0_part4_skel k0_part5_skel k0_part6_skel k0_part7_skel k0_part8_skel k0_part9_skel
    simp only [dif_neg e1, dif_pos e2, dif_neg e3, k0_part1_eq_skeleton]
    unfold k0_part1_skel
    unfold counter at hs hsp
    simp only [hs, hsp]
    unfold owns
    iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%d12, %f12, -, H12⟩, ⟨%fU, %gU, HU⟩, ⟨%fY, HY⟩, HB0, HP, Hc, HW, Hk⟩
    obtain rfl := h2.eq_unread g2
    obtain rfl := h3.eq_unread g3
    obtain rfl := h4.eq_unread g4
    obtain rfl := h5.eq_unread g5
    obtain rfl := h6.eq_unread g6
    obtain rfl := h7.eq_unread g7
    obtain rfl := h8.eq_unread g8
    obtain rfl := h9.eq_unread g9
    obtain rfl := h10.eq_unread g10
    unfold slotHeld
    sl_exec
    icases (name_contents (F := F)) $$ HY with HY
    icases HY with ⟨%gS, %hgS, HY⟩
    icases (name_contents (F := F)) $$ HU with HU
    icases HU with ⟨%gC, %hgC, HU⟩
    icases (name_contents (F := F)) $$ H12 with H12
    icases H12 with ⟨%gO, %hgO, H12⟩
    dsimp only at hgS hgO hgC
    have hL : ∃ f, gS = scY.view.writes (Elt F) f (slotPieces (grid0.coords t) x2 u x4 x5 x6 x7 x8 x9 x10) := by
      refine ⟨fY, hgS.trans ?_⟩
      clear hgS hgO hgC
      sl_unfold_run_names
      simp only [load_eq_cut, readCarry c fU gU]
      rfl
    have hO : ∃ f, gO = arg12.view.writes (Elt F) f (statePieces x2 x4 x5) := by
      refine ⟨f12, hgO.trans ?_⟩
      clear hgS hgO hgC
      simp only [load_eq_cut]
      rfl
    have hC : ∃ f, gC = scU.view.writes (Elt F) f (carryPieces x2 x4 x5) := by
      refine ⟨fU, hgC.trans ?_⟩
      clear hgS hgO hgC
      simp only [load_eq_cut]
      rfl
    clear hgS hgO hgC
    ihave HY := (Entails.of_eq (slot_tiles c t gS)) $$ HY
    unfold tiles pieces
    icases HY with ⟨HT0, HT1, HT2, HT3, HT4, HT5, HT6, HT7⟩
    icases HP with ⟨HP0, HP1, HP2, HP3, HP4, HP5, HP6, HP7⟩
    imod (Transfers.batch_alloc' (Lvl := ℕ) (countersEmb (U := Pipeline.UD sig nD τ)) (c : Thread nD τ) () ((piece (k0_off3 (grid0.coords t)) (k0_off3_inb _)).view.amount (.dma s))
      (deliv c (grid0.coords t) gS gV) (sm := SemLoc.dma s) (E := Set.univ)) $$ Hc with HB
    unfold landed deliv
    sl_exec
    sl_step
    iapply Hk
    isplitl [H2]
    · iexists _; isplitr; swap; · iexact H2
      ipureintro; exact h2.read_unread x2
    isplitl [H3]
    · iexists _; isplitr; swap; · iexact H3
      ipureintro; exact h3.read_unread x3
    isplitl [H4]
    · iexists _; isplitr; swap; · iexact H4
      ipureintro; exact h4.read_unread x4
    isplitl [H5]
    · iexists _; isplitr; swap; · iexact H5
      ipureintro; exact h5.read_unread x5
    isplitl [H6]
    · iexists _; isplitr; swap; · iexact H6
      ipureintro; exact h6.read_unread x6
    isplitl [H7]
    · iexists _; isplitr; swap; · iexact H7
      ipureintro; exact h7.read_unread x7
    isplitl [H8]
    · iexists _; isplitr; swap; · iexact H8
      ipureintro; exact h8.read_unread x8
    isplitl [H9]
    · iexists _; isplitr; swap; · iexact H9
      ipureintro; exact h9.read_unread x9
    isplitl [H10]
    · iexists _; isplitr; swap; · iexact H10
      ipureintro; exact h10.read_unread x10
    isplitl [H12]
    · obtain ⟨f, hf⟩ := hO
      subst hf
      iexists _; iexact H12
    isplitl [HU]
    · obtain ⟨f, hf⟩ := hC
      subst hf
      iexists _; iexact HU
    isplitl [HB]
    · iexists gS
      isplitr; · ipureintro; exact hL
      iexact HB
    isplitl [HB0_dst0 HB0_src0 HB0_dst1 HB0_src1 HB0_dst2 HB0_src2 HB0_dst3 HB0_src3 HB0_dst4 HB0_src4 HB0_dst5 HB0_src5 HB0_dst6 HB0_src6 HB0_dst7 HB0_src7]
    · skip
      isplitl [HB0_dst0 HB0_src0]
      · isplitl [HB0_dst0]; · iexact HB0_dst0
        iexact HB0_src0
      isplitl [HB0_dst1 HB0_src1]
      · isplitl [HB0_dst1]; · iexact HB0_dst1
        iexact HB0_src1
      isplitl [HB0_dst2 HB0_src2]
      · isplitl [HB0_dst2]; · iexact HB0_dst2
        iexact HB0_src2
      isplitl [HB0_dst3 HB0_src3]
      · isplitl [HB0_dst3]; · iexact HB0_dst3
        iexact HB0_src3
      isplitl [HB0_dst4 HB0_src4]
      · isplitl [HB0_dst4]; · iexact HB0_dst4
        iexact HB0_src4
      isplitl [HB0_dst5 HB0_src5]
      · isplitl [HB0_dst5]; · iexact HB0_dst5
        iexact HB0_src5
      isplitl [HB0_dst6 HB0_src6]
      · isplitl [HB0_dst6]; · iexact HB0_dst6
        iexact HB0_src6
      isplitl [HB0_dst7]; · iexact HB0_dst7
      iexact HB0_src7
    isplitl [HB0]; · iexact HB0
    iexists _; iexact HW

end Cert.Kernel1Ideal.Hand

end
-- ==== Proof.Kernel1Ideal.RunL.lean ====
/-
  The body of the feed-forward call run at its last point: it awaits the copies of the point before and its own.
-/
module

public import proofs.«01_k».proof.Proof.Kernel1Ideal.Flights

@[expose] public section

noncomputable section

namespace Cert.Kernel1Ideal.Hand

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxRecDepth 16384 in
set_option maxHeartbeats 2000000 in
/-- The last point: the pieces it writes, and that every copy has landed when it returns. -/
theorem runL (c : Dev nD) (arg2 : Memref sig .tc .vmem S64x8x1024 .f32) (h2 : arg2.IsWhole) (arg3 : Memref sig .tc .vmem S2x8x3072 .f32) (h3 : arg3.IsWhole) (arg4 : Memref sig .tc .vmem S1x1024 .f32) (h4 : arg4.IsWhole) (arg5 : Memref sig .tc .vmem S1024x3072 .bf16) (h5 : arg5.IsWhole) (arg6 : Memref sig .tc .vmem S1024x3072 .bf16) (h6 : arg6.IsWhole) (arg7 : Memref sig .tc .vmem S3x3072 .f32) (h7 : arg7.IsWhole) (arg8 : Memref sig .tc .vmem S1x3072 .f32) (h8 : arg8.IsWhole) (arg9 : Memref sig .tc .vmem S3072x1024 .bf16) (h9 : arg9.IsWhole) (arg10 : Memref sig .tc .vmem S1x1024 .f32) (h10 : arg10.IsWhole) (arg12 : Memref sig .tc .vmem S2x8x3072 .f32) (h12 : arg12.IsWhole)
    (x2 : Vec F S64x8x1024 .f32) (x3 : Vec F S2x8x3072 .f32) (x4 : Vec F S1x1024 .f32) (x5 : Vec F S1024x3072 .bf16) (x6 : Vec F S1024x3072 .bf16) (x7 : Vec F S3x3072 .f32) (x8 : Vec F S1x3072 .f32) (x9 : Vec F S3072x1024 .bf16) (x10 : Vec F S1x1024 .f32) (u : Vec F S16x3072 .f32) (tp : Fin cfg0.N) :
    ∀ (gS0 : BufOf (F := F) c scY) (gV : BufOf (F := F) c hbY) (W : Waits sig Unit) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg12 fullShare d)
            ∗ owns (c : Thread nD τ) scU fullShare u ∗ (∃ f, slotHeld c (grid0.coords pt31) f)
            ∗ flights c (11 : DmaSem sig) tp gS0 gV 8
            ∗ pieces c pt31 gV ∗ semVal ((c : Thread nD τ), SemLoc.dma (12 : DmaSem sig)) 0 ∗ owes (c : Thread nD τ) 0 W
            ∗ (iprop(owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ (∃ f, arg12.view.loc (c : Thread nD τ) ↦[arg12.view.set]{fullShare} arg12.view.writes (Elt F) f (statePieces x2 x4 x5))
                ∗ (∃ f, scU.view.loc (c : Thread nD τ) ↦[scU.view.set]{fullShare} scU.view.writes (Elt F) f (carryPieces x2 x4 x5))
                ∗ (∃ gS, ⌜∃ f, gS = scY.view.writes (Elt F) f (slotPieces (grid0.coords pt31) x2 u x4 x5 x6 x7 x8 x9 x10)⌝ ∗ landed c pt31 gS gV)
                ∗ landed c tp gS0 gV ∗ semVal ((c : Thread nD τ), SemLoc.dma (11 : DmaSem sig)) 0 ∗ semVal ((c : Thread nD τ), SemLoc.dma (12 : DmaSem sig)) 0
                ∗ (∃ W', owes (c : Thread nD τ) 0 W')) -∗ K ⟨⟩))
          ⊢ wp frame (wpE (defs₀ (F := F)) Variants.none c none) Set.univ
              (cc0_ffn (grid0.coords pt31) arg2 h2 arg3 h3 arg4 h4 arg5 h5 arg6 h6 arg7 h7 arg8 h8 arg9 h9 arg10 h10 hbY (Memref.isWhole_whole _) arg12 h12 scU (Memref.isWhole_whole _) scY (Memref.isWhole_whole _) cc0_scratch2) K := by
  intro gS0 gV W K
  focus
    have hS : (scY.access (Rect.unit (s := S2x64x8x1024) (k0_off1 (grid0.coords pt31)) S1x64x8x1024.size (k0_off1_inb _))).set
        ⊆ (slotAt (grid0.coords pt31)).view.set := Finset.Subset.refl _
    have e1 : (Scalar.cmpi .ne (Scalar.extui (Scalar.cmpi .eq (BitVec.ofNat 32 ((grid0.coords pt31) 1).val) 0#32) : BitVec 32) 0#32) ≠ 1#1 := by decide +kernel
    have e2 : k0_cond2 (grid0.coords pt31) = 1#1 := by decide +kernel
    have e3 : k0_cond3 (grid0.coords pt31) = 1#1 := by decide +kernel
    simp only [cc0_ffn_eq_skeleton]; unfold cc0_ffn_skel
    simp only [k0_part3_eq_skeleton, k0_part4_eq_skeleton, k0_part5_eq_skeleton, k0_part6_eq_skeleton, k0_part7_eq_skeleton, k0_part8_eq_skeleton, k0_part9_eq_skeleton]
    unfold k0_part3_skel k0_part4_skel k0_part5_skel k0_part6_skel k0_part7_skel k0_part8_skel k0_part9_skel
    simp only [dif_neg e1, dif_pos e2, dif_pos e3, k0_part1_eq_skeleton, k0_part2_eq_skeleton]
    unfold k0_part1_skel k0_part2_skel
    unfold owns
    iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%d12, %f12, -, H12⟩, ⟨%fU, %gU, HU⟩, ⟨%fY, HY⟩, HB0, HP, Hc, HW, Hk⟩
    obtain rfl := h2.eq_unread g2
    obtain rfl := h3.eq_unread g3
    obtain rfl := h4.eq_unread g4
    obtain rfl := h5.eq_unread g5
    obtain rfl := h6.eq_unread g6
    obtain rfl := h7.eq_unread g7
    obtain rfl := h8.eq_unread g8
    obtain rfl := h9.eq_unread g9
    obtain rfl := h10.eq_unread g10
    unfold slotHeld
    sl_exec
    icases (name_contents (F := F)) $$ HY with HY
    icases HY with ⟨%gS, %hgS, HY⟩
    icases (name_contents (F := F)) $$ HU with HU
    icases HU with ⟨%gC, %hgC, HU⟩
    icases (name_contents (F := F)) $$ H12 with H12
    icases H12 with ⟨%gO, %hgO, H12⟩
    dsimp only at hgS hgO hgC
    have hL : ∃ f, gS = scY.view.writes (Elt F) f (slotPieces (grid0.coords pt31) x2 u x4 x5 x6 x7 x8 x9 x10) := by
      refine ⟨fY, hgS.trans ?_⟩
      clear hgS hgO hgC
      sl_unfold_run_names
      simp only [load_eq_cut, readCarry c fU gU]
      rfl
    have hO : ∃ f, gO = arg12.view.writes (Elt F) f (statePieces x2 x4 x5) := by
      refine ⟨f12, hgO.trans ?_⟩
      clear hgS hgO hgC
      simp only [load_eq_cut]
      rfl
    have hC : ∃ f, gC = scU.view.writes (Elt F) f (carryPieces x2 x4 x5) := by
      refine ⟨fU, hgC.trans ?_⟩
      clear hgS hgO hgC
      simp only [load_eq_cut]
      rfl
    clear hgS hgO hgC
    ihave HY := (Entails.of_eq (slot_tiles c pt31 gS)) $$ HY
    unfold tiles pieces
    icases HY with ⟨HT0, HT1, HT2, HT3, HT4, HT5, HT6, HT7⟩
    icases HP with ⟨HP0, HP1, HP2, HP3, HP4, HP5, HP6, HP7⟩
    imod (Transfers.batch_alloc' (Lvl := ℕ) (countersEmb (U := Pipeline.UD sig nD τ)) (c : Thread nD τ) () ((piece (k0_off3 (grid0.coords pt31)) (k0_off3_inb _)).view.amount (.dma (12 : DmaSem sig)))
      (deliv c (grid0.coords pt31) gS gV) (sm := SemLoc.dma (12 : DmaSem sig)) (E := Set.univ)) $$ Hc with HB
    unfold landed deliv
    sl_exec
    sl_step
    iapply Hk
    isplitl [H2]
    · iexists _; isplitr; swap; · iexact H2
      ipureintro; exact h2.read_unread x2
    isplitl [H3]
    · iexists _; isplitr; swap; · iexact H3
      ipureintro; exact h3.read_unread x3
    isplitl [H4]
    · iexists _; isplitr; swap; · iexact H4
      ipureintro; exact h4.read_unread x4
    isplitl [H5]
    · iexists _; isplitr; swap; · iexact H5
      ipureintro; exact h5.read_unread x5
    isplitl [H6]
    · iexists _; isplitr; swap; · iexact H6
      ipureintro; exact h6.read_unread x6
    isplitl [H7]
    · iexists _; isplitr; swap; · iexact H7
      ipureintro; exact h7.read_unread x7
    isplitl [H8]
    · iexists _; isplitr; swap; · iexact H8
      ipureintro; exact h8.read_unread x8
    isplitl [H9]
    · iexists _; isplitr; swap; · iexact H9
      ipureintro; exact h9.read_unread x9
    isplitl [H10]
    · iexists _; isplitr; swap; · iexact H10
      ipureintro; exact h10.read_unread x10
    isplitl [H12]
    · obtain ⟨f, hf⟩ := hO
      subst hf
      iexists _; iexact H12
    isplitl [HU]
    · obtain ⟨f, hf⟩ := hC
      subst hf
      iexists _; iexact HU
    isplitl [HB_dst0 HB_src0 HB_dst1 HB_src1 HB_dst2 HB_src2 HB_dst3 HB_src3 HB_dst4 HB_src4 HB_dst5 HB_src5 HB_dst6 HB_src6 HB_dst7 HB_src7]
    · iexists gS
      isplitr; · ipureintro; exact hL
      isplitl [HB_dst0 HB_src0]
      · isplitl [HB_dst0]; · iexact HB_dst0
        iexact HB_src0
      isplitl [HB_dst1 HB_src1]
      · isplitl [HB_dst1]; · iexact HB_dst1
        iexact HB_src1
      isplitl [HB_dst2 HB_src2]
      · isplitl [HB_dst2]; · iexact HB_dst2
        iexact HB_src2
      isplitl [HB_dst3 HB_src3]
      · isplitl [HB_dst3]; · iexact HB_dst3
        iexact HB_src3
      isplitl [HB_dst4 HB_src4]
      · isplitl [HB_dst4]; · iexact HB_dst4
        iexact HB_src4
      isplitl [HB_dst5 HB_src5]
      · isplitl [HB_dst5]; · iexact HB_dst5
        iexact HB_src5
      isplitl [HB_dst6 HB_src6]
      · isplitl [HB_dst6]; · iexact HB_dst6
        iexact HB_src6
      isplitl [HB_dst7]; · iexact HB_dst7
      iexact HB_src7
    isplitl [HB0_dst0 HB0_src0 HB0_dst1 HB0_src1 HB0_dst2 HB0_src2 HB0_dst3 HB0_src3 HB0_dst4 HB0_src4 HB0_dst5 HB0_src5 HB0_dst6 HB0_src6 HB0_dst7 HB0_src7]
    · skip
      isplitl [HB0_dst0 HB0_src0]
      · isplitl [HB0_dst0]; · iexact HB0_dst0
        iexact HB0_src0
      isplitl [HB0_dst1 HB0_src1]
      · isplitl [HB0_dst1]; · iexact HB0_dst1
        iexact HB0_src1
      isplitl [HB0_dst2 HB0_src2]
      · isplitl [HB0_dst2]; · iexact HB0_dst2
        iexact HB0_src2
      isplitl [HB0_dst3 HB0_src3]
      · isplitl [HB0_dst3]; · iexact HB0_dst3
        iexact HB0_src3
      isplitl [HB0_dst4 HB0_src4]
      · isplitl [HB0_dst4]; · iexact HB0_dst4
        iexact HB0_src4
      isplitl [HB0_dst5 HB0_src5]
      · isplitl [HB0_dst5]; · iexact HB0_dst5
        iexact HB0_src5
      isplitl [HB0_dst6 HB0_src6]
      · isplitl [HB0_dst6]; · iexact HB0_dst6
        iexact HB0_src6
      isplitl [HB0_dst7]; · iexact HB0_dst7
      iexact HB0_src7
    isplitl [HB0]; · iexact HB0
    isplitl [HB]; · iexact HB
    iexists _; iexact HW

end Cert.Kernel1Ideal.Hand

end
-- ==== Proof.Kernel1Ideal.Frame.lean ====
/-
  What every point of the feed-forward call leaves, and the run of the whole call: it ends, its arguments unchanged,
  the result's rows those of the points' slabs.
-/
module

public import proofs.«01_k».proof.Proof.Kernel1Ideal.Landing
public import proofs.«01_k».proof.Proof.Kernel1Ideal.Run0
public import proofs.«01_k».proof.Proof.Kernel1Ideal.RunM
public import proofs.«01_k».proof.Proof.Kernel1Ideal.RunL

@[expose] public section

noncomputable section

namespace Cert.Kernel1Ideal.Hand

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ) (ρ : Dev nD → PrngReg)

/-! ## What each point leaves -/

/-- Window 0's block at a point. -/
abbrev blk0 (c : Dev nD) (t : Fin cfg0.N) : Vec F S64x8x1024 .f32 := iblk m c 0 t
/-- Window 1's block at a point. -/
abbrev blk1 (c : Dev nD) (t : Fin cfg0.N) : Vec F S2x8x3072 .f32 := iblk m c 1 t
/-- Window 2's block at a point. -/
abbrev blk2 (c : Dev nD) (t : Fin cfg0.N) : Vec F S1x1024 .f32 := iblk m c 2 t
/-- Window 3's block at a point. -/
abbrev blk3 (c : Dev nD) (t : Fin cfg0.N) : Vec F S1024x3072 .bf16 := iblk m c 3 t
/-- Window 4's block at a point. -/
abbrev blk4 (c : Dev nD) (t : Fin cfg0.N) : Vec F S1024x3072 .bf16 := iblk m c 4 t
/-- Window 5's block at a point. -/
abbrev blk5 (c : Dev nD) (t : Fin cfg0.N) : Vec F S3x3072 .f32 := iblk m c 5 t
/-- Window 6's block at a point. -/
abbrev blk6 (c : Dev nD) (t : Fin cfg0.N) : Vec F S1x3072 .f32 := iblk m c 6 t
/-- Window 7's block at a point. -/
abbrev blk7 (c : Dev nD) (t : Fin cfg0.N) : Vec F S3072x1024 .bf16 := iblk m c 7 t
/-- Window 8's block at a point. -/
abbrev blk8 (c : Dev nD) (t : Fin cfg0.N) : Vec F S1x1024 .f32 := iblk m c 8 t

/-- Three column tiles side by side. -/
def sideBySide (A B C : FVec F S2x8x1024 .f32) : Vec F S2x8x3072 .f32 := fun x =>
  if h : (x 2).val < 1024 then A (ix3 (x 0 : Fin 2) (x 1 : Fin 8) (⟨(x 2).val, h⟩ : Fin 1024))
  else if h' : (x 2).val < 2048 then B (ix3 (x 0 : Fin 2) (x 1 : Fin 8) (⟨(x 2).val - 1024, by omega⟩ : Fin 1024))
  else C (ix3 (x 0 : Fin 2) (x 1 : Fin 8) (⟨(x 2).val - 2048, by have h3 : (x 2).val < 3072 := (x 2).isLt; omega⟩ : Fin 1024))

/-- What a point leaves in the new convolution state. -/
def stateOf (x2 : Vec F S64x8x1024 .f32) (x4 : Vec F S1x1024 .f32) (x5 : Vec F S1024x3072 .bf16) : Vec F S2x8x3072 .f32 :=
  sideBySide (k0_pay9 (k0_pay4 (cut x2 allX.toLoadRect) (cut x4 allG.toLoadRect) (cut x5 colW0.toLoadRect)))
    (k0_pay16 (rowsIn x2 x4) (cut x5 colW1.toLoadRect)) (k0_pay23 (k0_pay18 (rowsIn x2 x4) (cut x5 colW2.toLoadRect)))

theorem all3 {P : Fin 3 → Prop} (h0 : P 0) (h1 : P 1) (h2 : P 2) : ∀ a, P a
  | 0 => h0
  | 1 => h1
  | 2 => h2

theorem tiles_read (v : View sig .tc .vmem S2x8x3072 .f32) (f) (A B C : FVec F S2x8x1024 .f32) :
    v.read (Elt F) (v.writes (Elt F) f [⟨colS2, C⟩, ⟨colS1, B⟩, ⟨colS0, A⟩]) = sideBySide A B C := by
  funext x
  have h3 : (x 2).val < 3072 := (x 2).isLt
  unfold sideBySide
  by_cases h : (x 2).val < 1024
  · rw [dif_pos h]
    refine (View.read_writes_cons_unit_of_not_mem v f _ C _ x rfl 2 (Or.inl (show (x 2).val < 2048 by omega))).trans ?_
    refine (View.read_writes_cons_unit_of_not_mem v f _ B _ x rfl 2 (Or.inl (show (x 2).val < 1024 by omega))).trans ?_
    exact View.read_writes_cons_unit_of_mem v f _ A _ x (ix3 (x 0 : Fin 2) (x 1 : Fin 8) (⟨(x 2).val, h⟩ : Fin 1024)) rfl
      (all3 (Nat.zero_add _).symm (Nat.zero_add _).symm (Nat.zero_add _).symm)
  · rw [dif_neg h]
    by_cases h' : (x 2).val < 2048
    · rw [dif_pos h']
      refine (View.read_writes_cons_unit_of_not_mem v f _ C _ x rfl 2 (Or.inl (show (x 2).val < 2048 by omega))).trans ?_
      exact View.read_writes_cons_unit_of_mem v f _ B _ x (ix3 (x 0 : Fin 2) (x 1 : Fin 8) (⟨(x 2).val - 1024, by omega⟩ : Fin 1024)) rfl
        (all3 (Nat.zero_add _).symm (Nat.zero_add _).symm (show (x 2).val = 1024 + ((x 2).val - 1024) by omega))
    · rw [dif_neg h']
      exact View.read_writes_cons_unit_of_mem v f _ C _ x (ix3 (x 0 : Fin 2) (x 1 : Fin 8) (⟨(x 2).val - 2048, by omega⟩ : Fin 1024)) rfl
        (all3 (Nat.zero_add _).symm (Nat.zero_add _).symm (show (x 2).val = 2048 + ((x 2).val - 2048) by omega))

theorem state_read (v : View sig .tc .vmem S2x8x3072 .f32) (f) (x2 : Vec F S64x8x1024 .f32) (x4 : Vec F S1x1024 .f32) (x5 : Vec F S1024x3072 .bf16) :
    v.read (Elt F) (v.writes (Elt F) f (statePieces x2 x4 x5)) = stateOf x2 x4 x5 := tiles_read v f _ _ _

/-- Three column tiles of carried rows side by side. -/
def carrySide (A B C : FVec F S16x1024 .f32) : Vec F S16x3072 .f32 := fun x =>
  if h : (x 1).val < 1024 then A (ix2 (x 0 : Fin 16) (⟨(x 1).val, h⟩ : Fin 1024))
  else if h' : (x 1).val < 2048 then B (ix2 (x 0 : Fin 16) (⟨(x 1).val - 1024, by omega⟩ : Fin 1024))
  else C (ix2 (x 0 : Fin 16) (⟨(x 1).val - 2048, by have h3 : (x 1).val < 3072 := (x 1).isLt; omega⟩ : Fin 1024))

/-- The pre-activations a point carries to the next. -/
def carryOf (x2 : Vec F S64x8x1024 .f32) (x4 : Vec F S1x1024 .f32) (x5 : Vec F S1024x3072 .bf16) : Vec F S16x3072 .f32 :=
  carrySide (k0_pay8 (k0_pay4 (cut x2 allX.toLoadRect) (cut x4 allG.toLoadRect) (cut x5 colW0.toLoadRect)))
    (k0_pay15 (rowsIn x2 x4) (cut x5 colW1.toLoadRect)) (k0_pay22 (k0_pay18 (rowsIn x2 x4) (cut x5 colW2.toLoadRect)))

theorem all2 {P : Fin 2 → Prop} (h0 : P 0) (h1 : P 1) : ∀ a, P a
  | 0 => h0
  | 1 => h1

theorem carry_tiles_read (v : View sig .tc .vmem S16x3072 .f32) (f) (A B C : FVec F S16x1024 .f32) :
    v.read (Elt F) (v.writes (Elt F) f [⟨colU2, C⟩, ⟨colU1, B⟩, ⟨colU0, A⟩]) = carrySide A B C := by
  funext x
  have h3 : (x 1).val < 3072 := (x 1).isLt
  unfold carrySide
  by_cases h : (x 1).val < 1024
  · rw [dif_pos h]
    refine (View.read_writes_cons_unit_of_not_mem v f _ C _ x rfl 1 (Or.inl (show (x 1).val < 2048 by omega))).trans ?_
    refine (View.read_writes_cons_unit_of_not_mem v f _ B _ x rfl 1 (Or.inl (show (x 1).val < 1024 by omega))).trans ?_
    exact View.read_writes_cons_unit_of_mem v f _ A _ x (ix2 (x 0 : Fin 16) (⟨(x 1).val, h⟩ : Fin 1024)) rfl
      (all2 (Nat.zero_add _).symm (Nat.zero_add _).symm)
  · rw [dif_neg h]
    by_cases h' : (x 1).val < 2048
    · rw [dif_pos h']
      refine (View.read_writes_cons_unit_of_not_mem v f _ C _ x rfl 1 (Or.inl (show (x 1).val < 2048 by omega))).trans ?_
      exact View.read_writes_cons_unit_of_mem v f _ B _ x (ix2 (x 0 : Fin 16) (⟨(x 1).val - 1024, by omega⟩ : Fin 1024)) rfl
        (all2 (Nat.zero_add _).symm (show (x 1).val = 1024 + ((x 1).val - 1024) by omega))
    · rw [dif_neg h']
      exact View.read_writes_cons_unit_of_mem v f _ C _ x (ix2 (x 0 : Fin 16) (⟨(x 1).val - 2048, by omega⟩ : Fin 1024)) rfl
        (all2 (Nat.zero_add _).symm (show (x 1).val = 2048 + ((x 1).val - 2048) by omega))

theorem carry_read (v : View sig .tc .vmem S16x3072 .f32) (f) (x2 : Vec F S64x8x1024 .f32) (x4 : Vec F S1x1024 .f32) (x5 : Vec F S1024x3072 .bf16) :
    v.read (Elt F) (v.writes (Elt F) f (carryPieces x2 x4 x5)) = carryOf x2 x4 x5 := carry_tiles_read v f _ _ _

/-- The carried pre-activations a point reads: at the first, the convolution state it is given. -/
def carryIn (c : Dev nD) (t : Fin cfg0.N) : Vec F S16x3072 .f32 :=
  if h : t.val = 0 then carried (blk1 m c t)
  else carryOf (blk0 m c ⟨t.val - 1, Nat.lt_of_le_of_lt (Nat.sub_le _ _) t.isLt⟩) (blk2 m c ⟨t.val - 1, Nat.lt_of_le_of_lt (Nat.sub_le _ _) t.isLt⟩)
    (blk3 m c ⟨t.val - 1, Nat.lt_of_le_of_lt (Nat.sub_le _ _) t.isLt⟩)

theorem carryIn_first (c : Dev nD) : carryIn m c pt0 = carried (blk1 m c pt0) := dif_pos rfl
theorem carryIn_next (c : Dev nD) (t tp : Fin cfg0.N) (h : t.val = tp.val + 1) :
    carryIn m c t = carryOf (blk0 m c tp) (blk2 m c tp) (blk3 m c tp) := by
  unfold carryIn
  rw [dif_neg (by omega), show (⟨t.val - 1, Nat.lt_of_le_of_lt (Nat.sub_le _ _) t.isLt⟩ : Fin cfg0.N) = tp from Fin.ext (show t.val - 1 = tp.val by omega)]

/-- The slab of finished rows of a point. -/
def slabAt (c : Dev nD) (t : Fin cfg0.N) : FVec F S1x64x8x1024 .f32 := slab (blk0 m c t) (carryIn m c t) (blk2 m c t) (blk3 m c t) (blk4 m c t) (blk5 m c t) (blk6 m c t) (blk7 m c t) (blk8 m c t)

/-- What the call leaves in the result in HBM: row `64 t + r` of sequence `k` is row `(r, k)` of point `t`'s slab. -/
def rowsOut (c : Dev nD) : BufOf (F := F) c hbY := fun (x : S8x2048x1024.Idx) =>
  slabAt m c ⟨(x 1).val / 64, by have h : (x 1).val < 2048 := (x 1).isLt; show _ < 32; omega⟩
    (ix4 (0 : Fin 1) (⟨(x 1).val % 64, Nat.mod_lt _ (by decide)⟩ : Fin 64) (x 0 : Fin 8) (x 2 : Fin 1024))

theorem rowsOut_at (c : Dev nD) (t : Fin cfg0.N) (r : Fin 64) (x : S8x2048x1024.Idx) (hx : (x 1).val = 64 * t.val + r.val) :
    rowsOut m c x = slabAt m c t (ix4 (0 : Fin 1) r (x 0 : Fin 8) (x 2 : Fin 1024)) := by
  have hr := r.isLt
  have h1 : (⟨(x 1).val / 64, by have h : (x 1).val < 2048 := (x 1).isLt; show _ < 32; omega⟩ : Fin cfg0.N) = t :=
    Fin.ext (show (x 1).val / 64 = t.val by omega)
  have h2 : (⟨(x 1).val % 64, Nat.mod_lt _ (by decide)⟩ : Fin 64) = r := Fin.ext (show (x 1).val % 64 = r.val by omega)
  show slabAt m c _ (ix4 (0 : Fin 1) _ (x 0 : Fin 8) (x 2 : Fin 1024)) = _
  rw [h1, h2]

/-! ## The buffers and counters the body holds of its own -/

abbrev osem0 : Fin 2 → SemLoc sig := fun j => (![SemLoc.dma 11, SemLoc.dma 12] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0) := by
  rw [Pipeline.ownSems0_eq_of_list c osem0 [0, 1] (by decide) (by decide)]; rfl

/-- No buffer outside the windows is only read. -/
def H0 : Finset (Ref sig .tc) := ∅
/-- The body's copies write the result in HBM. -/
def R0 : Finset (Ref sig .tc) := {main_v12_0}
theorem H0_sub : H0 ⊆ Pipeline.restRefs sig spec0 := by decide
theorem R0_sub : R0 ⊆ Pipeline.restRefs sig spec0 \ H0 := by decide

/-- What the call leaves in the buffers its own copies write. -/
def G (c : Dev nD) (b : Ref sig .tc) : Buf (Elt F) ((c : Thread nD τ).loc b) :=
  if h : b = main_v12_0 then h ▸ (rowsOut m c : Buf (Elt F) ((c : Thread nD τ).loc main_v12_0)) else V m c b
theorem G_rows (c : Dev nD) : G m c main_v12_0 = rowsOut m c := by unfold G; rw [dif_pos rfl]

theorem routed_eq (c : Dev nD) (W : (b : Ref sig .tc) → Buf (Elt F) ((c : Thread nD τ).loc b)) :
    (Pipeline.routed R0 c W : sProp 𝕄) = iprop(hbY.view.loc (c : Thread nD τ) ↦{fullShare} W main_v12_0) := by
  unfold Pipeline.routed; rw [BI.bigSep_eq_bigSepL_of_eq [main_v12_0] (by decide) (by decide)]; rfl

/-- Nothing outside the windows is only read: an empty holding. -/
def hold (c : Dev nD) : sProp 𝕄 := bigSep H0 (fun b => ((c : Thread nD τ).loc b) ↦{fullShare} V m c b)

theorem PhiDRG0_eq (W : (c : Dev nD) → (b : Ref sig .tc) → Buf (Elt F) ((c : Thread nD τ).loc b)) (c : Dev nD) :
    (Pipeline.ΦDRG osem0 spec0 H0 R0 (V m) W c : sProp 𝕄)
      = iprop(iprop((∃ d, owns (c : Thread nD τ) scU fullShare d) ∗ (∃ f : BufOf (F := F) c scY, scY.view.loc (c : Thread nD τ) ↦{fullShare} f))
          ∗ (∃ r, prngReg c r)
          ∗ iprop(semVal ((c : Thread nD τ), SemLoc.dma 11) 0 ∗ semVal ((c : Thread nD τ), SemLoc.dma 12) 0)
          ∗ hold m c
          ∗ iprop(hbY.view.loc (c : Thread nD τ) ↦{fullShare} W c main_v12_0)) := by
  rw [Pipeline.ΦDRG_eq, scopedRest0_eq, ownSems00_eq, routed_eq]
  simp only [scU, owns_whole]; rfl

/-! ## The pipeline's data -/

/-- The counter of a point's copies. -/
def semOf (t : Fin cfg0.N) : DmaSem sig := if t.val % 2 = 0 then (11 : DmaSem sig) else (12 : DmaSem sig)
theorem semOf_parity (t t' : Fin cfg0.N) (h : t.val % 2 = t'.val % 2) : semOf t = semOf t' := by unfold semOf; rw [h]

theorem counter_zero (o : Fin 1 → ℕ) (h) (e : o = ![0]) : counter o h = (11 : DmaSem sig) := by subst e; apply Fin.ext; revert h; decide +kernel
theorem counter_one (o : Fin 1 → ℕ) (h) (e : o = ![1]) : counter o h = (12 : DmaSem sig) := by subst e; apply Fin.ext; revert h; decide +kernel
theorem off_own (t : Fin cfg0.N) : k0_off2 (grid0.coords t) = ![t.val % 2] := by revert t; decide +kernel
theorem off_prev (t : Fin cfg0.N) : 0 < t.val → k0_off19 (grid0.coords t) = ![(t.val + 1) % 2] := by revert t; decide +kernel
theorem counter_own (t : Fin cfg0.N) : counter (k0_off2 (grid0.coords t)) (k0_off2_inb _) = semOf t := by
  unfold semOf
  by_cases h : t.val % 2 = 0
  · rw [if_pos h]; exact counter_zero _ _ ((off_own t).trans (by rw [h]))
  · rw [if_neg h]; exact counter_one _ _ ((off_own t).trans (by rw [show t.val % 2 = 1 by omega]))
theorem counter_prev (t tp : Fin cfg0.N) (ht : t.val = tp.val + 1) (e2) :
    counter (k0_off19 (grid0.coords t)) (k0_off19_inb _ e2) = semOf tp := by
  unfold semOf
  have e := off_prev t (by omega)
  by_cases h : tp.val % 2 = 0
  · rw [if_pos h]; exact counter_zero _ _ (e.trans (by rw [show (t.val + 1) % 2 = 0 by omega]))
  · rw [if_neg h]; exact counter_one _ _ (e.trans (by rw [show (t.val + 1) % 2 = 1 by omega]))

theorem not_first (t : Fin cfg0.N) : 0 < t.val → (Scalar.cmpi .ne (Scalar.extui (Scalar.cmpi .eq (BitVec.ofNat 32 ((grid0.coords t) 1).val) 0#32) : BitVec 32) 0#32) ≠ 1#1 := by
  revert t; decide +kernel
theorem waits_prev (t : Fin cfg0.N) : 0 < t.val → k0_cond2 (grid0.coords t) = 1#1 := by revert t; decide +kernel
theorem not_last (t : Fin cfg0.N) : t.val < 31 → k0_cond3 (grid0.coords t) ≠ 1#1 := by revert t; decide +kernel

/-- The rows from the end on, at whatever contents. -/
theorem onFrom_none (c : Dev nD) (f g : BufOf (F := F) c hbY) :
    (hbY.view.loc (c : Thread nD τ) ↦[onFrom 32]{fullShare} f : sProp 𝕄) = (hbY.view.loc (c : Thread nD τ) ↦[onFrom 32]{fullShare} g) :=
  pointsTo_congr fun x hx => absurd ((mem_onFrom 32 x).mp hx) (by have h : (x 1).val < 2048 := (x 1).isLt; omega)
/-- The result held whole is the rows up to the end and those from it on. -/
theorem whole_end (c : Dev nD) (f : BufOf (F := F) c hbY) :
    (hbY.view.loc (c : Thread nD τ) ↦{fullShare} f : sProp 𝕄)
      = iprop((hbY.view.loc (c : Thread nD τ) ↦[upTo 32]{fullShare} f) ∗ (hbY.view.loc (c : Thread nD τ) ↦[onFrom 32]{fullShare} f)) :=
  two_regions c f (upTo 32) (onFrom 32) Finset.univ
    (fun x => ⟨fun _ => Or.inl ((mem_upTo 32 x).mpr (by have h : (x 1).val < 2048 := (x 1).isLt; omega)), fun _ => Finset.mem_univ x⟩)
    (fun x h h' => absurd ((mem_upTo 32 x).mp h) (by have := (mem_onFrom 32 x).mp h'; omega))

/-- Before point `t`, after point `tp`: the copies of `tp` in flight, those of the earlier points landed. -/
def between (c : Dev nD) (t tp : Fin cfg0.N) : sProp 𝕄 :=
  iprop(owns (c : Thread nD τ) scU fullShare (carryIn m c t) ∗ (∃ r, prngReg c r)
    ∗ (∃ gS : BufOf (F := F) c scY, ⌜∃ f, gS = scY.view.writes (Elt F) f (slotPieces (grid0.coords tp) (blk0 m c tp) (carryIn m c tp) (blk2 m c tp) (blk3 m c tp) (blk4 m c tp) (blk5 m c tp) (blk6 m c tp) (blk7 m c tp) (blk8 m c tp))⌝
        ∗ flights c (semOf tp) tp gS (V m c main_v12_0) 8)
    ∗ (∃ f : BufOf (F := F) c scY, scY.view.loc (c : Thread nD τ) ↦[slotSet (grid0.coords t)]{fullShare} f)
    ∗ semVal ((c : Thread nD τ), SemLoc.dma (semOf t)) 0 ∗ hold m c
    ∗ (hbY.view.loc (c : Thread nD τ) ↦[upTo tp.val]{fullShare} rowsOut m c)
    ∗ (hbY.view.loc (c : Thread nD τ) ↦[onFrom t.val]{fullShare} V m c main_v12_0))

/-- The invariant before point `n`. -/
def Inv (c : Dev nD) : ℕ → sProp 𝕄
  | 0 => Pipeline.ΦDRG osem0 spec0 H0 R0 (V m) (V m) c
  | n + 1 => if h : n + 1 < cfg0.N then between m c ⟨n + 1, h⟩ ⟨n, Nat.lt_of_succ_lt h⟩ else Pipeline.ΦDRG osem0 spec0 H0 R0 (V m) (G m) c

theorem Inv_between (c : Dev nD) (t tp : Fin cfg0.N) (h : t.val = tp.val + 1) : Inv m c t.val = between m c t tp := by
  obtain ⟨n, hn⟩ := t
  obtain ⟨k, hk⟩ := tp
  obtain rfl : n = k + 1 := h
  exact dif_pos hn
theorem Inv_end (c : Dev nD) : Inv m c 32 = Pipeline.ΦDRG osem0 spec0 H0 R0 (V m) (G m) c := by
  show (if h : 31 + 1 < cfg0.N then between m c ⟨31 + 1, h⟩ ⟨31, Nat.lt_of_succ_lt h⟩ else _) = _
  exact dif_neg (Nat.lt_irrefl 32)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => stateOf (blk0 m c t) (blk2 m c t) (blk3 m c t)
  Φ t := Inv m c t.val
  q _ := fullShare
  owed _ := 0

theorem A_eq (c : Dev nD) (w : Fin cfg0.W) : (dats m 0 c).A w = V m c (Pipeline.arrRef spec0 w) := by
  dsimp only [dats]
theorem after0_9 (c : Dev nD) (t : Fin cfg0.N) : (dats m 0 c).after 9 t = stateOf (blk0 m c t) (blk2 m c t) (blk3 m c t) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

/-! ## The body at each point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The last point but one. -/
abbrev pt30 : Fin cfg0.N := ⟨30, by decide⟩

theorem sound_body0 (c : Dev nD) :
    bodyPre m c pt0 ⊢ wp frame (wpE (defs₀ (F := F)) Variants.none c none) Set.univ (bodyAt0 pt0) (fun _ => bodyPost m c pt0) := by
  unfold bodyPre bodyPost bodyAt0
  simp only [before0_0, before0_1, before0_2, before0_3, before0_4, before0_5, before0_6, before0_7, before0_8]
  rw [after0_0, after0_1, after0_2, after0_3, after0_4, after0_5, after0_6, after0_7, after0_8, after0_9]
  rw [show (dats m 0 c).Φ pt0.castSucc = Pipeline.ΦDRG osem0 spec0 H0 R0 (V m) (V m) c from rfl, show (dats m 0 c).Φ pt0.succ = between m c pt1 pt0 from Inv_between m c pt1 pt0 rfl, PhiDRG0_eq]
  unfold Dat.owesAt Pipeline.owesWithin
  rw [show (dats m 0 c).owed pt0.castSucc = 0 from rfl, show (dats m 0 c).owed pt0.succ = 0 from rfl]
  unfold between
  rw [carryIn_next m c pt1 pt0 rfl, carryIn_first, show semOf pt0 = (11 : DmaSem sig) from rfl, show semOf pt1 = (12 : DmaSem sig) from rfl]
  iintro ⟨⟨⟨HU, HY⟩, Hg, ⟨Hq0, Hq1⟩, Hh, Hy⟩, ⟨%W, -, HW⟩, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩⟩
  ihave Hy := (Entails.of_eq (whole_onFrom c (V m c main_v12_0))) $$ Hy
  icases Hy with ⟨Hy0, Hy⟩
  ihave Hy0 := (Entails.of_eq (upTo_none c (V m c main_v12_0) (rowsOut m c))) $$ Hy0
  ihave Hy := (Entails.of_eq (onFrom_split c pt0 (V m c main_v12_0))) $$ Hy
  icases Hy with ⟨Hp, Hy⟩
  iapply (run0 c (st0_0 pt0) (hstage0_0 ((cfg0.slots pt0 0).cast nbuf0_0)) (st0_1 pt0) (hstage0_1 ((cfg0.slots pt0 1).cast nbuf0_1)) (st0_2 pt0) (hstage0_2 ((cfg0.slots pt0 2).cast nbuf0_2)) (st0_3 pt0) (hstage0_3 ((cfg0.slots pt0 3).cast nbuf0_3)) (st0_4 pt0) (hstage0_4 ((cfg0.slots pt0 4).cast nbuf0_4)) (st0_5 pt0) (hstage0_5 ((cfg0.slots pt0 5).cast nbuf0_5)) (st0_6 pt0) (hstage0_6 ((cfg0.slots pt0 6).cast nbuf0_6)) (st0_7 pt0) (hstage0_7 ((cfg0.slots pt0 7).cast nbuf0_7)) (st0_8 pt0) (hstage0_8 ((cfg0.slots pt0 8).cast nbuf0_8)) (st0_9 pt0) (hstage0_9 ((cfg0.slots pt0 9).cast nbuf0_9)) (blk0 m c pt0) (blk1 m c pt0) (blk2 m c pt0) (blk3 m c pt0) (blk4 m c pt0) (blk5 m c pt0) (blk6 m c pt0) (blk7 m c pt0) (blk8 m c pt0) (V m c main_v12_0) W _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexists _; iexact B9
  isplitl [HU]; · iexact HU
  isplitl [HY]; · simp only [scY, owns_whole]; iexact HY
  isplitl [Hp]; · iexact Hp
  isplitl [Hq0]; · iexact Hq0
  isplitl [HW]; · iexact HW
  iintro ⟨B0, B1, B2, B3, B4, B5, B6, B7, B8, ⟨%e9, B9⟩, ⟨%fC, HU⟩, ⟨%gS, %hgS, HB, HY⟩, ⟨%W', HW'⟩⟩
  isplitl [HU HY HB Hg Hq1 Hh Hy0 Hy]
  · isplitl [HU]
    · unfold owns; iexists _; isplitr
      swap; · iexact HU
      ipureintro; exact carry_read _ _ _ _ _
    isplitl [Hg]; · iexact Hg
    isplitl [HB]
    · iexists gS; isplitr; · ipureintro; exact hgS
      iexact HB
    isplitl [HY]; · iexists gS; iexact HY
    isplitl [Hq1]; · iexact Hq1
    isplitl [Hh]; · iexact Hh
    isplitl [Hy0]; · iexact Hy0
    iexact Hy
  isplitl [HW']
  · iexists W'; isplitr; · ipureintro; exact fun _ _ => Or.inl trivial
    iexact HW'
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  unfold owns; iexists _; isplitr
  swap; · iexact B9
  ipureintro; exact state_read _ _ _ _ _

theorem sound_bodyM (c : Dev nD) (t tp tn : Fin cfg0.N) (hp : t.val = tp.val + 1) (hn : tn.val = t.val + 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [after0_0, after0_1, after0_2, after0_3, after0_4, after0_5, after0_6, after0_7, after0_8, after0_9]
  rw [show (dats m 0 c).Φ t.castSucc = between m c t tp from Inv_between m c t tp hp, show (dats m 0 c).Φ t.succ = between m c tn t from (congrArg (Inv m c) hn.symm).trans (Inv_between m c tn t hn)]
  unfold Dat.owesAt Pipeline.owesWithin
  rw [show (dats m 0 c).owed t.castSucc = 0 from rfl, show (dats m 0 c).owed t.succ = 0 from rfl]
  have hlt : tn.val < 32 := tn.isLt
  have e2 := waits_prev t (by omega)
  unfold between
  iintro ⟨⟨HU, Hg, ⟨%gS0, %hgS0, HB⟩, ⟨%fY, HY⟩, Hq, Hh, Hd, Hy⟩, ⟨%W, -, HW⟩, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩⟩
  ihave Hy := (Entails.of_eq (onFrom_split c t (V m c main_v12_0))) $$ Hy
  icases Hy with ⟨Hp, Hy⟩
  iapply (runM c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (blk0 m c t) (blk1 m c t) (blk2 m c t) (blk3 m c t) (blk4 m c t) (blk5 m c t) (blk6 m c t) (blk7 m c t) (blk8 m c t) (carryIn m c t) t tp (semOf t) (semOf tp) (not_first t (by omega)) e2 (not_last t (by omega)) (counter_own t) (counter_prev t tp hp e2) gS0 (V m c main_v12_0) W _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexists _; iexact B9
  isplitl [HU]; · iexact HU
  isplitl [HY]; · iexists fY; unfold slotHeld; iexact HY
  isplitl [HB]; · iexact HB
  isplitl [Hp]; · iexact Hp
  isplitl [Hq]; · iexact Hq
  isplitl [HW]; · iexact HW
  iintro ⟨B0, B1, B2, B3, B4, B5, B6, B7, B8, ⟨%e9, B9⟩, ⟨%fC, HU⟩, ⟨%gS, %hgS, HB⟩, HE, Hq, ⟨%W', HW'⟩⟩
  obtain ⟨f0, hf0⟩ := hgS0
  ihave HE := (landed_rows c tp gS0 (V m c main_v12_0) (rowsOut m c) (slabAt m c tp) (fun x hx => slot_read c tp f0 gS0 _ hf0 x hx)
    (fun r x hx => rowsOut_at m c tp r x hx)) $$ HE
  icases HE with ⟨P0, T0⟩
  isplitl [HU HB Hg Hq Hh Hd Hy P0 T0]
  · rw [carryIn_next m c tn t hn]
    isplitl [HU]
    · unfold owns; iexists _; isplitr
      swap; · iexact HU
      ipureintro; exact carry_read _ _ _ _ _
    isplitl [Hg]; · iexact Hg
    isplitl [HB]
    · iexists gS; isplitr; · ipureintro; exact hgS
      iexact HB
    isplitl [T0]
    · iexists gS0; rw [slotSet_parity tn tp (by omega)]; iexact T0
    isplitl [Hq]; · rw [semOf_parity tn tp (by omega)]; iexact Hq
    isplitl [Hh]; · iexact Hh
    isplitl [Hd P0]
    · rw [hp]
      iapply (Entails.of_eq (upTo_join c tp (rowsOut m c)).symm)
      isplitl [Hd]; · iexact Hd
      iexact P0
    rw [hn]; iexact Hy
  isplitl [HW']
  · iexists W'; isplitr; · ipureintro; exact fun _ _ => Or.inl trivial
    iexact HW'
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  unfold owns; iexists _; isplitr
  swap; · iexact B9
  ipureintro; exact state_read _ _ _ _ _

theorem sound_bodyL (c : Dev nD) :
    bodyPre m c pt31 ⊢ wp frame (wpE (defs₀ (F := F)) Variants.none c none) Set.univ (bodyAt0 pt31) (fun _ => bodyPost m c pt31) := by
  unfold bodyPre bodyPost bodyAt0
  simp only [before0_0, before0_1, before0_2, before0_3, before0_4, before0_5, before0_6, before0_7, before0_8]
  rw [after0_0, after0_1, after0_2, after0_3, after0_4, after0_5, after0_6, after0_7, after0_8, after0_9]
  rw [show (dats m 0 c).Φ pt31.castSucc = between m c pt31 pt30 from Inv_between m c pt31 pt30 rfl, show (dats m 0 c).Φ pt31.succ = Pipeline.ΦDRG osem0 spec0 H0 R0 (V m) (G m) c from Inv_end m c, PhiDRG0_eq]
  unfold Dat.owesAt Pipeline.owesWithin
  rw [show (dats m 0 c).owed pt31.castSucc = 0 from rfl, show (dats m 0 c).owed pt31.succ = 0 from rfl]
  unfold between
  rw [show semOf pt30 = (11 : DmaSem sig) from rfl, show semOf pt31 = (12 : DmaSem sig) from rfl]
  iintro ⟨⟨HU, Hg, ⟨%gS0, %hgS0, HB⟩, ⟨%fY, HY⟩, Hq, Hh, Hd, Hy⟩, ⟨%W, -, HW⟩, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩⟩
  ihave Hy := (Entails.of_eq (onFrom_split c pt31 (V m c main_v12_0))) $$ Hy
  icases Hy with ⟨Hp, Hy⟩
  ihave Hy := (Entails.of_eq (onFrom_none c (V m c main_v12_0) (rowsOut m c))) $$ Hy
  iapply (runL c (st0_0 pt31) (hstage0_0 ((cfg0.slots pt31 0).cast nbuf0_0)) (st0_1 pt31) (hstage0_1 ((cfg0.slots pt31 1).cast nbuf0_1)) (st0_2 pt31) (hstage0_2 ((cfg0.slots pt31 2).cast nbuf0_2)) (st0_3 pt31) (hstage0_3 ((cfg0.slots pt31 3).cast nbuf0_3)) (st0_4 pt31) (hstage0_4 ((cfg0.slots pt31 4).cast nbuf0_4)) (st0_5 pt31) (hstage0_5 ((cfg0.slots pt31 5).cast nbuf0_5)) (st0_6 pt31) (hstage0_6 ((cfg0.slots pt31 6).cast nbuf0_6)) (st0_7 pt31) (hstage0_7 ((cfg0.slots pt31 7).cast nbuf0_7)) (st0_8 pt31) (hstage0_8 ((cfg0.slots pt31 8).cast nbuf0_8)) (st0_9 pt31) (hstage0_9 ((cfg0.slots pt31 9).cast nbuf0_9)) (blk0 m c pt31) (blk1 m c pt31) (blk2 m c pt31) (blk3 m c pt31) (blk4 m c pt31) (blk5 m c pt31) (blk6 m c pt31) (blk7 m c pt31) (blk8 m c pt31) (carryIn m c pt31) pt30 gS0 (V m c main_v12_0) W _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexists _; iexact B9
  isplitl [HU]; · iexact HU
  isplitl [HY]; · iexists fY; unfold slotHeld; iexact HY
  isplitl [HB]; · iexact HB
  isplitl [Hp]; · iexact Hp
  isplitl [Hq]; · iexact Hq
  isplitl [HW]; · iexact HW
  iintro ⟨B0, B1, B2, B3, B4, B5, B6, B7, B8, ⟨%e9, B9⟩, ⟨%fC, HU⟩, ⟨%gS, %hgS, HD⟩, HE, Hq0, Hq1, ⟨%W', HW'⟩⟩
  obtain ⟨f0, hf0⟩ := hgS0
  obtain ⟨f1, hf1⟩ := hgS
  ihave HE := (landed_rows c pt30 gS0 (V m c main_v12_0) (rowsOut m c) (slabAt m c pt30) (fun x hx => slot_read c pt30 f0 gS0 _ hf0 x hx)
    (fun r x hx => rowsOut_at m c pt30 r x hx)) $$ HE
  ihave HD := (landed_rows c pt31 gS (V m c main_v12_0) (rowsOut m c) (slabAt m c pt31) (fun x hx => slot_read c pt31 f1 gS _ hf1 x hx)
    (fun r x hx => rowsOut_at m c pt31 r x hx)) $$ HD
  icases HE with ⟨P0, T0⟩
  icases HD with ⟨P1, T1⟩
  isplitl [HU Hg Hq0 Hq1 Hh Hd Hy P0 P1 T0 T1]
  · isplitl [HU T0 T1]
    · isplitl [HU]
      · unfold owns; iexists _, _; isplitr
        swap; · iexact HU
        ipureintro; rfl
      iapply (slots_join c gS0 gS)
      rw [slotSet_parity pt0 pt30 rfl, slotSet_parity pt1 pt31 rfl]
      isplitl [T0]; · iexact T0
      iexact T1
    isplitl [Hg]; · iexact Hg
    isplitl [Hq0 Hq1]
    · isplitl [Hq0]; · iexact Hq0
      iexact Hq1
    isplitl [Hh]; · iexact Hh
    rw [G_rows]
    iapply (Entails.of_eq (whole_end c (rowsOut m c)).symm)
    isplitl [Hd P0 P1]
    · iapply (Entails.of_eq (upTo_join c pt31 (rowsOut m c)).symm)
      isplitl [Hd P0]
      · iapply (Entails.of_eq (upTo_join c pt30 (rowsOut m c)).symm)
        isplitl [Hd]; · iexact Hd
        iexact P0
      iexact P1
    iexact Hy
  isplitl [HW']
  · iexists W'; isplitr; · ipureintro; exact fun _ _ => Or.inl trivial
    iexact HW'
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  unfold owns; iexists _; isplitr
  swap; · iexact B9
  ipureintro; exact state_read _ _ _ _ _

theorem sound_body (c : Dev nD) (t : Fin cfg0.N) :
    bodyPre m c t ⊢ wp frame (wpE (defs₀ (F := F)) Variants.none c none) Set.univ (bodyAt0 t) (fun _ => bodyPost m c t) := by
  have hlt : t.val < 32 := t.isLt
  by_cases h0 : t.val = 0
  · obtain rfl : t = pt0 := Fin.ext h0; exact sound_body0 m c
  · by_cases h1 : t.val = 31
    · obtain rfl : t = pt31 := Fin.ext h1; exact sound_bodyL m c
    · exact sound_bodyM m c t ⟨t.val - 1, by show _ < 32; omega⟩ ⟨t.val + 1, by show _ < 32; omega⟩ (show t.val = t.val - 1 + 1 by omega) rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun _ => .rfl) (hout := fun _ => .rfl)

/-- The arguments end unchanged in every run that ends as `run_main` says. -/
theorem args_of {r : PUnit × MemSt nD τ sig (Elt F)} (h : Pipeline.FramePostRG cfgs (dats m) 0 R0 (V m) (G m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c),
    ((h.1 c).2 main_arg8 (Finset.mem_sdiff.mpr ⟨Pipeline.mem_restRefs_of main_arg8 (by decide) (by decide), by decide⟩)).trans (V_main_arg8 m c)⟩

/-- The frame: the run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨args_of m h.1, h.2⟩) (run_main m ρ)

end Cert.Kernel1Ideal.Hand

end
-- ==== Proof.Prompt.Args.lean ====
/-
  A point's blocks of the call on the long sequences, read at an index as the arguments.
-/
module

public import proofs.«01_k».proof.Proof.Kernel1Ideal.Frame
public import Idealize.ShloMosaic.Lib.Pointwise
public import Idealize.ShloMosaic.Lib.StableHlo.Run

@[expose] public section

set_option maxRecDepth 16384

noncomputable section

namespace Cert.Ffn.Prompt

open Cert.Kernel1Ideal Cert.Kernel1Ideal.Gen Cert.Kernel1Ideal.Hand
open Idealize.ShloMosaic Idealize.ShloMosaic.TcCoe Idealize.ShloMosaic.StableHlo

variable (m : (ℓ : Loc nD τ sig) → Buf (Elt Ideal) ℓ) (c : Dev nD)

/-! ## Host reshapes at an index -/

theorem row_row (a : FVec Ideal S1x1024 .f32) (d : Fin 1024) :
    shapeCast S1x1024 (shapeCast S1024 a shapeCasts_S1x1024_S1024) shapeCasts_S1024_S1x1024 (ix2 (0 : Fin 1) d) = a (ix2 0 d) := by pointwise
theorem bias_row (a : FVec Ideal S1x3072 .f32) (f : Fin 3072) :
    shapeCast S1x3072 (shapeCast S3072 a shapeCasts_S1x3072_S3072) shapeCasts_S3072_S1x3072 (ix2 (0 : Fin 1) f) = a (ix2 0 f) := by pointwise
theorem weights_cast (a : FVec Ideal S1x1024x3072 .f32) (k : Fin 1024) (f : Fin 3072) :
    (truncf (F := Ideal) .bf16 (shapeCast S1024x3072 a shapeCasts_S1x1024x3072_S1024x3072) bitsLt_bf16_f32 : FVec Ideal S1024x3072 .bf16) (ix2 k f) = a (ix3 0 k f) := by pointwise
theorem down_cast (a : FVec Ideal S1x3072x1024 .f32) (f : Fin 3072) (d : Fin 1024) :
    (truncf (F := Ideal) .bf16 (shapeCast S3072x1024 a shapeCasts_S1x3072x1024_S3072x1024) bitsLt_bf16_f32 : FVec Ideal S3072x1024 .bf16) (ix2 f d) = a (ix3 0 f d) := by pointwise
theorem taps_cast (a : FVec Ideal S1x3x3072 .f32) (j : Fin 3) (f : Fin 3072) :
    shapeCast S3x3072 a shapeCasts_S1x3x3072_S3x3072 (ix2 j f) = a (ix3 0 j f) := by pointwise
theorem gain_cast (a : FVec Ideal S1024 .f32) (d : Fin 1024) :
    shapeCast S1x1024 a shapeCasts_S1024_S1x1024 (ix2 (0 : Fin 1) d) = a (ix1 d) := by pointwise

/-! ## The arrays the call takes -/

theorem V1 : V m c main_v1 = shapeCast S1x1024 (shapeCast S1024 (m ((c.tc : Thread nD τ).loc main_arg2)) shapeCasts_S1x1024_S1024) shapeCasts_S1024_S1x1024 := by
  dsimp only [V, hostOps0]
  after_results_simp <;> rfl

theorem V3 : V m c main_v3 = (truncf (F := Ideal) .bf16 (shapeCast S1024x3072 (m ((c.tc : Thread nD τ).loc main_arg3)) shapeCasts_S1x1024x3072_S1024x3072) bitsLt_bf16_f32 : FVec Ideal S1024x3072 .bf16) := by
  dsimp only [V, hostOps0]
  after_results_simp <;> rfl

theorem V5 : V m c main_v5 = (truncf (F := Ideal) .bf16 (shapeCast S1024x3072 (m ((c.tc : Thread nD τ).loc main_arg4)) shapeCasts_S1x1024x3072_S1024x3072) bitsLt_bf16_f32 : FVec Ideal S1024x3072 .bf16) := by
  dsimp only [V, hostOps0]
  after_results_simp <;> rfl

theorem V6 : V m c main_v6 = shapeCast S3x3072 (m ((c.tc : Thread nD τ).loc main_arg5)) shapeCasts_S1x3x3072_S3x3072 := by
  dsimp only [V, hostOps0]
  after_results_simp <;> rfl

theorem V8 : V m c main_v8 = shapeCast S1x3072 (shapeCast S3072 (m ((c.tc : Thread nD τ).loc main_arg6)) shapeCasts_S1x3072_S3072) shapeCasts_S3072_S1x3072 := by
  dsimp only [V, hostOps0]
  after_results_simp <;> rfl

theorem V10 : V m c main_v10 = (truncf (F := Ideal) .bf16 (shapeCast S3072x1024 (m ((c.tc : Thread nD τ).loc main_arg7)) shapeCasts_S1x3072x1024_S3072x1024) bitsLt_bf16_f32 : FVec Ideal S3072x1024 .bf16) := by
  dsimp only [V, hostOps0]
  after_results_simp <;> rfl

theorem V11 : V m c main_v11 = shapeCast S1x1024 (m ((c.tc : Thread nD τ).loc main_arg8)) shapeCasts_S1024_S1x1024 := by
  dsimp only [V, hostOps0]
  after_results_simp <;> rfl

/-! ## The blocks -/

theorem index0 (t : Fin cfg0.N) : ∀ a, (cfg0.win 0).index t a = (![t.val, 0, 0] : Fin 3 → ℕ) a := by
  revert t; decide +kernel

theorem blk0_apply (t : Fin cfg0.N) (l : Fin 64) (b : Fin 8) (d : Fin 1024) (l' : Fin 2048) (hl : l'.val = 64 * t.val + l.val) :
    blk0 m c t (ix3 l b d) = m ((c.tc : Thread nD τ).loc main_arg0) (ix3 l' b d) := by
  show ((cfg0.win 0).blk t).view.read (Elt Ideal) (V m c (Pipeline.arrRef spec0 0)) _ = _
  rw [View.read_apply]
  show (V m c main_arg0) (((cfg0.win 0).blk t).view.emb (ix3 l b d)) = _
  rw [V_main_arg0]
  refine congrArg (m ((c.tc : Thread nD τ).loc main_arg0)) ?_
  funext a
  apply Fin.ext
  refine ((cfg0.win 0).rect_emb_val t (ix3 l b d) a).trans ?_
  rw [index0]
  exact (all3 (P := fun a : Fin 3 => (![t.val, 0, 0] : Fin 3 → ℕ) a * (![64, 8, 1024] : Fin 3 → ℕ) a + ((ix3 l b d : (⟨3, ![64, 8, 1024]⟩ : Shape).Idx) a).val
      = ((ix3 l' b d : (⟨3, ![2048, 8, 1024]⟩ : Shape).Idx) a).val)
    (show t.val * 64 + l.val = l'.val by omega) (show 0 * 8 + b.val = b.val by omega) (show 0 * 1024 + d.val = d.val by omega)) a

theorem blk1_apply (t : Fin cfg0.N) (j : Fin 2) (b : Fin 8) (f : Fin 3072) :
    blk1 m c t (ix3 j b f) = m ((c.tc : Thread nD τ).loc main_arg1) (ix3 j b f) := by
  show ((cfg0.win 1).blk t).view.read (Elt Ideal) (V m c (Pipeline.arrRef spec0 1)) _ = _
  rw [View.read_apply]
  show (V m c main_arg1) (((cfg0.win 1).blk t).view.emb (ix3 j b f)) = _
  rw [V_main_arg1]
  refine congrArg (m ((c.tc : Thread nD τ).loc main_arg1)) ?_
  funext a
  exact Fin.ext ((cfg0.win 1).rect_emb_val_of_index_zero t a (by revert t a; decide +kernel) (ix3 j b f))

theorem blk2_apply (t : Fin cfg0.N) (d : Fin 1024) : blk2 m c t (ix2 (0 : Fin 1) d) = m ((c.tc : Thread nD τ).loc main_arg2) (ix2 (0 : Fin 1) d) := by
  show ((cfg0.win 2).blk t).view.read (Elt Ideal) (V m c (Pipeline.arrRef spec0 2)) _ = _
  rw [View.read_apply]
  show (V m c main_v1) (((cfg0.win 2).blk t).view.emb (ix2 (0 : Fin 1) d)) = _
  have he : ((cfg0.win 2).blk t).view.emb (ix2 (0 : Fin 1) d) = ix2 (0 : Fin 1) d := by
    funext a
    exact Fin.ext ((cfg0.win 2).rect_emb_val_of_index_zero t a (by revert t a; decide +kernel) (ix2 (0 : Fin 1) d))
  rw [he, V1]
  exact row_row _ d

theorem blk3_apply (t : Fin cfg0.N) (k : Fin 1024) (f : Fin 3072) : blk3 m c t (ix2 k f) = m ((c.tc : Thread nD τ).loc main_arg3) (ix3 (0 : Fin 1) k f) := by
  show ((cfg0.win 3).blk t).view.read (Elt Ideal) (V m c (Pipeline.arrRef spec0 3)) _ = _
  rw [View.read_apply]
  show (V m c main_v3) (((cfg0.win 3).blk t).view.emb (ix2 k f)) = _
  have he : ((cfg0.win 3).blk t).view.emb (ix2 k f) = ix2 k f := by
    funext a
    exact Fin.ext ((cfg0.win 3).rect_emb_val_of_index_zero t a (by revert t a; decide +kernel) (ix2 k f))
  rw [he, V3]
  exact weights_cast _ k f

theorem blk4_apply (t : Fin cfg0.N) (k : Fin 1024) (f : Fin 3072) : blk4 m c t (ix2 k f) = m ((c.tc : Thread nD τ).loc main_arg4) (ix3 (0 : Fin 1) k f) := by
  show ((cfg0.win 4).blk t).view.read (Elt Ideal) (V m c (Pipeline.arrRef spec0 4)) _ = _
  rw [View.read_apply]
  show (V m c main_v5) (((cfg0.win 4).blk t).view.emb (ix2 k f)) = _
  have he : ((cfg0.win 4).blk t).view.emb (ix2 k f) = ix2 k f := by
    funext a
    exact Fin.ext ((cfg0.win 4).rect_emb_val_of_index_zero t a (by revert t a; decide +kernel) (ix2 k f))
  rw [he, V5]
  exact weights_cast _ k f

theorem blk5_apply (t : Fin cfg0.N) (j : Fin 3) (f : Fin 3072) : blk5 m c t (ix2 j f) = m ((c.tc : Thread nD τ).loc main_arg5) (ix3 (0 : Fin 1) j f) := by
  show ((cfg0.win 5).blk t).view.read (Elt Ideal) (V m c (Pipeline.arrRef spec0 5)) _ = _
  rw [View.read_apply]
  show (V m c main_v6) (((cfg0.win 5).blk t).view.emb (ix2 j f)) = _
  have he : ((cfg0.win 5).blk t).view.emb (ix2 j f) = ix2 j f := by
    funext a
    exact Fin.ext ((cfg0.win 5).rect_emb_val_of_index_zero t a (by revert t a; decide +kernel) (ix2 j f))
  rw [he, V6]
  exact taps_cast _ j f

theorem blk6_apply (t : Fin cfg0.N) (f : Fin 3072) : blk6 m c t (ix2 (0 : Fin 1) f) = m ((c.tc : Thread nD τ).loc main_arg6) (ix2 (0 : Fin 1) f) := by
  show ((cfg0.win 6).blk t).view.read (Elt Ideal) (V m c (Pipeline.arrRef spec0 6)) _ = _
  rw [View.read_apply]
  show (V m c main_v8) (((cfg0.win 6).blk t).view.emb (ix2 (0 : Fin 1) f)) = _
  have he : ((cfg0.win 6).blk t).view.emb (ix2 (0 : Fin 1) f) = ix2 (0 : Fin 1) f := by
    funext a
    exact Fin.ext ((cfg0.win 6).rect_emb_val_of_index_zero t a (by revert t a; decide +kernel) (ix2 (0 : Fin 1) f))
  rw [he, V8]
  exact bias_row _ f

theorem blk7_apply (t : Fin cfg0.N) (f : Fin 3072) (d : Fin 1024) : blk7 m c t (ix2 f d) = m ((c.tc : Thread nD τ).loc main_arg7) (ix3 (0 : Fin 1) f d) := by
  show ((cfg0.win 7).blk t).view.read (Elt Ideal) (V m c (Pipeline.arrRef spec0 7)) _ = _
  rw [View.read_apply]
  show (V m c main_v10) (((cfg0.win 7).blk t).view.emb (ix2 f d)) = _
  have he : ((cfg0.win 7).blk t).view.emb (ix2 f d) = ix2 f d := by
    funext a
    exact Fin.ext ((cfg0.win 7).rect_emb_val_of_index_zero t a (by revert t a; decide +kernel) (ix2 f d))
  rw [he, V10]
  exact down_cast _ f d

theorem blk8_apply (t : Fin cfg0.N) (d : Fin 1024) : blk8 m c t (ix2 (0 : Fin 1) d) = m ((c.tc : Thread nD τ).loc main_arg8) (ix1 d) := by
  show ((cfg0.win 8).blk t).view.read (Elt Ideal) (V m c (Pipeline.arrRef spec0 8)) _ = _
  rw [View.read_apply]
  show (V m c main_v11) (((cfg0.win 8).blk t).view.emb (ix2 (0 : Fin 1) d)) = _
  have he : ((cfg0.win 8).blk t).view.emb (ix2 (0 : Fin 1) d) = ix2 (0 : Fin 1) d := by
    funext a
    exact Fin.ext ((cfg0.win 8).rect_emb_val_of_index_zero t a (by revert t a; decide +kernel) (ix2 (0 : Fin 1) d))
  rw [he, V11]
  exact gain_cast _ d

end Cert.Ffn.Prompt

end
-- ==== Proof.Value.Spec.lean ====
/-
  The mathematics of one sequence of the feed-forward block, over extended reals: what becomes of the four new rows of a
  sequence, given the two projected rows carried from before.
-/
module

public import Idealize.ShloMosaic.Lib.Pointwise

@[expose] public section

noncomputable section

namespace Cert.Ffn

open Idealize.ShloMosaic

/-- A row divided by its root mean square, times a gain. -/
def rms (x g : Fin 1024 → EReal) (d : Fin 1024) : EReal :=
  x d * Ideal.rsqrt (Ideal.div (∑ k : Fin 1024, x k * x k) (Ideal.ofBits .f32 0x44800000#32)
    + Ideal.ofBits .f32 0x358637BD#32) * g d

/-- A row times a matrix, one column of it. -/
def proj {K : ℕ} (x w : Fin K → EReal) : EReal := ∑ k : Fin K, x k * w k

/-- The causal convolution of three taps. -/
def conv (p0 p1 p2 w0 w1 w2 b : EReal) : EReal := b + p0 * w0 + p1 * w1 + p2 * w2

/-- The gelu in its tanh form. -/
def gelu (u : EReal) : EReal :=
  u * (Ideal.ofBits .f32 0x3F000000#32 * (1 + Ideal.tanh (Ideal.ofBits .f32 0x3F4C422A#32
    * (u + Ideal.ofBits .f32 0x3D372713#32 * (u * (u * u))))))

/-- A sequence with the two carried rows before its four new ones, at one column. -/
def past (s : Fin 2 → EReal) (u : Fin 4 → EReal) (j : Fin 6) : EReal :=
  if h : j.val < 2 then s ⟨j.val, h⟩ else u ⟨j.val - 2, by omega⟩

/-- The gated hidden unit of row `l` at one column, from the column's carried rows, its projections and its taps. -/
def hid (s : Fin 2 → EReal) (u : Fin 4 → EReal) (gate : EReal) (w : Fin 3 → EReal) (b : EReal) (l : Fin 4) : EReal :=
  gelu (conv (past s u ⟨l.val, by omega⟩) (past s u ⟨l.val + 1, by omega⟩) (u l) (w 0) (w 1) (w 2) b) * gate

/-- The projection of row `l` to column `f`. -/
def up (X : Fin 4 → Fin 1024 → EReal) (g : Fin 1024 → EReal) (W : Fin 1024 → Fin 3072 → EReal) (l : Fin 4)
    (f : Fin 3072) : EReal := proj (rms (X l) g) (fun k => W k f)

/-- The hidden row `l`. -/
def hidRow (X : Fin 4 → Fin 1024 → EReal) (S : Fin 2 → Fin 3072 → EReal) (g : Fin 1024 → EReal)
    (Wu Wg : Fin 1024 → Fin 3072 → EReal) (w : Fin 3 → Fin 3072 → EReal) (b : Fin 3072 → EReal) (l : Fin 4)
    (f : Fin 3072) : EReal :=
  hid (fun j => S j f) (fun i => up X g Wu i f) (up X g Wg l f) (fun j => w j f) (b f) l

/-- The row `l` with the block's contribution added. -/
def outRow (X : Fin 4 → Fin 1024 → EReal) (S : Fin 2 → Fin 3072 → EReal) (g : Fin 1024 → EReal)
    (Wu Wg : Fin 1024 → Fin 3072 → EReal) (w : Fin 3 → Fin 3072 → EReal) (b : Fin 3072 → EReal)
    (Wd : Fin 3072 → Fin 1024 → EReal) (l : Fin 4) (d : Fin 1024) : EReal :=
  X l d + proj (hidRow X S g Wu Wg w b l) (fun f => Wd f d)

/-- The finished row `l`. -/
def seqOut (X : Fin 4 → Fin 1024 → EReal) (S : Fin 2 → Fin 3072 → EReal) (g : Fin 1024 → EReal)
    (Wu Wg : Fin 1024 → Fin 3072 → EReal) (w : Fin 3 → Fin 3072 → EReal) (b : Fin 3072 → EReal)
    (Wd : Fin 3072 → Fin 1024 → EReal) (g' : Fin 1024 → EReal) (l : Fin 4) (d : Fin 1024) : EReal :=
  rms (outRow X S g Wu Wg w b Wd l) g' d

/-- The new carried rows: the projections of the last two. -/
def seqState (X : Fin 4 → Fin 1024 → EReal) (g : Fin 1024 → EReal) (Wu : Fin 1024 → Fin 3072 → EReal) (j : Fin 2)
    (f : Fin 3072) : EReal := up X g Wu ⟨j.val + 2, by omega⟩ f

/-- A sum over the 3072 columns, tile by tile. -/
theorem proj_tiles (x w : Fin 3072 → EReal) :
    proj x w = proj (fun e : Fin 1024 => x ⟨e.val, by omega⟩) (fun e => w ⟨e.val, by omega⟩)
      + proj (fun e : Fin 1024 => x ⟨1024 + e.val, by omega⟩) (fun e => w ⟨1024 + e.val, by omega⟩)
      + proj (fun e : Fin 1024 => x ⟨2048 + e.val, by omega⟩) (fun e => w ⟨2048 + e.val, by omega⟩) := by
  unfold proj
  rw [Fin.sum_univ_two_halves 2048 1024 rfl (fun k : Fin 3072 => x k * w k),
    Fin.sum_univ_two_halves 1024 1024 rfl (fun k : Fin 2048 => x ⟨k.val, by omega⟩ * w ⟨k.val, by omega⟩)]

end Cert.Ffn

end
-- ==== Proof.Prompt.Spec.lean ====
/-
  The mathematics of one sequence of the feed-forward block of any number of rows, and that a chunk of 64 rows whose
  carried rows are the two projected rows before it is the long sequence's part.
-/
module

public import proofs.«01_k».proof.Proof.Value.Spec

@[expose] public section

noncomputable section

namespace Cert.Ffn.Prompt

open Idealize.ShloMosaic

variable {n : ℕ}

theorem proj_congr {K : ℕ} {x x' w w' : Fin K → EReal} (hx : ∀ k, x k = x' k) (hw : ∀ k, w k = w' k) : proj x w = proj x' w' := by
  rw [funext hx, funext hw]

/-- A sequence with the two carried rows before its own, at one column. -/
def past (s : Fin 2 → EReal) (u : Fin n → EReal) (j : Fin (n + 2)) : EReal :=
  if h : j.val < 2 then s ⟨j.val, h⟩ else u ⟨j.val - 2, by have := j.isLt; omega⟩

/-- The gated hidden unit of row `l` at one column, from the column's carried rows, its projections and its taps. -/
def hid (s : Fin 2 → EReal) (u : Fin n → EReal) (gate : EReal) (w : Fin 3 → EReal) (b : EReal) (l : Fin n) : EReal :=
  gelu (conv (past s u ⟨l.val, by omega⟩) (past s u ⟨l.val + 1, by omega⟩) (u l) (w 0) (w 1) (w 2) b) * gate

/-- The projection of row `l` to column `f`. -/
def up (X : Fin n → Fin 1024 → EReal) (g : Fin 1024 → EReal) (W : Fin 1024 → Fin 3072 → EReal) (l : Fin n)
    (f : Fin 3072) : EReal := proj (rms (X l) g) (fun k => W k f)

/-- The hidden row `l`. -/
def hidRow (X : Fin n → Fin 1024 → EReal) (S : Fin 2 → Fin 3072 → EReal) (g : Fin 1024 → EReal)
    (Wu Wg : Fin 1024 → Fin 3072 → EReal) (w : Fin 3 → Fin 3072 → EReal) (b : Fin 3072 → EReal) (l : Fin n)
    (f : Fin 3072) : EReal :=
  hid (fun j => S j f) (fun i => up X g Wu i f) (up X g Wg l f) (fun j => w j f) (b f) l

/-- The row `l` with the block's contribution added. -/
def outRow (X : Fin n → Fin 1024 → EReal) (S : Fin 2 → Fin 3072 → EReal) (g : Fin 1024 → EReal)
    (Wu Wg : Fin 1024 → Fin 3072 → EReal) (w : Fin 3 → Fin 3072 → EReal) (b : Fin 3072 → EReal)
    (Wd : Fin 3072 → Fin 1024 → EReal) (l : Fin n) (d : Fin 1024) : EReal :=
  X l d + proj (hidRow X S g Wu Wg w b l) (fun f => Wd f d)

/-- The finished row `l`. -/
def seqOut (X : Fin n → Fin 1024 → EReal) (S : Fin 2 → Fin 3072 → EReal) (g : Fin 1024 → EReal)
    (Wu Wg : Fin 1024 → Fin 3072 → EReal) (w : Fin 3 → Fin 3072 → EReal) (b : Fin 3072 → EReal)
    (Wd : Fin 3072 → Fin 1024 → EReal) (g' : Fin 1024 → EReal) (l : Fin n) (d : Fin 1024) : EReal :=
  rms (outRow X S g Wu Wg w b Wd l) g' d

/-! ## A chunk of the long sequence -/

/-- Row `l` of chunk `t` in the long sequence. -/
def chunkRow (t : ℕ) (ht : t < 32) (l : Fin 64) : Fin 2048 := ⟨64 * t + l.val, by omega⟩

/-- The rows carried into chunk `t`: the two before it. -/
def carriedInto (X : Fin 2048 → Fin 1024 → EReal) (S : Fin 2 → Fin 3072 → EReal) (g : Fin 1024 → EReal)
    (Wu : Fin 1024 → Fin 3072 → EReal) (t : ℕ) (ht : t < 32) (j : Fin 2) (f : Fin 3072) : EReal :=
  past (fun j => S j f) (fun i => up X g Wu i f) ⟨64 * t + j.val, by omega⟩

theorem past_chunk (s : Fin 2 → EReal) (u : Fin 2048 → EReal) (t : ℕ) (ht : t < 32) (j : Fin (64 + 2)) :
    past (fun i : Fin 2 => past s u ⟨64 * t + i.val, by omega⟩) (fun l : Fin 64 => u (chunkRow t ht l)) j
      = past s u ⟨64 * t + j.val, by omega⟩ := by
  by_cases h : j.val < 2
  · exact dif_pos h
  · refine (dif_neg h).trans (Eq.trans ?_ (dif_neg (show ¬ 64 * t + j.val < 2 by omega)).symm)
    exact congrArg u (Fin.ext (show 64 * t + (j.val - 2) = 64 * t + j.val - 2 by omega))

variable (X : Fin 2048 → Fin 1024 → EReal) (S : Fin 2 → Fin 3072 → EReal) (g : Fin 1024 → EReal)
  (Wu Wg : Fin 1024 → Fin 3072 → EReal) (w : Fin 3 → Fin 3072 → EReal) (b : Fin 3072 → EReal)
  (Wd : Fin 3072 → Fin 1024 → EReal) (g' : Fin 1024 → EReal) (t : ℕ) (ht : t < 32)

theorem hidRow_chunk (l : Fin 64) (f : Fin 3072) :
    hidRow (fun l => X (chunkRow t ht l)) (carriedInto X S g Wu t ht) g Wu Wg w b l f
      = hidRow X S g Wu Wg w b (chunkRow t ht l) f := by
  have h0 := past_chunk (fun j => S j f) (fun i => up X g Wu i f) t ht ⟨l.val, by omega⟩
  have h1 := past_chunk (fun j => S j f) (fun i => up X g Wu i f) t ht ⟨l.val + 1, by omega⟩
  show gelu (conv (past (fun i : Fin 2 => past (fun j => S j f) (fun i => up X g Wu i f) ⟨64 * t + i.val, by omega⟩)
      (fun l : Fin 64 => up X g Wu (chunkRow t ht l) f) ⟨l.val, by omega⟩)
    (past (fun i : Fin 2 => past (fun j => S j f) (fun i => up X g Wu i f) ⟨64 * t + i.val, by omega⟩)
      (fun l : Fin 64 => up X g Wu (chunkRow t ht l) f) ⟨l.val + 1, by omega⟩)
    (up X g Wu (chunkRow t ht l) f) (w 0 f) (w 1 f) (w 2 f) (b f)) * up X g Wg (chunkRow t ht l) f = _
  rw [h0, h1]
  rfl

/-- **A finished row of a chunk is the long sequence's.** -/
theorem seqOut_chunk (l : Fin 64) (d : Fin 1024) :
    seqOut (fun l => X (chunkRow t ht l)) (carriedInto X S g Wu t ht) g Wu Wg w b Wd g' l d
      = seqOut X S g Wu Wg w b Wd g' (chunkRow t ht l) d := by
  have h : outRow (fun l => X (chunkRow t ht l)) (carriedInto X S g Wu t ht) g Wu Wg w b Wd l
      = outRow X S g Wu Wg w b Wd (chunkRow t ht l) := by
    funext d
    show X (chunkRow t ht l) d + proj _ (fun f => Wd f d) = X (chunkRow t ht l) d + proj _ (fun f => Wd f d)
    rw [show hidRow (fun l => X (chunkRow t ht l)) (carriedInto X S g Wu t ht) g Wu Wg w b l
      = hidRow X S g Wu Wg w b (chunkRow t ht l) from funext fun f => hidRow_chunk X S g Wu Wg w b t ht l f]
  unfold seqOut
  rw [h]

end Cert.Ffn.Prompt

end
-- ==== Proof.Prompt.Rows.lean ====
/-
  The payloads of the feed-forward call on the long sequences, row by row: each is the mathematics of one sequence.
-/
module

public import proofs.«01_k».proof.Proof.Kernel1Ideal.Pieces
public import proofs.«01_k».proof.Proof.Prompt.Spec

@[expose] public section

set_option maxRecDepth 16384

noncomputable section

namespace Cert.Ffn.Prompt

open Cert.Kernel1Ideal Cert.Kernel1Ideal.Gen Cert.Kernel1Ideal.Hand
open Idealize.ShloMosaic

/-- The new row a flattened row belongs to. -/
def lOf (r : Fin 512) : Fin 64 := ⟨r.val / 8, by omega⟩
/-- The sequence a flattened row belongs to. -/
def bOf (r : Fin 512) : Fin 8 := ⟨r.val % 8, by omega⟩

/-- The block of rows, flattened. -/
theorem pay2_apply (x : Vec Ideal S64x8x1024 .f32) (r : Fin 512) (d : Fin 1024) :
    k0_pay2 x (ix2 r d) = x (ix3 (lOf r) (bOf r) d) := by
  pointwise [k0_pay2, lOf, bOf]

/-- The normalised rows. -/
theorem pay3_apply (x : Vec Ideal S64x8x1024 .f32) (g : Vec Ideal S1x1024 .f32) (r : Fin 512) (d : Fin 1024) :
    k0_pay3 x g (ix2 r d) = rms (fun k => k0_pay2 x (ix2 r k)) (fun k => g (ix2 0 k)) d := by
  pointwise [k0_pay3, rms]

/-- The final norm. -/
theorem pay26_apply (a : FVec Ideal S512x1024 .f32) (g : Vec Ideal S1x1024 .f32) (l : Fin 64) (b : Fin 8) (d : Fin 1024) :
    k0_pay26 a g (ix4 0 l b d) = rms (fun k => a (ix2 ⟨l.val * 8 + b.val, by omega⟩ k)) (fun k => g (ix2 0 k)) d := by
  pointwise [k0_pay26, rms]

/-- A projection of flattened rows. -/
theorem pay12_apply (x : FVec Ideal S512x1024 .bf16) (w : Vec Ideal S1024x1024 .bf16) (r : Fin 512) (e : Fin 1024) :
    k0_pay12 x w (ix2 r e) = proj (fun k => x (ix2 r k)) (fun k => w (ix2 k e)) := by
  pointwise [k0_pay12, proj]

/-- The rows two places earlier: the carried rows, then the block's. -/
abbrev shift2 (P : Vec Ideal S16x1024 .f32) (U : FVec Ideal S512x1024 .f32) : FVec Ideal S512x1024 .f32 :=
  concatenate S512x1024 0 [⟨S16x1024, P⟩, ⟨S496x1024, extractStridedSlice S496x1024 ![0, 0] U slices_S512x1024_o0_0_S496x1024⟩]
    concatenates_S16x1024_S496x1024_S512x1024_d0

/-- The rows one place earlier: the later carried row, then the block's. -/
abbrev shift1 (P : Vec Ideal S16x1024 .f32) (U : FVec Ideal S512x1024 .f32) : FVec Ideal S512x1024 .f32 :=
  concatenate S512x1024 0 [⟨S8x1024, extractStridedSlice S8x1024 ![8, 0] P slices_S16x1024_o8_0_S8x1024⟩,
    ⟨S504x1024, extractStridedSlice S504x1024 ![0, 0] U slices_S512x1024_o0_0_S504x1024⟩]
    concatenates_S8x1024_S504x1024_S512x1024_d0

/-- A flattened carried row. -/
def cRow (j : Fin 2) (b : Fin 8) : Fin 16 := ⟨j.val * 8 + b.val, by omega⟩
/-- A flattened new row. -/
def nRow (l : Fin 64) (b : Fin 8) : Fin 512 := ⟨l.val * 8 + b.val, by omega⟩

theorem nRow_of (r : Fin 512) : nRow (lOf r) (bOf r) = r := Fin.ext (by show r.val / 8 * 8 + r.val % 8 = r.val; omega)
theorem lOf_nRow (l : Fin 64) (b : Fin 8) : lOf (nRow l b) = l := Fin.ext (by show (l.val * 8 + b.val) / 8 = l.val; omega)
theorem bOf_nRow (l : Fin 64) (b : Fin 8) : bOf (nRow l b) = b := Fin.ext (by show (l.val * 8 + b.val) % 8 = b.val; omega)

theorem shift2_apply (P : Vec Ideal S16x1024 .f32) (U : FVec Ideal S512x1024 .f32) (r : Fin 512) (e : Fin 1024) :
    shift2 P U (ix2 r e) = past (fun j => P (ix2 (cRow j (bOf r)) e)) (fun i => U (ix2 (nRow i (bOf r)) e))
      ⟨(lOf r).val, by omega⟩ := by
  have hl : (lOf r).val = r.val / 8 := rfl
  unfold past
  pointwise [shift2]
  split <;> split
  · exact congrArg (fun q => P (ix2 q e)) (Fin.ext (by simp only [cRow, lOf, bOf] at *; omega))
  · omega
  · omega
  · exact congrArg (fun q => U (ix2 q e)) (Fin.ext (by simp only [nRow, lOf, bOf] at *; omega))

theorem shift1_apply (P : Vec Ideal S16x1024 .f32) (U : FVec Ideal S512x1024 .f32) (r : Fin 512) (e : Fin 1024) :
    shift1 P U (ix2 r e) = past (fun j => P (ix2 (cRow j (bOf r)) e)) (fun i => U (ix2 (nRow i (bOf r)) e))
      ⟨(lOf r).val + 1, by omega⟩ := by
  have hl : (lOf r).val = r.val / 8 := rfl
  unfold past
  pointwise [shift1]
  split <;> split
  · exact congrArg (fun q => P (ix2 q e)) (Fin.ext (by simp only [cRow, lOf, bOf] at *; omega))
  · omega
  · omega
  · exact congrArg (fun q => U (ix2 q e)) (Fin.ext (by simp only [nRow, lOf, bOf] at *; omega))

/-- The hidden units of column tile 0. -/
theorem pay10_apply (U G : FVec Ideal S512x1024 .f32) (P : Vec Ideal S16x1024 .f32) (b : FVec Ideal S1x1024 .f32)
    (V : FVec Ideal S512x1024 .f32) (w0 w1 w2 : Vec Ideal S1x1024 .f32) (r : Fin 512) (e : Fin 1024) :
    k0_pay10 U G P b V w0 w1 w2 (ix2 r e)
      = gelu (conv (V (ix2 r e)) (shift1 P U (ix2 r e)) (U (ix2 r e)) (w0 (ix2 0 e)) (w1 (ix2 0 e)) (w2 (ix2 0 e))
          (b (ix2 0 e))) * G (ix2 r e) := by
  pointwise [k0_pay10, conv, gelu]

/-- Column tile 0 added to the residual. -/
theorem pay11_apply (a : FVec Ideal S512x1024 .f32) (h : FVec Ideal S512x1024 .bf16) (w : Vec Ideal S1024x1024 .bf16)
    (r : Fin 512) (d : Fin 1024) :
    k0_pay11 a h w (ix2 r d) = a (ix2 r d) + proj (fun e => h (ix2 r e)) (fun e => w (ix2 e d)) := by
  pointwise [k0_pay11, proj]

/-- The convolution of column tile 1. -/
theorem pay14_apply (x : FVec Ideal S512x1024 .bf16) (w : Vec Ideal S1024x1024 .bf16) (P : Vec Ideal S16x1024 .f32)
    (b w0 w1 w2 : Vec Ideal S1x1024 .f32) (r : Fin 512) (e : Fin 1024) :
    k0_pay14 x w P b w0 w1 w2 (ix2 r e)
      = conv (shift2 P (k0_pay12 x w) (ix2 r e)) (shift1 P (k0_pay12 x w) (ix2 r e)) (k0_pay12 x w (ix2 r e))
          (w0 (ix2 0 e)) (w1 (ix2 0 e)) (w2 (ix2 0 e)) (b (ix2 0 e)) := by
  pointwise [k0_pay14, conv]

/-- Column tile 1 added. -/
theorem pay17_apply (a G C : FVec Ideal S512x1024 .f32) (w : Vec Ideal S1024x1024 .bf16) (r : Fin 512) (d : Fin 1024) :
    k0_pay17 a G C w (ix2 r d)
      = a (ix2 r d) + proj (fun e => gelu (C (ix2 r e)) * G (ix2 r e)) (fun e => w (ix2 e d)) := by
  pointwise [k0_pay17, proj, gelu]

/-- The first tap of column tile 2. -/
theorem pay20_apply (x : FVec Ideal S512x1024 .bf16) (w : Vec Ideal S1024x1024 .bf16) (P : Vec Ideal S16x1024 .f32)
    (b w0 : Vec Ideal S1x1024 .f32) (r : Fin 512) (e : Fin 1024) :
    k0_pay20 x w P b w0 (ix2 r e) = b (ix2 0 e) + shift2 P (k0_pay18 x w) (ix2 r e) * w0 (ix2 0 e) := by
  pointwise [k0_pay20]

/-- Column tile 2 added. -/
theorem pay24_apply (a U G V : FVec Ideal S512x1024 .f32) (P : Vec Ideal S16x1024 .f32) (w1 w2 : Vec Ideal S1x1024 .f32)
    (w : Vec Ideal S1024x1024 .bf16) (r : Fin 512) (d : Fin 1024) :
    k0_pay24 a U G V (k0_pay21 P) w1 w2 w (ix2 r d)
      = a (ix2 r d) + proj (fun e => gelu (V (ix2 r e) + shift1 P U (ix2 r e) * w1 (ix2 0 e) + U (ix2 r e) * w2 (ix2 0 e))
          * G (ix2 r e)) (fun e => w (ix2 e d)) := by
  pointwise [k0_pay24, k0_pay21, proj, gelu]

/-! ## The parts of the operands the loads read -/

/-- The carried rows, flattened. -/
theorem carried_apply (x : Vec Ideal S2x8x3072 .f32) (j : Fin 2) (b : Fin 8) (f : Fin 3072) :
    carried x (ix2 (cRow j b) f) = x (ix3 j b f) := by
  pointwise [carried, k0_pay1, cut, cRow]

theorem cut_allX (x : Vec Ideal S64x8x1024 .f32) : cut x allX.toLoadRect = x := by
  funext i; pointwise [cut]
theorem cut_allG (x : Vec Ideal S1x1024 .f32) (k : Fin 1024) : cut x allG.toLoadRect (ix2 0 k) = x (ix2 0 k) := by
  pointwise [cut]

/-! ### Column tile 0 -/

theorem cut_colU0 (x : Vec Ideal S16x3072 .f32) (q : Fin 16) (e : Fin 1024) :
    cut x colU0.toLoadRect (ix2 q e) = x (ix2 q ⟨e.val, by omega⟩) := by pointwise [cut]
theorem cut_colW0 (x : Vec Ideal S1024x3072 .bf16) (k e : Fin 1024) :
    cut x colW0.toLoadRect (ix2 k e) = x (ix2 k ⟨e.val, by omega⟩) := by pointwise [cut]
theorem cut_colB0 (x : Vec Ideal S1x3072 .f32) (e : Fin 1024) :
    cut x colB0.toLoadRect (ix2 0 e) = x (ix2 0 ⟨e.val, by omega⟩) := by pointwise [cut]
theorem cut_rowD0 (x : Vec Ideal S3072x1024 .bf16) (e d : Fin 1024) :
    cut x rowD0.toLoadRect (ix2 e d) = x (ix2 ⟨e.val, by omega⟩ d) := by pointwise [cut]
theorem cut_tap00 (x : Vec Ideal S3x3072 .f32) (e : Fin 1024) :
    cut x tap00.toLoadRect (ix2 0 e) = x (ix2 0 ⟨e.val, by omega⟩) := by pointwise [cut]
theorem cut_tap10 (x : Vec Ideal S3x3072 .f32) (e : Fin 1024) :
    cut x tap10.toLoadRect (ix2 0 e) = x (ix2 1 ⟨e.val, by omega⟩) := by pointwise [cut]
theorem cut_tap20 (x : Vec Ideal S3x3072 .f32) (e : Fin 1024) :
    cut x tap20.toLoadRect (ix2 0 e) = x (ix2 2 ⟨e.val, by omega⟩) := by pointwise [cut]

/-! ### Column tile 1 -/

theorem cut_colU1 (x : Vec Ideal S16x3072 .f32) (q : Fin 16) (e : Fin 1024) :
    cut x colU1.toLoadRect (ix2 q e) = x (ix2 q ⟨1024 + e.val, by omega⟩) := by pointwise [cut]
theorem cut_colW1 (x : Vec Ideal S1024x3072 .bf16) (k e : Fin 1024) :
    cut x colW1.toLoadRect (ix2 k e) = x (ix2 k ⟨1024 + e.val, by omega⟩) := by pointwise [cut]
theorem cut_colB1 (x : Vec Ideal S1x3072 .f32) (e : Fin 1024) :
    cut x colB1.toLoadRect (ix2 0 e) = x (ix2 0 ⟨1024 + e.val, by omega⟩) := by pointwise [cut]
theorem cut_rowD1 (x : Vec Ideal S3072x1024 .bf16) (e d : Fin 1024) :
    cut x rowD1.toLoadRect (ix2 e d) = x (ix2 ⟨1024 + e.val, by omega⟩ d) := by pointwise [cut]
theorem cut_tap01 (x : Vec Ideal S3x3072 .f32) (e : Fin 1024) :
    cut x tap01.toLoadRect (ix2 0 e) = x (ix2 0 ⟨1024 + e.val, by omega⟩) := by pointwise [cut]
theorem cut_tap11 (x : Vec Ideal S3x3072 .f32) (e : Fin 1024) :
    cut x tap11.toLoadRect (ix2 0 e) = x (ix2 1 ⟨1024 + e.val, by omega⟩) := by pointwise [cut]
theorem cut_tap21 (x : Vec Ideal S3x3072 .f32) (e : Fin 1024) :
    cut x tap21.toLoadRect (ix2 0 e) = x (ix2 2 ⟨1024 + e.val, by omega⟩) := by pointwise [cut]

/-! ### Column tile 2 -/

theorem cut_colU2 (x : Vec Ideal S16x3072 .f32) (q : Fin 16) (e : Fin 1024) :
    cut x colU2.toLoadRect (ix2 q e) = x (ix2 q ⟨2048 + e.val, by omega⟩) := by pointwise [cut]
theorem cut_colW2 (x : Vec Ideal S1024x3072 .bf16) (k e : Fin 1024) :
    cut x colW2.toLoadRect (ix2 k e) = x (ix2 k ⟨2048 + e.val, by omega⟩) := by pointwise [cut]
theorem cut_colB2 (x : Vec Ideal S1x3072 .f32) (e : Fin 1024) :
    cut x colB2.toLoadRect (ix2 0 e) = x (ix2 0 ⟨2048 + e.val, by omega⟩) := by pointwise [cut]
theorem cut_rowD2 (x : Vec Ideal S3072x1024 .bf16) (e d : Fin 1024) :
    cut x rowD2.toLoadRect (ix2 e d) = x (ix2 ⟨2048 + e.val, by omega⟩ d) := by pointwise [cut]
theorem cut_tap02 (x : Vec Ideal S3x3072 .f32) (e : Fin 1024) :
    cut x tap02.toLoadRect (ix2 0 e) = x (ix2 0 ⟨2048 + e.val, by omega⟩) := by pointwise [cut]
theorem cut_tap12 (x : Vec Ideal S3x3072 .f32) (e : Fin 1024) :
    cut x tap12.toLoadRect (ix2 0 e) = x (ix2 1 ⟨2048 + e.val, by omega⟩) := by pointwise [cut]
theorem cut_tap22 (x : Vec Ideal S3x3072 .f32) (e : Fin 1024) :
    cut x tap22.toLoadRect (ix2 0 e) = x (ix2 2 ⟨2048 + e.val, by omega⟩) := by pointwise [cut]

end Cert.Ffn.Prompt

end
-- ==== Proof.Prompt.Block.lean ====
/-
  One point's block of the long sequences: the finished rows, the new carried rows and the rows left for the next point
  are, sequence by sequence, the mathematics of the feed-forward block.
-/
module

public import proofs.«01_k».proof.Proof.Kernel1Ideal.Frame
public import proofs.«01_k».proof.Proof.Prompt.Rows

@[expose] public section

set_option maxRecDepth 16384

noncomputable section

namespace Cert.Ffn.Prompt

open Cert.Kernel1Ideal Cert.Kernel1Ideal.Gen Cert.Kernel1Ideal.Hand
open Idealize.ShloMosaic

variable (x2 : Vec Ideal S64x8x1024 .f32) (u : Vec Ideal S16x3072 .f32) (x4 : Vec Ideal S1x1024 .f32)
  (x5 x6 : Vec Ideal S1024x3072 .bf16) (x7 : Vec Ideal S3x3072 .f32) (x8 : Vec Ideal S1x3072 .f32)
  (x9 : Vec Ideal S3072x1024 .bf16) (x10 : Vec Ideal S1x1024 .f32)

/-- The new rows of sequence `b` of a block. -/
def bX (b : Fin 8) (l : Fin 64) (d : Fin 1024) : EReal := x2 (ix3 l b d)
/-- The carried rows of sequence `b` of a block. -/
def bS (b : Fin 8) (j : Fin 2) (f : Fin 3072) : EReal := u (ix2 (cRow j b) f)
/-- A row of gains. -/
def bG (d : Fin 1024) : EReal := x4 (ix2 0 d)
/-- A projection's weights. -/
def bW (k : Fin 1024) (f : Fin 3072) : EReal := x5 (ix2 k f)
/-- The taps. -/
def bC (j : Fin 3) (f : Fin 3072) : EReal := x7 (ix2 j f)
/-- The bias. -/
def bB (f : Fin 3072) : EReal := x8 (ix2 0 f)
/-- The weights back down. -/
def bD (f : Fin 3072) (d : Fin 1024) : EReal := x9 (ix2 f d)

theorem rowsIn_apply (r : Fin 512) (k : Fin 1024) :
    rowsIn x2 x4 (ix2 r k) = rms (bX x2 (bOf r) (lOf r)) (bG x4) k := by
  show k0_pay3 (cut x2 allX.toLoadRect) (cut x4 allG.toLoadRect) (ix2 r k) = _
  rw [cut_allX, pay3_apply]
  simp only [cut_allG, pay2_apply]
  rfl

/-- A projection of the normalised rows, at a column of a tile. -/
theorem up_apply (w : Vec Ideal S1024x1024 .bf16) (W : Fin 1024 → Fin 3072 → EReal) (c : Fin 3072) (e : Fin 1024)
    (hw : ∀ k, w (ix2 k e) = W k c) (r : Fin 512) :
    k0_pay12 (rowsIn x2 x4) w (ix2 r e) = up (bX x2 (bOf r)) (bG x4) W (lOf r) c := by
  rw [pay12_apply]
  unfold up proj
  exact Finset.sum_congr rfl fun k _ => Ideal.mul_congr (rowsIn_apply x2 x4 r k) (hw k)

/-- A hidden unit at a column of a tile. -/
theorem hid_apply (w v : Vec Ideal S1024x1024 .bf16) (P : Vec Ideal S16x1024 .f32) (w0 w1 w2 b : EReal) (c : Fin 3072)
    (e : Fin 1024) (hw : ∀ k, w (ix2 k e) = x5 (ix2 k c)) (hv : ∀ k, v (ix2 k e) = x6 (ix2 k c))
    (hP : ∀ j s, P (ix2 (cRow j s) e) = u (ix2 (cRow j s) c)) (h0 : w0 = x7 (ix2 0 c)) (h1 : w1 = x7 (ix2 1 c))
    (h2 : w2 = x7 (ix2 2 c)) (hb : b = x8 (ix2 0 c)) (r : Fin 512) :
    gelu (conv (shift2 P (k0_pay12 (rowsIn x2 x4) w) (ix2 r e)) (shift1 P (k0_pay12 (rowsIn x2 x4) w) (ix2 r e))
        (k0_pay12 (rowsIn x2 x4) w (ix2 r e)) w0 w1 w2 b) * k0_pay12 (rowsIn x2 x4) v (ix2 r e)
      = hidRow (bX x2 (bOf r)) (bS u (bOf r)) (bG x4) (bW x5) (bW x6) (bC x7) (bB x8) (lOf r) c := by
  have hU : (fun i => k0_pay12 (rowsIn x2 x4) w (ix2 (nRow i (bOf r)) e))
      = fun i => up (bX x2 (bOf r)) (bG x4) (bW x5) i c := by
    funext i
    rw [up_apply x2 x4 w (bW x5) c e hw, lOf_nRow, bOf_nRow]
  have hS : (fun j => P (ix2 (cRow j (bOf r)) e)) = fun j => bS u (bOf r) j c := by
    funext j; exact hP j (bOf r)
  rw [shift2_apply, shift1_apply, hU, hS, up_apply x2 x4 w (bW x5) c e hw, up_apply x2 x4 v (bW x6) c e hv, h0, h1, h2, hb]
  rfl

/-- What column tile 0 adds to row `r`. -/
def part0 (r : Fin 512) (d : Fin 1024) : EReal :=
  proj (fun e : Fin 1024 => hidRow (bX x2 (bOf r)) (bS u (bOf r)) (bG x4) (bW x5) (bW x6) (bC x7) (bB x8) (lOf r) ⟨e.val, by omega⟩)
    (fun e : Fin 1024 => bD x9 ⟨e.val, by omega⟩ d)

/-- What column tile 1 adds to row `r`. -/
def part1 (r : Fin 512) (d : Fin 1024) : EReal :=
  proj (fun e : Fin 1024 => hidRow (bX x2 (bOf r)) (bS u (bOf r)) (bG x4) (bW x5) (bW x6) (bC x7) (bB x8) (lOf r) ⟨1024 + e.val, by omega⟩)
    (fun e : Fin 1024 => bD x9 ⟨1024 + e.val, by omega⟩ d)

/-- What column tile 2 adds to row `r`. -/
def part2 (r : Fin 512) (d : Fin 1024) : EReal :=
  proj (fun e : Fin 1024 => hidRow (bX x2 (bOf r)) (bS u (bOf r)) (bG x4) (bW x5) (bW x6) (bC x7) (bB x8) (lOf r) ⟨2048 + e.val, by omega⟩)
    (fun e : Fin 1024 => bD x9 ⟨2048 + e.val, by omega⟩ d)

theorem rows0_apply (r : Fin 512) (d : Fin 1024) :
    rows0 x2 u x4 x5 x6 x7 x8 x9 (ix2 r d) = bX x2 (bOf r) (lOf r) d + part0 x2 u x4 x5 x6 x7 x8 x9 r d := by
  refine (pay11_apply _ _ _ r d).trans (Ideal.add_congr ?_ (proj_congr (fun e => ?_) fun e => ?_))
  · rw [cut_allX]; exact pay2_apply x2 r d
  · refine (pay10_apply _ _ _ _ _ _ _ _ r e).trans ?_
    have h6 : k0_pay6 (cut x8 colB0.toLoadRect) (ix2 0 e) = cut x8 colB0.toLoadRect (ix2 0 e) := by pointwise [k0_pay6]
    rw [h6]
    exact hid_apply x2 u x4 x5 x6 x7 x8 (cut x5 colW0.toLoadRect) (cut x6 colW0.toLoadRect)
      (cut u colU0.toLoadRect) _ _ _ _ ⟨e.val, by omega⟩ e
      (fun k => cut_colW0 x5 k e) (fun k => cut_colW0 x6 k e)
      (fun j b => cut_colU0 u (cRow j b) e)
      (cut_tap00 x7 e) (cut_tap10 x7 e) (cut_tap20 x7 e) (cut_colB0 x8 e) r
  · exact cut_rowD0 x9 e d

theorem rows1_apply (r : Fin 512) (d : Fin 1024) :
    rows1 x2 u x4 x5 x6 x7 x8 x9 (ix2 r d) = bX x2 (bOf r) (lOf r) d + part0 x2 u x4 x5 x6 x7 x8 x9 r d + part1 x2 u x4 x5 x6 x7 x8 x9 r d := by
  refine (pay17_apply _ _ _ _ r d).trans (Ideal.add_congr ?_ (proj_congr (fun e => ?_) fun e => ?_))
  · exact rows0_apply x2 u x4 x5 x6 x7 x8 x9 r d
  · rw [pay14_apply]
    exact hid_apply x2 u x4 x5 x6 x7 x8 (cut x5 colW1.toLoadRect) (cut x6 colW1.toLoadRect)
      (cut u colU1.toLoadRect) _ _ _ _ ⟨1024 + e.val, by omega⟩ e
      (fun k => cut_colW1 x5 k e) (fun k => cut_colW1 x6 k e)
      (fun j b => cut_colU1 u (cRow j b) e)
      (cut_tap01 x7 e) (cut_tap11 x7 e) (cut_tap21 x7 e) (cut_colB1 x8 e) r
  · exact cut_rowD1 x9 e d

theorem rows2_apply (r : Fin 512) (d : Fin 1024) :
    rows2 x2 u x4 x5 x6 x7 x8 x9 (ix2 r d)
      = bX x2 (bOf r) (lOf r) d + part0 x2 u x4 x5 x6 x7 x8 x9 r d + part1 x2 u x4 x5 x6 x7 x8 x9 r d + part2 x2 u x4 x5 x6 x7 x8 x9 r d := by
  refine (pay24_apply _ _ _ _ _ _ _ _ r d).trans (Ideal.add_congr ?_ (proj_congr (fun e => ?_) fun e => ?_))
  · exact rows1_apply x2 u x4 x5 x6 x7 x8 x9 r d
  · rw [pay20_apply]
    exact hid_apply x2 u x4 x5 x6 x7 x8 (cut x5 colW2.toLoadRect) (cut x6 colW2.toLoadRect)
      (cut u colU2.toLoadRect) _ _ _ _ ⟨2048 + e.val, by omega⟩ e
      (fun k => cut_colW2 x5 k e) (fun k => cut_colW2 x6 k e)
      (fun j b => cut_colU2 u (cRow j b) e)
      (cut_tap02 x7 e) (cut_tap12 x7 e) (cut_tap22 x7 e) (cut_colB2 x8 e) r
  · exact cut_rowD2 x9 e d

/-- The rows before the final norm. -/
theorem rows2_eq (r : Fin 512) (d : Fin 1024) :
    rows2 x2 u x4 x5 x6 x7 x8 x9 (ix2 r d)
      = outRow (bX x2 (bOf r)) (bS u (bOf r)) (bG x4) (bW x5) (bW x6) (bC x7) (bB x8) (bD x9) (lOf r) d := by
  rw [rows2_apply]
  unfold outRow
  rw [proj_tiles, ← add_assoc, ← add_assoc]
  rfl

/-- **The slab of finished rows.** -/
theorem slab_apply (l : Fin 64) (b : Fin 8) (d : Fin 1024) :
    slab x2 u x4 x5 x6 x7 x8 x9 x10 (ix4 0 l b d)
      = seqOut (bX x2 b) (bS u b) (bG x4) (bW x5) (bW x6) (bC x7) (bB x8) (bD x9) (bG x10) l d := by
  have hg : (fun k => k0_pay25 (cut x10 allG.toLoadRect) (ix2 0 k)) = bG x10 := by
    funext k
    have : k0_pay25 (cut x10 allG.toLoadRect) (ix2 0 k) = cut x10 allG.toLoadRect (ix2 0 k) := by pointwise [k0_pay25]
    rw [this, cut_allG]; rfl
  have hr : (fun k => rows2 x2 u x4 x5 x6 x7 x8 x9 (ix2 (nRow l b) k))
      = outRow (bX x2 b) (bS u b) (bG x4) (bW x5) (bW x6) (bC x7) (bB x8) (bD x9) l := by
    funext k
    rw [rows2_eq, lOf_nRow, bOf_nRow]
  refine (pay26_apply _ _ l b d).trans ?_
  unfold seqOut
  rw [← hr, ← hg]
  rfl

/-- A tile of the new carried rows. -/
theorem state_tile (w : Vec Ideal S1024x1024 .bf16) (c : Fin 3072) (e : Fin 1024) (hw : ∀ k, w (ix2 k e) = x5 (ix2 k c))
    (j : Fin 2) (b : Fin 8) :
    k0_pay16 (rowsIn x2 x4) w (ix3 j b e) = up (bX x2 b) (bG x4) (bW x5) ⟨j.val + 62, by omega⟩ c := by
  have h : k0_pay16 (rowsIn x2 x4) w (ix3 j b e) = k0_pay12 (rowsIn x2 x4) w (ix2 (nRow ⟨j.val + 62, by omega⟩ b) e) := by
    pointwise [k0_pay16, nRow]
    exact congrArg (fun q => k0_pay12 (rowsIn x2 x4) w (ix2 q e)) (Fin.ext (by simp only [nRow]; omega))
  rw [h, up_apply x2 x4 w (bW x5) c e hw, lOf_nRow, bOf_nRow]

/-- A tile of the rows left for the next point. -/
theorem carry_tile (w : Vec Ideal S1024x1024 .bf16) (c : Fin 3072) (e : Fin 1024) (hw : ∀ k, w (ix2 k e) = x5 (ix2 k c))
    (j : Fin 2) (b : Fin 8) :
    k0_pay15 (rowsIn x2 x4) w (ix2 (cRow j b) e) = up (bX x2 b) (bG x4) (bW x5) ⟨j.val + 62, by omega⟩ c := by
  have h : k0_pay15 (rowsIn x2 x4) w (ix2 (cRow j b) e) = k0_pay12 (rowsIn x2 x4) w (ix2 (nRow ⟨j.val + 62, by omega⟩ b) e) := by
    pointwise [k0_pay15, nRow]
    exact congrArg (fun q => k0_pay12 (rowsIn x2 x4) w (ix2 q e)) (Fin.ext (by simp only [nRow, cRow]; omega))
  rw [h, up_apply x2 x4 w (bW x5) c e hw, lOf_nRow, bOf_nRow]

/-- **The new carried rows of a block.** -/
theorem state_apply (j : Fin 2) (b : Fin 8) (f : Fin 3072) :
    stateOf x2 x4 x5 (ix3 j b f) = up (bX x2 b) (bG x4) (bW x5) ⟨j.val + 62, by omega⟩ f := by
  have hf := f.isLt
  rw [ix3_eq_valueIdx]
  unfold stateOf sideBySide
  by_cases h : f.val < 1024
  · refine (dif_pos h).trans ?_
    rw [← ix3_eq_valueIdx]
    exact state_tile x2 x4 x5 (cut x5 colW0.toLoadRect) f ⟨f.val, h⟩ (fun k => cut_colW0 x5 k ⟨f.val, h⟩) j b
  · refine (dif_neg h).trans ?_
    by_cases h' : f.val < 2048
    · refine (dif_pos h').trans ?_
      rw [← ix3_eq_valueIdx]
      exact state_tile x2 x4 x5 (cut x5 colW1.toLoadRect) f ⟨f.val - 1024, by omega⟩
        (fun k => (cut_colW1 x5 k ⟨f.val - 1024, by omega⟩).trans
          (congrArg (fun q => x5 (ix2 k q)) (Fin.ext (show 1024 + (f.val - 1024) = f.val by omega)))) j b
    · refine (dif_neg h').trans ?_
      rw [← ix3_eq_valueIdx]
      exact state_tile x2 x4 x5 (cut x5 colW2.toLoadRect) f ⟨f.val - 2048, by omega⟩
        (fun k => (cut_colW2 x5 k ⟨f.val - 2048, by omega⟩).trans
          (congrArg (fun q => x5 (ix2 k q)) (Fin.ext (show 2048 + (f.val - 2048) = f.val by omega)))) j b

/-- **The rows a block leaves for the next point.** -/
theorem carry_apply (j : Fin 2) (b : Fin 8) (f : Fin 3072) :
    carryOf x2 x4 x5 (ix2 (cRow j b) f) = up (bX x2 b) (bG x4) (bW x5) ⟨j.val + 62, by omega⟩ f := by
  have hf := f.isLt
  rw [ix2_eq_valueIdx]
  unfold carryOf carrySide
  by_cases h : f.val < 1024
  · refine (dif_pos h).trans ?_
    rw [← ix2_eq_valueIdx]
    exact carry_tile x2 x4 x5 (cut x5 colW0.toLoadRect) f ⟨f.val, h⟩ (fun k => cut_colW0 x5 k ⟨f.val, h⟩) j b
  · refine (dif_neg h).trans ?_
    by_cases h' : f.val < 2048
    · refine (dif_pos h').trans ?_
      rw [← ix2_eq_valueIdx]
      exact carry_tile x2 x4 x5 (cut x5 colW1.toLoadRect) f ⟨f.val - 1024, by omega⟩
        (fun k => (cut_colW1 x5 k ⟨f.val - 1024, by omega⟩).trans
          (congrArg (fun q => x5 (ix2 k q)) (Fin.ext (show 1024 + (f.val - 1024) = f.val by omega)))) j b
    · refine (dif_neg h').trans ?_
      rw [← ix2_eq_valueIdx]
      exact carry_tile x2 x4 x5 (cut x5 colW2.toLoadRect) f ⟨f.val - 2048, by omega⟩
        (fun k => (cut_colW2 x5 k ⟨f.val - 2048, by omega⟩).trans
          (congrArg (fun q => x5 (ix2 k q)) (Fin.ext (show 2048 + (f.val - 2048) = f.val by omega)))) j b

end Cert.Ffn.Prompt

end
-- ==== Proof.Prompt.Reference.lean ====
/-
  The reference on the long sequences, stage by stage: its composed term is the mathematics of the feed-forward block,
  sequence by sequence.
-/
module

public import proofs.«01_k».proof.Proof.Gen.Reference1Ideal.Run
public import proofs.«01_k».proof.Proof.Prompt.Spec

@[expose] public section

set_option maxRecDepth 16384

noncomputable section

namespace Cert.Ffn.Prompt.Ref

open Cert.Reference1Ideal Cert.Reference1Ideal.Gen
open Idealize.ShloMosaic Idealize.ShloMosaic.TcCoe

/-! ## The stages -/

/-- The rows by sequence. -/
def rows (a : FVec Ideal S2048x8x1024 .f32) : FVec Ideal S8x2048x1024 .f32 :=
  transpose S8x2048x1024 [1, 0, 2] a transposes_S2048x8x1024_S8x2048x1024_1_0_2

/-- The rms-norm of every row. -/
def norm (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 g))

/-- A projection up. -/
def lift (x : FVec Ideal S8x2048x1024 .f32) (W : FVec Ideal S1024x3072 .f32) : FVec Ideal S8x2048x3072 .f32 :=
  Host.dotGeneral dot_S8x2048x1024_S1024x3072_S8x2048x3072_2_0_01_1_n_n none x W

/-- The carried rows before the new ones. -/
def joined (s : FVec Ideal S2x8x3072 .f32) (u : FVec Ideal S8x2048x3072 .f32) : FVec Ideal S8x2050x3072 .f32 :=
  concatenate S8x2050x3072 1 [⟨S8x2x3072, transpose S8x2x3072 [1, 0, 2] s transposes_S2x8x3072_S8x2x3072_1_0_2⟩,
    ⟨S8x2048x3072, u⟩] concatenates_S8x2x3072_S8x2048x3072_S8x2050x3072_d1

/-- A row of the columns' gains at every row. -/
def spread (w : FVec Ideal S3072 .f32) : FVec Ideal S8x2048x3072 .f32 :=
  broadcastInDim S8x2048x3072 ![0, 1, 2] bcast_S1x1x3072_S8x2048x3072_0_1_2
    (broadcastInDim S1x1x3072 ![2] bcast_S3072_S1x1x3072_2 w)

/-- The causal convolution. -/
def convolved (p : FVec Ideal S8x2050x3072 .f32) (w : FVec Ideal S3x3072 .f32) (b : FVec Ideal S3072 .f32) :
    FVec Ideal S8x2048x3072 .f32 :=
  addf (addf (addf (spread b)
      (mulf (extractStridedSlice S8x2048x3072 ![0, 0, 0] p slices_S8x2050x3072_S8x2048x3072_0_0_0)
        (spread (shapeCast S3072 (extractStridedSlice S1x3072 ![0, 0] w slices_S3x3072_S1x3072_0_0) shapeCasts_S1x3072_S3072))))
      (mulf (extractStridedSlice S8x2048x3072 ![0, 1, 0] p slices_S8x2050x3072_S8x2048x3072_0_1_0)
        (spread (shapeCast S3072 (extractStridedSlice S1x3072 ![1, 0] w slices_S3x3072_S1x3072_1_0) shapeCasts_S1x3072_S3072))))
    (mulf (extractStridedSlice S8x2048x3072 ![0, 2, 0] p slices_S8x2050x3072_S8x2048x3072_0_2_0)
      (spread (shapeCast S3072 (extractStridedSlice S1x3072 ![2, 0] w slices_S3x3072_S1x3072_2_0) shapeCasts_S1x3072_S3072)))

/-- The gelu. -/
def smooth (u : FVec Ideal S8x2048x3072 .f32) : FVec Ideal S8x2048x3072 .f32 :=
  mulf u (mulf (broadcastInDim S8x2048x3072 ![] bcast_S_S8x2048x3072 (constant S_ .f32 0x3F000000#32))
    (addf (broadcastInDim S8x2048x3072 ![] bcast_S_S8x2048x3072 (constant S_ .f32 0x3F800000#32))
      (Host.tanh (mulf (broadcastInDim S8x2048x3072 ![] bcast_S_S8x2048x3072 (constant S_ .f32 0x3F4C422A#32))
        (addf u (mulf (broadcastInDim S8x2048x3072 ![] bcast_S_S8x2048x3072 (constant S_ .f32 0x3D372713#32))
          (mulf (mulf u u) u)))))))

/-- The projection back, added to the rows. -/
def lower (x : FVec Ideal S8x2048x1024 .f32) (h : FVec Ideal S8x2048x3072 .f32) (W : FVec Ideal S3072x1024 .f32) :
    FVec Ideal S8x2048x1024 .f32 :=
  addf x (Host.dotGeneral dot_S8x2048x3072_S3072x1024_S8x2048x1024_2_0_01_1_n_n none h W)

/-- The new carried rows. -/
def kept (p : FVec Ideal S8x2050x3072 .f32) : FVec Ideal S2x8x3072 .f32 :=
  transpose S2x8x3072 [1, 0, 2] (extractStridedSlice S8x2x3072 ![0, 2048, 0] p slices_S8x2050x3072_S8x2x3072_0_2048_0)
    transposes_S8x2x3072_S2x8x3072_1_0_2

/-! ## Each stage at an index -/

theorem rows_apply (a) (b : Fin 8) (l : Fin 2048) (d : Fin 1024) : rows a (ix3 b l d) = a (ix3 l b d) := by
  pointwise [rows]

theorem norm_apply (x) (g) (b : Fin 8) (l : Fin 2048) (d : Fin 1024) :
    norm x g (ix3 b l d) = rms (fun k => x (ix3 b l k)) (fun k => g (ix1 k)) d := by
  pointwise [norm, rms]

theorem lift_apply (x W) (b : Fin 8) (l : Fin 2048) (f : Fin 3072) :
    lift x W (ix3 b l f) = proj (fun k => x (ix3 b l k)) (fun k => W (ix2 k f)) := by
  pointwise [lift, proj]

theorem joined_apply (s u) (b : Fin 8) (j : Fin (2048 + 2)) (f : Fin 3072) :
    joined s u (ix3 b j f) = past (fun j => s (ix3 j b f)) (fun i => u (ix3 b i f)) j := by
  pointwise [joined, past]

theorem convolved_apply (p w bias) (b : Fin 8) (l : Fin 2048) (f : Fin 3072) :
    convolved p w bias (ix3 b l f) = conv (p (ix3 b ⟨l.val, by omega⟩ f)) (p (ix3 b ⟨1 + l.val, by omega⟩ f))
      (p (ix3 b ⟨2 + l.val, by omega⟩ f)) (w (ix2 0 f)) (w (ix2 1 f)) (w (ix2 2 f)) (bias (ix1 f)) := by
  pointwise [convolved, spread, conv]

theorem smooth_apply (u) (b : Fin 8) (l : Fin 2048) (f : Fin 3072) : smooth u (ix3 b l f) = gelu (u (ix3 b l f)) := by
  pointwise! [smooth, gelu]

theorem lower_apply (x h W) (b : Fin 8) (l : Fin 2048) (d : Fin 1024) :
    lower x h W (ix3 b l d) = x (ix3 b l d) + proj (fun k => h (ix3 b l k)) (fun k => W (ix2 k d)) := by
  pointwise [lower, proj]

theorem kept_apply (p) (j : Fin 2) (b : Fin 8) (f : Fin 3072) : kept p (ix3 j b f) = p (ix3 b ⟨j.val + 2048, by omega⟩ f) := by
  pointwise [kept]
  exact congrArg (fun q => p (ix3 b q f)) (Fin.ext (Nat.add_comm _ _))

/-! ## The reference -/

variable (a0 : FVec Ideal S2048x8x1024 .f32) (a1 : FVec Ideal S2x8x3072 .f32) (g : FVec Ideal S1024 .f32)
  (Wu Wg : FVec Ideal S1024x3072 .f32) (w : FVec Ideal S3x3072 .f32) (bias : FVec Ideal S3072 .f32)
  (Wd : FVec Ideal S3072x1024 .f32) (g' : FVec Ideal S1024 .f32)

/-- The projection up of the normalised rows. -/
def ups (W : FVec Ideal S1024x3072 .f32) : FVec Ideal S8x2048x3072 .f32 := lift (norm (rows a0) g) W

/-- The hidden rows. -/
def hidden : FVec Ideal S8x2048x3072 .f32 :=
  mulf (smooth (convolved (joined a1 (ups a0 g Wu)) w bias)) (ups a0 g Wg)

/-- The finished rows. -/
def out : FVec Ideal S8x2048x1024 .f32 := norm (lower (rows a0) (hidden a0 a1 g Wu Wg w bias) Wd) g'

theorem ups_apply (W) (b : Fin 8) (l : Fin 2048) (f : Fin 3072) :
    ups a0 g W (ix3 b l f) = up (fun l d => a0 (ix3 l b d)) (fun d => g (ix1 d)) (fun k f => W (ix2 k f)) l f := by
  unfold ups up
  rw [lift_apply]
  simp only [norm_apply, rows_apply]

theorem past_new (s : Fin 2 → EReal) (u : Fin 2048 → EReal) (l : Fin 2048) (j : Fin (2048 + 2)) (h : j.val = l.val + 2) : past s u j = u l := by
  unfold past
  rw [dif_neg (by omega)]
  exact congrArg u (Fin.ext (by show j.val - 2 = l.val; omega))

theorem hidden_apply (b : Fin 8) (l : Fin 2048) (f : Fin 3072) :
    hidden a0 a1 g Wu Wg w bias (ix3 b l f)
      = hidRow (fun l d => a0 (ix3 l b d)) (fun j f => a1 (ix3 j b f)) (fun d => g (ix1 d)) (fun k f => Wu (ix2 k f))
        (fun k f => Wg (ix2 k f)) (fun j f => w (ix2 j f)) (fun f => bias (ix1 f)) l f := by
  have h : hidden a0 a1 g Wu Wg w bias (ix3 b l f)
      = smooth (convolved (joined a1 (ups a0 g Wu)) w bias) (ix3 b l f) * ups a0 g Wg (ix3 b l f) := by
    pointwise [hidden]
  rw [h, smooth_apply, convolved_apply, joined_apply, joined_apply, joined_apply, past_new _ _ l ⟨2 + l.val, by omega⟩ (Nat.add_comm _ _)]
  simp only [ups_apply]
  have h1 : (⟨1 + l.val, by omega⟩ : Fin (2048 + 2)) = ⟨l.val + 1, by omega⟩ := Fin.ext (Nat.add_comm _ _)
  rw [h1]
  rfl

theorem out_apply (b : Fin 8) (l : Fin 2048) (d : Fin 1024) :
    out a0 a1 g Wu Wg w bias Wd g' (ix3 b l d)
      = seqOut (fun l d => a0 (ix3 l b d)) (fun j f => a1 (ix3 j b f)) (fun d => g (ix1 d)) (fun k f => Wu (ix2 k f))
        (fun k f => Wg (ix2 k f)) (fun j f => w (ix2 j f)) (fun f => bias (ix1 f)) (fun f d => Wd (ix2 f d))
        (fun d => g' (ix1 d)) l d := by
  unfold out seqOut
  rw [norm_apply]
  simp only [lower_apply, rows_apply, hidden_apply]
  rfl

theorem kept_joined (j : Fin 2) (b : Fin 8) (f : Fin 3072) :
    kept (joined a1 (ups a0 g Wu)) (ix3 j b f)
      = up (fun l d => a0 (ix3 l b d)) (fun d => g (ix1 d)) (fun k f => Wu (ix2 k f)) ⟨j.val + 2046, by omega⟩ f := by
  rw [kept_apply, joined_apply, past_new _ _ ⟨j.val + 2046, by omega⟩ _ rfl, ups_apply]

/-! ## The arguments as the stages take them -/

theorem gain_apply (a : FVec Ideal S1x1024 .f32) (d : Fin 1024) :
    shapeCast S1024 a shapeCasts_S1x1024_S1024 (ix1 d) = a (ix2 0 d) := by pointwise

theorem weights_apply (a : FVec Ideal S1x1024x3072 .f32) (k : Fin 1024) (f : Fin 3072) :
    shapeCast S1024x3072 a shapeCasts_S1x1024x3072_S1024x3072 (ix2 k f) = a (ix3 0 k f) := by pointwise

theorem taps_apply (a : FVec Ideal S1x3x3072 .f32) (j : Fin 3) (f : Fin 3072) :
    shapeCast S3x3072 a shapeCasts_S1x3x3072_S3x3072 (ix2 j f) = a (ix3 0 j f) := by pointwise

theorem bias_apply (a : FVec Ideal S1x3072 .f32) (f : Fin 3072) :
    shapeCast S3072 a shapeCasts_S1x3072_S3072 (ix1 f) = a (ix2 0 f) := by pointwise

theorem down_apply (a : FVec Ideal S1x3072x1024 .f32) (f : Fin 3072) (d : Fin 1024) :
    shapeCast S3072x1024 a shapeCasts_S1x3072x1024_S3072x1024 (ix2 f d) = a (ix3 0 f d) := by pointwise

section
variable (m : (ℓ : Loc nD τ sig) → Buf (Elt Ideal) ℓ) (c : Dev nD)

/-- The reference's first result, of the arguments. -/
def res0 : FVec Ideal S8x2048x1024 .f32 :=
  out (m ((c.tc : Thread nD τ).loc main_arg0)) (m ((c.tc : Thread nD τ).loc main_arg1))
    (shapeCast S1024 (m ((c.tc : Thread nD τ).loc main_arg2)) shapeCasts_S1x1024_S1024)
    (shapeCast S1024x3072 (m ((c.tc : Thread nD τ).loc main_arg3)) shapeCasts_S1x1024x3072_S1024x3072)
    (shapeCast S1024x3072 (m ((c.tc : Thread nD τ).loc main_arg4)) shapeCasts_S1x1024x3072_S1024x3072)
    (shapeCast S3x3072 (m ((c.tc : Thread nD τ).loc main_arg5)) shapeCasts_S1x3x3072_S3x3072)
    (shapeCast S3072 (m ((c.tc : Thread nD τ).loc main_arg6)) shapeCasts_S1x3072_S3072)
    (shapeCast S3072x1024 (m ((c.tc : Thread nD τ).loc main_arg7)) shapeCasts_S1x3072x1024_S3072x1024)
    (m ((c.tc : Thread nD τ).loc main_arg8))

/-- The reference's second result, of the arguments. -/
def res1 : FVec Ideal S2x8x3072 .f32 :=
  kept (joined (m ((c.tc : Thread nD τ).loc main_arg1)) (ups (m ((c.tc : Thread nD τ).loc main_arg0))
    (shapeCast S1024 (m ((c.tc : Thread nD τ).loc main_arg2)) shapeCasts_S1x1024_S1024)
    (shapeCast S1024x3072 (m ((c.tc : Thread nD τ).loc main_arg3)) shapeCasts_S1x1024x3072_S1024x3072)))

theorem res_main_v76_eq : Cert.Reference1Ideal.Value.res_main_v76 (F := Ideal) m c = res0 m c := rfl

end

end Cert.Ffn.Prompt.Ref

end
-- ==== Proof.Prompt.Algebraic.lean ====
/-
  The call on the long sequences and its reference leave the same two arrays: at every index each is the mathematics of
  the feed-forward block of the arguments' values.
-/
module

public import proofs.«01_k».proof.Defs
public import proofs.«01_k».proof.Proof.Prompt.Args
public import proofs.«01_k».proof.Proof.Prompt.Block
public import proofs.«01_k».proof.Proof.Prompt.Reference

@[expose] public section

set_option maxRecDepth 16384

noncomputable section

namespace Cert.Ffn.Prompt

open Cert.Kernel1Ideal Cert.Kernel1Ideal.Gen Cert.Kernel1Ideal.Hand
open Idealize.ShloMosaic Idealize.ShloMosaic.TcCoe Idealize.SL.Sem

variable (m : (ℓ : Loc nD τ sig) → Buf (Elt Ideal) ℓ) (c : Dev nD)

/-! ## The two results, of the arguments -/

/-- The new rows of sequence `b`. -/
def aX (b : Fin 8) (l : Fin 2048) (d : Fin 1024) : EReal := m ((c.tc : Thread nD τ).loc main_arg0) (ix3 l b d)
/-- Its carried rows. -/
def aS (b : Fin 8) (j : Fin 2) (f : Fin 3072) : EReal := m ((c.tc : Thread nD τ).loc main_arg1) (ix3 j b f)
/-- The first gain. -/
def aG (d : Fin 1024) : EReal := m ((c.tc : Thread nD τ).loc main_arg2) (ix2 (0 : Fin 1) d)
/-- The weights up. -/
def aU (k : Fin 1024) (f : Fin 3072) : EReal := m ((c.tc : Thread nD τ).loc main_arg3) (ix3 (0 : Fin 1) k f)
/-- The gate's weights. -/
def aV (k : Fin 1024) (f : Fin 3072) : EReal := m ((c.tc : Thread nD τ).loc main_arg4) (ix3 (0 : Fin 1) k f)
/-- The taps. -/
def aC (j : Fin 3) (f : Fin 3072) : EReal := m ((c.tc : Thread nD τ).loc main_arg5) (ix3 (0 : Fin 1) j f)
/-- The bias. -/
def aB (f : Fin 3072) : EReal := m ((c.tc : Thread nD τ).loc main_arg6) (ix2 (0 : Fin 1) f)
/-- The weights back down. -/
def aD (f : Fin 3072) (d : Fin 1024) : EReal := m ((c.tc : Thread nD τ).loc main_arg7) (ix3 (0 : Fin 1) f d)
/-- The final gain. -/
def aF (d : Fin 1024) : EReal := m ((c.tc : Thread nD τ).loc main_arg8) (ix1 d)

/-- The finished rows at an index. -/
def outVal (b : Fin 8) (l : Fin 2048) (d : Fin 1024) : EReal :=
  seqOut (aX m c b) (aS m c b) (aG m c) (aU m c) (aV m c) (aC m c) (aB m c) (aD m c) (aF m c) l d

/-- The new carried rows at an index. -/
def stateVal (j : Fin 2) (b : Fin 8) (f : Fin 3072) : EReal := up (aX m c b) (aG m c) (aU m c) ⟨j.val + 2046, by omega⟩ f

/-! ## The kernel -/

theorem bX_eq (t : Fin cfg0.N) (b : Fin 8) : bX (blk0 m c t) b = fun l => aX m c b (chunkRow t.val t.isLt l) :=
  funext fun l => funext fun d => blk0_apply m c t l b d (chunkRow t.val t.isLt l) rfl
section
variable (t : Fin cfg0.N)
theorem bG_eq : bG (blk2 m c t) = aG m c := funext fun d => blk2_apply m c t d
theorem bU_eq : bW (blk3 m c t) = aU m c := funext fun k => funext fun f => blk3_apply m c t k f
theorem bV_eq : bW (blk4 m c t) = aV m c := funext fun k => funext fun f => blk4_apply m c t k f
theorem bC_eq : bC (blk5 m c t) = aC m c := funext fun j => funext fun f => blk5_apply m c t j f
theorem bB_eq : bB (blk6 m c t) = aB m c := funext fun f => blk6_apply m c t f
theorem bD_eq : bD (blk7 m c t) = aD m c := funext fun f => funext fun d => blk7_apply m c t f d
theorem bF_eq : bG (blk8 m c t) = aF m c := funext fun d => blk8_apply m c t d
end

/-- The rows a point reads as carried are the two before its own. -/
theorem bS_eq (t : Fin cfg0.N) (b : Fin 8) :
    bS (carryIn m c t) b = carriedInto (aX m c b) (aS m c b) (aG m c) (aU m c) t.val t.isLt := by
  have hlt : t.val < 32 := t.isLt
  funext j f
  by_cases h : t.val = 0
  · obtain rfl : t = pt0 := Fin.ext h
    rw [carryIn_first]
    refine (carried_apply _ j b f).trans ((blk1_apply m c pt0 j b f).trans ?_)
    unfold carriedInto past
    refine Eq.trans ?_ (dif_pos (show 64 * (pt0 : Fin cfg0.N).val + j.val < 2 from by show 64 * 0 + j.val < 2; omega)).symm
    exact congrArg (fun q => aS m c b q f) (Fin.ext (show j.val = 64 * 0 + j.val by omega))
  · rw [carryIn_next m c t ⟨t.val - 1, by show _ < 32; omega⟩ (show t.val = t.val - 1 + 1 by omega)]
    refine (carry_apply _ _ _ j b f).trans ?_
    rw [bX_eq, bG_eq, bU_eq]
    unfold carriedInto past
    refine Eq.trans ?_ (dif_neg (show ¬ 64 * t.val + j.val < 2 by omega)).symm
    exact congrArg (fun q => up (aX m c b) (aG m c) (aU m c) q f)
      (Fin.ext (show 64 * (t.val - 1) + (j.val + 62) = 64 * t.val + j.val - 2 by omega))

/-- A row's point and its place in the point's chunk. -/
theorem point_of (l : Fin 2048) : ∃ (t : Fin cfg0.N) (r : Fin 64), l = chunkRow t.val t.isLt r :=
  ⟨⟨l.val / 64, by have := l.isLt; show _ < 32; omega⟩, ⟨l.val % 64, Nat.mod_lt _ (by decide)⟩,
    Fin.ext (show l.val = 64 * (l.val / 64) + l.val % 64 by omega)⟩

theorem rowsOut_apply (b : Fin 8) (l : Fin 2048) (d : Fin 1024) : rowsOut m c (ix3 b l d) = outVal m c b l d := by
  obtain ⟨t, r, rfl⟩ := point_of l
  refine (rowsOut_at m c t r (ix3 b (chunkRow t.val t.isLt r) d) rfl).trans ?_
  show slabAt m c t (ValueIdx.ix4 (0 : Fin 1) r b d) = _
  rw [← ix4_eq_valueIdx]
  refine (slab_apply _ _ _ _ _ _ _ _ _ r b d).trans ?_
  rw [bX_eq, bS_eq, bG_eq, bU_eq, bV_eq, bC_eq, bB_eq, bD_eq, bF_eq]
  exact seqOut_chunk _ _ _ _ _ _ _ _ _ t.val t.isLt r d

/-- The new carried rows as an array. -/
def stateArr : Vec Ideal S2x8x3072 .f32 := fun x => stateVal m c (x 0) (x 1) (x 2)

theorem stateAt (j : Fin 2) (b : Fin 8) (f : Fin 3072) :
    stateOf (blk0 m c pt31) (blk2 m c pt31) (blk3 m c pt31) (ix3 j b f) = stateVal m c j b f := by
  rw [state_apply, bX_eq, bG_eq, bU_eq]
  exact congrArg (fun q => up (aX m c b) (aG m c) (aU m c) q f) (Fin.ext (show 64 * 31 + (j.val + 62) = j.val + 2046 by omega))

theorem emb9 (t : Fin cfg0.N) (x : S2x8x3072.Idx) : ((cfg0.win 9).blk t).view.emb x = x := by
  funext a
  exact Fin.ext ((cfg0.win 9).rect_emb_val_of_index_zero t a (by revert t a; decide +kernel) x)

theorem last_of_flush (t : Fin cfg0.N) (h : (cfg0.win 9).flush t = true) : t = pt31 := by
  have h' : t.val % 32 = 31 := (flush0_9 t).mp h
  have hlt : t.val < 32 := t.isLt
  exact Fin.ext (show t.val = 31 by omega)

theorem flushed9 : (dats m 0 c).flushed 9 pt31 = ((cfg0.win 9).blk pt31).view.read (Elt Ideal) (stateArr m c) := by
  funext x
  show (dats m 0 c).after 9 pt31 x = _
  rw [after0_9, View.read_apply]
  obtain ⟨j, b, f, rfl⟩ : ∃ (j : Fin 2) (b : Fin 8) (f : Fin 3072), x = ix3 j b f := ⟨x 0, x 1, x 2, eq_ix3 x⟩
  refine (stateAt m c j b f).trans ?_
  rw [emb9 pt31 (ix3 j b f)]
  rfl

theorem cover9 (i : S2x8x3072.Idx) : ∃ t : Fin cfg0.N, (cfg0.win 9).flush t = true ∧ i ∈ ((cfg0.win 9).blk t).view.set := by
  refine ⟨pt31, (flush0_9 pt31).mpr rfl, ?_⟩
  rw [← emb9 pt31 i]
  exact View.emb_mem_set _ _

theorem arr9 : (dats m 0 c).arrAt 9 cfg0.N = stateArr m c :=
  (dats m 0 c).arrAt_eq_of_cover 9 (stateArr m c) (fun t h => by obtain rfl := last_of_flush t h; exact flushed9 m c) (fun i => cover9 i)

/-! ## The reference -/

variable (m' : (ℓ : Loc Cert.Reference1Ideal.nD Cert.Reference1Ideal.τ Cert.Reference1Ideal.sig) → Buf (Elt Ideal) ℓ)

/-- The two programs' arguments agree on a device. -/
def Agree (c : Dev nD) : Prop :=
  m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
  ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
  ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
  ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
  ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
  ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
  ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
  ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
  ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)

theorem ref0 (h : Agree m m' c) : Ref.res0 m' c = rowsOut m c := by
  obtain ⟨h0, h1, h2, h3, h4, h5, h6, h7, h8⟩ := h
  funext x
  obtain ⟨b, l, d, rfl⟩ : ∃ (b : Fin 8) (l : Fin 2048) (d : Fin 1024), x = ix3 b l d := ⟨x 0, x 1, x 2, eq_ix3 x⟩
  refine Eq.trans ?_ (rowsOut_apply m c b l d).symm
  unfold Ref.res0
  rw [Ref.out_apply, h0, h1, h2, h3, h4, h5, h6, h7, h8]
  simp only [Ref.gain_apply, Ref.weights_apply, Ref.taps_apply, Ref.bias_apply, Ref.down_apply]
  rfl

theorem ref1 (h : Agree m m' c) : Ref.res1 m' c = stateArr m c := by
  obtain ⟨h0, h1, h2, h3, h4, h5, h6, h7, h8⟩ := h
  funext x
  obtain ⟨j, b, f, rfl⟩ : ∃ (j : Fin 2) (b : Fin 8) (f : Fin 3072), x = ix3 j b f := ⟨x 0, x 1, x 2, eq_ix3 x⟩
  unfold Ref.res1
  rw [Ref.kept_joined, h0, h2, h3]
  simp only [Ref.gain_apply, Ref.weights_apply]
  rfl

/-! ## The claim -/

/-- **The kernel and the reference end with equal results.** -/
theorem algebraic : Cert.algebraic_Kernel1Ideal_Reference1Ideal (hKernel1Ideal := Cert.Kernel1Ideal.Gen.facts)
    (hReference1Ideal := Cert.Reference1Ideal.Gen.facts) := by
  intro m g m' g' _ hargs
  refine ⟨fun c => rowsOut m c, fun c => stateArr m c, ?_, ?_⟩
  · refine (θ_run _ _ _).mono (fun r h c => ?_) (run_main (F := Ideal) m g)
    refine ⟨?_, ?_, args_of m h.1 c⟩
    · exact (h.1.2 c main_v12_0 (by unfold R0; exact Finset.mem_singleton_self _)).trans (G_rows m c)
    · exact ((h.1.1 c).1 9).trans (arr9 m c)
  · refine (θ_run _ _ _).mono (fun r h c => ?_) (Cert.Reference1Ideal.Value.run (F := Ideal) m' g')
    obtain ⟨r0, r1, ra⟩ := h c
    refine ⟨r0.trans ((Ref.res_main_v76_eq m' c).trans (ref0 m c m' (hargs c))), r1.trans ?_, ra⟩
    exact Eq.trans (show _ = Ref.res1 m' c from rfl) (ref1 m c m' (hargs c))

end Cert.Ffn.Prompt

end
-- ==== Proof.State.Reference.lean ====
/-
  The reference on the meta tokens, stage by stage: its composed term is the last two projected rows of every sequence.
-/
module

public import proofs.«01_k».proof.Proof.Gen.Reference3Ideal.Run
public import proofs.«01_k».proof.Proof.Value.Spec

@[expose] public section

set_option maxRecDepth 16384

noncomputable section

namespace Cert.Ffn.State.Ref

open Cert.Reference3Ideal Cert.Reference3Ideal.Gen
open Idealize.ShloMosaic Idealize.ShloMosaic.TcCoe

/-! ## The stages -/

/-- The rows by sequence. -/
def rows (a : FVec Ideal S16x8x1024 .f32) : FVec Ideal S8x16x1024 .f32 :=
  transpose S8x16x1024 [1, 0, 2] a transposes_S16x8x1024_S8x16x1024_1_0_2

/-- The rms-norm of every row. -/
def norm (x : FVec Ideal S8x16x1024 .f32) (g : FVec Ideal S1024 .f32) : FVec Ideal S8x16x1024 .f32 :=
  mulf (mulf x (broadcastInDim S8x16x1024 ![0, 1, 2] bcast_S8x16x1_S8x16x1024_0_1_2
      (Host.rsqrt (addf (Host.divf (broadcastInDim S8x16x1 ![0, 1] bcast_S8x16_S8x16x1_0_1
          (Host.reduceAdd (mulf x x) (constant S_ .f32 0x00000000#32) reducesTo_S8x16x1024_S8x16_d2 h_S_))
        (broadcastInDim S8x16x1 ![] bcast_S_S8x16x1 (constant S_ .f32 0x44800000#32)))
        (broadcastInDim S8x16x1 ![] bcast_S_S8x16x1 (constant S_ .f32 0x358637BD#32))))))
    (broadcastInDim S8x16x1024 ![0, 1, 2] bcast_S1x1x1024_S8x16x1024_0_1_2
      (broadcastInDim S1x1x1024 ![2] bcast_S1024_S1x1x1024_2 g))

/-- A projection up. -/
def lift (x : FVec Ideal S8x16x1024 .f32) (W : FVec Ideal S1024x3072 .f32) : FVec Ideal S8x16x3072 .f32 :=
  Host.dotGeneral dot_S8x16x1024_S1024x3072_S8x16x3072_2_0_01_1_n_n none x W

/-- Two rows of zeros before the new ones. -/
def joined (u : FVec Ideal S8x16x3072 .f32) : FVec Ideal S8x18x3072 .f32 :=
  concatenate S8x18x3072 1 [⟨S8x2x3072, broadcastInDim S8x2x3072 ![] bcast_S_S8x2x3072 (constant S_ .f32 0x00000000#32)⟩,
    ⟨S8x16x3072, u⟩] concatenates_S8x2x3072_S8x16x3072_S8x18x3072_d1

/-- The last two rows. -/
def kept (p : FVec Ideal S8x18x3072 .f32) : FVec Ideal S2x8x3072 .f32 :=
  transpose S2x8x3072 [1, 0, 2] (extractStridedSlice S8x2x3072 ![0, 16, 0] p slices_S8x18x3072_S8x2x3072_0_16_0)
    transposes_S8x2x3072_S2x8x3072_1_0_2

/-! ## Each stage at an index -/

theorem rows_apply (a) (b : Fin 8) (l : Fin 16) (d : Fin 1024) : rows a (ix3 b l d) = a (ix3 l b d) := by
  pointwise [rows]

theorem norm_apply (x) (g) (b : Fin 8) (l : Fin 16) (d : Fin 1024) :
    norm x g (ix3 b l d) = rms (fun k => x (ix3 b l k)) (fun k => g (ix1 k)) d := by
  pointwise [norm, rms]

theorem lift_apply (x W) (b : Fin 8) (l : Fin 16) (f : Fin 3072) :
    lift x W (ix3 b l f) = proj (fun k => x (ix3 b l k)) (fun k => W (ix2 k f)) := by
  pointwise [lift, proj]

theorem joined_apply (u) (b : Fin 8) (j : Fin (16 + 2)) (f : Fin 3072) :
    joined u (ix3 b j f) = if h : j.val < 2 then Ideal.ofBits .f32 0x00000000#32 else u (ix3 b (⟨j.val - 2, by omega⟩ : Fin 16) f) := by
  pointwise [joined]

theorem kept_apply (p) (j : Fin 2) (b : Fin 8) (f : Fin 3072) : kept p (ix3 j b f) = p (ix3 b (⟨j.val + 16, by omega⟩ : Fin 18) f) := by
  pointwise [kept]
  exact congrArg (fun q => p (ix3 b q f)) (Fin.ext (Nat.add_comm _ _))

theorem gain_apply (a : FVec Ideal S1x1024 .f32) (d : Fin 1024) :
    shapeCast S1024 a shapeCasts_S1x1024_S1024 (ix1 d) = a (ix2 0 d) := by pointwise
theorem weights_apply (a : FVec Ideal S1x1024x3072 .f32) (k : Fin 1024) (f : Fin 3072) :
    shapeCast S1024x3072 a shapeCasts_S1x1024x3072_S1024x3072 (ix2 k f) = a (ix3 0 k f) := by pointwise

/-! ## The reference -/

/-- The reference's result. -/
def result (a : FVec Ideal S16x8x1024 .f32) (g : FVec Ideal S1x1024 .f32) (W : FVec Ideal S1x1024x3072 .f32) :
    FVec Ideal S2x8x3072 .f32 :=
  kept (joined (lift (norm (rows a) (shapeCast S1024 g shapeCasts_S1x1024_S1024))
    (shapeCast S1024x3072 W shapeCasts_S1x1024x3072_S1024x3072)))

theorem result_apply (a g W) (j : Fin 2) (b : Fin 8) (f : Fin 3072) :
    result a g W (ix3 j b f) = proj (rms (fun k => a (ix3 (⟨14 + j.val, by omega⟩ : Fin 16) b k)) (fun k => g (ix2 0 k)))
      (fun k => W (ix3 0 k f)) := by
  unfold result
  refine (kept_apply _ j b f).trans ((joined_apply _ b _ f).trans ?_)
  rw [dif_neg (show ¬ j.val + 16 < 2 by omega)]
  refine (lift_apply _ _ b _ f).trans ?_
  simp only [norm_apply, rows_apply, gain_apply, weights_apply]
  have e : (⟨j.val + 16 - 2, by omega⟩ : Fin 16) = ⟨14 + j.val, by omega⟩ := Fin.ext (show j.val + 16 - 2 = 14 + j.val by omega)
  rw [e]

end Cert.Ffn.State.Ref

end
-- ==== Proof.State.Algebraic.lean ====
/-
  The call on the meta tokens and its reference leave the same array: at every index the projection of one of the last
  two normalised rows.
-/
module

public import proofs.«01_k».proof.Defs
public import proofs.«01_k».proof.Proof.Gen.Kernel3Ideal.Value
public import proofs.«01_k».proof.Proof.State.Reference
public import Idealize.ShloMosaic.Lib.StableHlo.Run

@[expose] public section

set_option maxRecDepth 16384

noncomputable section

namespace Cert.Ffn.State

open Cert.Kernel3Ideal Cert.Kernel3Ideal.Gen
open Idealize.ShloMosaic Idealize.ShloMosaic.TcCoe Idealize.ShloMosaic.StableHlo Idealize.SL.Sem

/-! ## The kernel -/

theorem last_rows (x : Vec Ideal S2x8x1024 .f32) (g : Vec Ideal S1x1024 .f32) (w : Vec Ideal S1024x3072 .bf16) (j : Fin 2)
    (b : Fin 8) (f : Fin 3072) :
    k0_pay1 x g w (ix3 j b f) = proj (rms (fun k => x (ix3 j b k)) (fun k => g (ix2 0 k))) (fun k => w (ix2 k f)) := by
  pointwise [k0_pay1, proj, rms]

section
variable (m : (ℓ : Loc nD τ sig) → Buf (Elt Ideal) ℓ) (c : Dev nD)

/-- What the call leaves. -/
def stateArr : Vec Ideal S2x8x3072 .f32 := fun x =>
  proj (rms (fun k => m ((c.tc : Thread nD τ).loc main_arg0) (ix3 (⟨14 + (x 0).val, by have h : (x 0).val < 2 := (x 0).isLt; omega⟩ : Fin 16) (x 1 : Fin 8) k))
      (fun k => m ((c.tc : Thread nD τ).loc main_arg1) (ix2 (0 : Fin 1) k)))
    (fun k => m ((c.tc : Thread nD τ).loc main_arg2) (ix3 (0 : Fin 1) k (x 2 : Fin 3072)))

theorem gain_row (a : FVec Ideal S1x1024 .f32) (d : Fin 1024) :
    shapeCast S1x1024 (shapeCast S1024 a shapeCasts_S1x1024_S1024) shapeCasts_S1024_S1x1024 (ix2 (0 : Fin 1) d) = a (ix2 0 d) := by pointwise
theorem weights_cast (a : FVec Ideal S1x1024x3072 .f32) (k : Fin 1024) (f : Fin 3072) :
    (truncf (F := Ideal) .bf16 (shapeCast S1024x3072 a shapeCasts_S1x1024x3072_S1024x3072) bitsLt_bf16_f32 : FVec Ideal S1024x3072 .bf16) (ix2 k f) = a (ix3 0 k f) := by pointwise

theorem V1 : V m c main_v1 = shapeCast S1x1024 (shapeCast S1024 (m ((c.tc : Thread nD τ).loc main_arg1)) shapeCasts_S1x1024_S1024) shapeCasts_S1024_S1x1024 := by
  dsimp only [V, hostOps0]
  after_results_simp <;> rfl

theorem V3 : V m c main_v3 = (truncf (F := Ideal) .bf16 (shapeCast S1024x3072 (m ((c.tc : Thread nD τ).loc main_arg2)) shapeCasts_S1x1024x3072_S1024x3072) bitsLt_bf16_f32 : FVec Ideal S1024x3072 .bf16) := by
  dsimp only [V, hostOps0]
  after_results_simp <;> rfl

theorem all3 {P : Fin 3 → Prop} (h0 : P 0) (h1 : P 1) (h2 : P 2) : ∀ a, P a
  | 0 => h0
  | 1 => h1
  | 2 => h2

theorem index0 (t : Fin cfg0.N) : ∀ a, (cfg0.win 0).index t a = (![7, 0, 0] : Fin 3 → ℕ) a := by revert t; decide +kernel

theorem rows_apply (t : Fin cfg0.N) (j : Fin 2) (b : Fin 8) (d : Fin 1024) :
    iblk m c 0 t (ix3 j b d : S2x8x1024.Idx) = m ((c.tc : Thread nD τ).loc main_arg0) (ix3 (⟨14 + j.val, by omega⟩ : Fin 16) b d) := by
  show ((cfg0.win 0).blk t).view.read (Elt Ideal) (V m c (Pipeline.arrRef spec0 0)) _ = _
  rw [View.read_apply]
  show (V m c main_arg0) (((cfg0.win 0).blk t).view.emb (ix3 j b d)) = _
  rw [V_main_arg0]
  refine congrArg (m ((c.tc : Thread nD τ).loc main_arg0)) ?_
  funext a
  apply Fin.ext
  refine ((cfg0.win 0).rect_emb_val t (ix3 j b d) a).trans ?_
  rw [index0]
  exact (all3 (P := fun a : Fin 3 => (![7, 0, 0] : Fin 3 → ℕ) a * (![2, 8, 1024] : Fin 3 → ℕ) a + ((ix3 j b d : (⟨3, ![2, 8, 1024]⟩ : Shape).Idx) a).val
      = ((ix3 (⟨14 + j.val, by omega⟩ : Fin 16) b d : (⟨3, ![16, 8, 1024]⟩ : Shape).Idx) a).val)
    (show 7 * 2 + j.val = 14 + j.val by omega) (show 0 * 8 + b.val = b.val by omega) (show 0 * 1024 + d.val = d.val by omega)) a

theorem gain_apply (t : Fin cfg0.N) (d : Fin 1024) : iblk m c 1 t (ix2 (0 : Fin 1) d : S1x1024.Idx) = m ((c.tc : Thread nD τ).loc main_arg1) (ix2 (0 : Fin 1) d) := by
  show ((cfg0.win 1).blk t).view.read (Elt Ideal) (V m c (Pipeline.arrRef spec0 1)) _ = _
  rw [View.read_apply]
  show (V m c main_v1) (((cfg0.win 1).blk t).view.emb (ix2 (0 : Fin 1) d)) = _
  have he : ((cfg0.win 1).blk t).view.emb (ix2 (0 : Fin 1) d) = ix2 (0 : Fin 1) d := by
    funext a
    exact Fin.ext ((cfg0.win 1).rect_emb_val_of_index_zero t a (by revert t a; decide +kernel) (ix2 (0 : Fin 1) d))
  rw [he, V1]
  exact gain_row _ d

theorem weights_apply (t : Fin cfg0.N) (k : Fin 1024) (f : Fin 3072) : iblk m c 2 t (ix2 k f : S1024x3072.Idx) = m ((c.tc : Thread nD τ).loc main_arg2) (ix3 (0 : Fin 1) k f) := by
  show ((cfg0.win 2).blk t).view.read (Elt Ideal) (V m c (Pipeline.arrRef spec0 2)) _ = _
  rw [View.read_apply]
  show (V m c main_v3) (((cfg0.win 2).blk t).view.emb (ix2 k f)) = _
  have he : ((cfg0.win 2).blk t).view.emb (ix2 k f) = ix2 k f := by
    funext a
    exact Fin.ext ((cfg0.win 2).rect_emb_val_of_index_zero t a (by revert t a; decide +kernel) (ix2 k f))
  rw [he, V3]
  exact weights_cast _ k f

theorem zero3 : (![0, 0, 0] : Fin 3 → ℕ) = fun _ => 0 := funext (fun a => by revert a; decide)
theorem zero2 : (![0, 0] : Fin 2 → ℕ) = fun _ => 0 := funext (fun a => by revert a; decide)

theorem out_eq (x0 : Vec Ideal S2x8x1024 .f32) (x1 : Vec Ideal S1x1024 .f32) (x2 : Vec Ideal S1024x3072 .bf16) :
    out0_3 x0 x1 x2 = k0_pay1 x0 x1 x2 := by
  have e0 : View.ld x0 r0_0 = x0 := View.ld_unit_zero zero3 _ _
  have e1 : View.ld x1 r0_1 = x1 := View.ld_unit_zero zero2 _ _
  have e2 : View.ld x2 r0_2 = x2 := View.ld_unit_zero zero2 _ _
  unfold out0_3
  refine (View.canon_unit_zero zero3 _ _).trans ?_
  rw [e0, e1, e2]

theorem result_apply (t : Fin cfg0.N) (j : Fin 2) (b : Fin 8) (f : Fin 3072) :
    out0_3 (iblk m c 0 t) (iblk m c 1 t) (iblk m c 2 t) (ix3 j b f) = stateArr m c (ix3 j b f) := by
  refine (congrFun (out_eq _ _ _) _).trans ((last_rows _ _ _ j b f).trans ?_)
  simp only [rows_apply, gain_apply, weights_apply]
  rfl

theorem emb3 (t : Fin cfg0.N) (x : S2x8x3072.Idx) : ((cfg0.win 3).blk t).view.emb x = x := by
  funext a
  exact Fin.ext ((cfg0.win 3).rect_emb_val_of_index_zero t a (by revert t a; decide +kernel) x)

theorem flushed (t : Fin cfg0.N) : (dats m 0 c).flushed 3 t = ((cfg0.win 3).blk t).view.read (Elt Ideal) (stateArr m c) := by
  funext x
  show (dats m 0 c).after 3 t x = _
  rw [after0_3, View.read_apply]
  obtain ⟨j, b, f, rfl⟩ : ∃ (j : Fin 2) (b : Fin 8) (f : Fin 3072), x = ix3 j b f := ⟨x 0, x 1, x 2, eq_ix3 x⟩
  refine (result_apply m c t j b f).trans ?_
  rw [emb3 t (ix3 j b f)]
  rfl

theorem cover (i : S2x8x3072.Idx) : ∃ t : Fin cfg0.N, (cfg0.win 3).flush t = true ∧ i ∈ ((cfg0.win 3).blk t).view.set := by
  refine ⟨⟨0, by decide⟩, flush0_3 _, ?_⟩
  have h := View.emb_mem_set ((cfg0.win 3).blk ⟨0, by decide⟩).view i
  rwa [emb3] at h

theorem arr : (dats m 0 c).arrAt 3 cfg0.N = stateArr m c :=
  (dats m 0 c).arrAt_eq_of_cover 3 (stateArr m c) (fun t _ => flushed m c t) (fun i => cover i)

end

/-! ## The claim -/

theorem ref_eq (m : (ℓ : Loc nD τ sig) → Buf (Elt Ideal) ℓ) (c : Dev nD) :
    Ref.result (m ((c.tc : Thread nD τ).loc main_arg0)) (m ((c.tc : Thread nD τ).loc main_arg1)) (m ((c.tc : Thread nD τ).loc main_arg2)) = stateArr m c := by
  funext x
  obtain ⟨j, b, f, rfl⟩ : ∃ (j : Fin 2) (b : Fin 8) (f : Fin 3072), x = ix3 j b f := ⟨x 0, x 1, x 2, eq_ix3 x⟩
  exact Ref.result_apply _ _ _ j b f

/-- **The kernel and the reference end with equal results.** -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => stateArr m c, ?_, ?_⟩
  · exact (θ_run _ _ _).mono (fun r h c => ⟨(h c).1.trans (arr m c), (h c).2⟩) (Cert.Kernel3Ideal.Value.run_blocks (F := Ideal) m g)
  · refine (θ_run _ _ _).mono (fun r h c => ⟨(h c).1.trans ?_, (h c).2⟩) (Cert.Reference3Ideal.Value.run (F := Ideal) m' g')
    obtain ⟨h0, h1, h2⟩ := hargs c
    rw [h0, h1, h2]
    exact ref_eq m c

end Cert.Ffn.State

end
-- ==== Proof.Kernel2Ideal.Operands.lean ====
/-
  The operands of the feed-forward call's body, the pieces its own copies move, and the deliveries of the two
  batches of copies.

  The call runs over two points of 64 sequences each. At each point it fills one slot of a two-slot buffer with the
  four time steps of its 64 rows, and starts four copies, one per time step, from the slot to the result in HBM. The
  copies of the first point are awaited at the second; those of the second at its own end.
-/
module

public import proofs.«01_k».proof.Proof.Gen.Kernel2Ideal.Frame
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Ring.WriteBehind
public import Idealize.ShloMosaic.Lib.Tactic
public import Idealize.ShloMosaic.Lib.WordCmp

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The last two pre-activations of the 64 sequences, carried in scratch. -/
abbrev scU : Memref sig .tc .vmem S128x3072 .f32 := Memref.whole cc0_scratch0
/-- The two-slot buffer the copies read. -/
abbrev scY : Memref sig .tc .vmem S2x4x64x1024 .f32 := Memref.whole cc0_scratch1
/-- The result left in HBM. -/
abbrev hbY : Memref sig .tc .hbm S128x4x1024 .f32 := Memref.whole main_v12_0

/-- Contents of a memref's buffer. -/
abbrev BufOf (c : Dev nD) {sp : Space} {S : Shape} {e : EltTy} (M : Memref sig .tc sp S e) : Type := Buf (Elt F) (M.view.loc (c : Thread nD τ))

/-- A time step of a slot of the two-slot buffer, at the offsets `o`. -/
abbrev tile (o : Fin 4 → ℕ) (h : ∀ a, o a + S1x1x64x1024.size a ≤ S2x4x64x1024.size a) : Memref sig .tc .vmem S64x1024 .f32 :=
  (scY.slice (Rect.unit (s := S2x4x64x1024) o S1x1x64x1024.size h) (fun _ => rfl)).squeeze S64x1024 squeezes_S1x1x64x1024_S64x1024
/-- Sixty-four rows of the result at one time step, at the offsets `o`. -/
abbrev piece (o : Fin 3 → ℕ) (h : ∀ a, o a + S64x1x1024.size a ≤ S128x4x1024.size a) : Memref sig .tc .hbm S64x1024 .f32 :=
  (hbY.slice (Rect.unit (s := S128x4x1024) o S64x1x1024.size h) (fun _ => rfl)).squeeze S64x1024 squeezes_S64x1x1024_S64x1024

/-- The elements of the source of the copy of time step `k` at a point. -/
def tileSet (i : grid0.Coords) : Fin 4 → Finset S2x4x64x1024.Idx
  | 0 => (tile (k0_off4 i) (k0_off4_inb i)).view.set
  | 1 => (tile (k0_off6 i) (k0_off6_inb i)).view.set
  | 2 => (tile (k0_off8 i) (k0_off8_inb i)).view.set
  | 3 => (tile (k0_off10 i) (k0_off10_inb i)).view.set
/-- The elements of the target of the copy of time step `k` at a point. -/
def pieceSet (i : grid0.Coords) : Fin 4 → Finset S128x4x1024.Idx
  | 0 => (piece (k0_off3 i) (k0_off3_inb i)).view.set
  | 1 => (piece (k0_off5 i) (k0_off5_inb i)).view.set
  | 2 => (piece (k0_off7 i) (k0_off7_inb i)).view.set
  | 3 => (piece (k0_off9 i) (k0_off9_inb i)).view.set
/-- The slot a point fills, and its elements. -/
abbrev slotAt (i : grid0.Coords) : Memref sig .tc .vmem S1x4x64x1024 .f32 :=
  scY.slice (Rect.unit (s := S2x4x64x1024) (k0_off1 i) S1x4x64x1024.size (k0_off1_inb i)) (fun _ => rfl)
abbrev slotSet (i : grid0.Coords) : Finset S2x4x64x1024.Idx := (slotAt i).view.set

/-- The two points of the grid. -/
abbrev pt0 : Fin cfg0.N := ⟨0, by decide⟩
abbrev pt1 : Fin cfg0.N := ⟨1, by decide⟩

theorem offs (t : Fin cfg0.N) : k0_off1 (grid0.coords t) = ![t.val, 0, 0, 0] ∧ k0_off3 (grid0.coords t) = ![64 * t.val, 0, 0]
    ∧ k0_off4 (grid0.coords t) = ![t.val, 0, 0, 0] ∧ k0_off5 (grid0.coords t) = ![64 * t.val, 1, 0] ∧ k0_off6 (grid0.coords t) = ![t.val, 1, 0, 0]
    ∧ k0_off7 (grid0.coords t) = ![64 * t.val, 2, 0] ∧ k0_off8 (grid0.coords t) = ![t.val, 2, 0, 0]
    ∧ k0_off9 (grid0.coords t) = ![64 * t.val, 3, 0] ∧ k0_off10 (grid0.coords t) = ![t.val, 3, 0, 0] := by
  revert t; decide +kernel

theorem mem_tile (o : Fin 4 → ℕ) (h) (x : S2x4x64x1024.Idx) (t k : ℕ) (e : o = ![t, k, 0, 0]) :
    x ∈ (tile o h).view.set ↔ (x 0).val = t ∧ (x 1).val = k := by
  rw [show (tile o h).view.set = (Rect.unit (s := S2x4x64x1024) o S1x1x64x1024.size h).set from
    (View.set_reshape _ _).trans (View.set_slice_whole _ _), Rect.mem_set_unit]
  subst e
  constructor
  · intro hx
    have h0 := hx 0; have h1 := hx 1
    simp [Shape.size] at h0 h1
    omega
  · rintro ⟨h0, h1⟩ a
    have hx2 : (x 2).val < 64 := (x 2).isLt
    have hx3 : (x 3).val < 1024 := (x 3).isLt
    fin_cases a <;> simp [Shape.size] <;> omega

theorem mem_tileSet (t : Fin cfg0.N) (k : Fin 4) (x : S2x4x64x1024.Idx) :
    x ∈ tileSet (grid0.coords t) k ↔ (x 0).val = t.val ∧ (x 1).val = k.val := by
  obtain ⟨e1, e3, e4, e5, e6, e7, e8, e9, e10⟩ := offs t
  match k with
  | 0 => exact mem_tile _ _ x _ _ e4
  | 1 => exact mem_tile _ _ x _ _ e6
  | 2 => exact mem_tile _ _ x _ _ e8
  | 3 => exact mem_tile _ _ x _ _ e10

theorem mem_slotSet (t : Fin cfg0.N) (x : S2x4x64x1024.Idx) : x ∈ slotSet (grid0.coords t) ↔ (x 0).val = t.val := by
  rw [show slotSet (grid0.coords t) = (Rect.unit (s := S2x4x64x1024) (k0_off1 (grid0.coords t)) S1x4x64x1024.size (k0_off1_inb _)).set from
    View.set_slice_whole _ _, Rect.mem_set_unit, (offs t).1]
  constructor
  · intro hx
    have h0 := hx 0
    simp [Shape.size] at h0
    omega
  · rintro h0 a
    have hx1 : (x 1).val < 4 := (x 1).isLt
    have hx2 : (x 2).val < 64 := (x 2).isLt
    have hx3 : (x 3).val < 1024 := (x 3).isLt
    fin_cases a <;> simp [Shape.size] <;> omega

theorem mem_piece (o : Fin 3 → ℕ) (h) (x : S128x4x1024.Idx) (t k : ℕ) (e : o = ![64 * t, k, 0]) :
    x ∈ (piece o h).view.set ↔ (x 0).val / 64 = t ∧ (x 1).val = k := by
  rw [show (piece o h).view.set = (Rect.unit (s := S128x4x1024) o S64x1x1024.size h).set from
    (View.set_reshape _ _).trans (View.set_slice_whole _ _), Rect.mem_set_unit]
  subst e
  constructor
  · intro hx
    have h0 := hx 0; have h1 := hx 1
    simp [Shape.size] at h0 h1
    omega
  · rintro ⟨h0, h1⟩ a
    have hx2 : (x 2).val < 1024 := (x 2).isLt
    fin_cases a <;> simp [Shape.size] <;> omega

theorem mem_pieceSet (t : Fin cfg0.N) (k : Fin 4) (x : S128x4x1024.Idx) :
    x ∈ pieceSet (grid0.coords t) k ↔ (x 0).val / 64 = t.val ∧ (x 1).val = k.val := by
  obtain ⟨e1, e3, e4, e5, e6, e7, e8, e9, e10⟩ := offs t
  match k with
  | 0 => exact mem_piece _ _ x _ _ e3
  | 1 => exact mem_piece _ _ x _ _ e5
  | 2 => exact mem_piece _ _ x _ _ e7
  | 3 => exact mem_piece _ _ x _ _ e9

/-- The four tiles of point `t`'s slot, each at the contents `f`. -/
def tiles (c : Dev nD) (t : Fin cfg0.N) (f : BufOf (F := F) c scY) : sProp 𝕄 :=
  iprop(((tile (k0_off4 (grid0.coords t)) (k0_off4_inb _)).view.loc (c : Thread nD τ) ↦[(tile (k0_off4 (grid0.coords t)) (k0_off4_inb _)).view.set]{fullShare} f)
    ∗ ((tile (k0_off6 (grid0.coords t)) (k0_off6_inb _)).view.loc (c : Thread nD τ) ↦[(tile (k0_off6 (grid0.coords t)) (k0_off6_inb _)).view.set]{fullShare} f)
    ∗ ((tile (k0_off8 (grid0.coords t)) (k0_off8_inb _)).view.loc (c : Thread nD τ) ↦[(tile (k0_off8 (grid0.coords t)) (k0_off8_inb _)).view.set]{fullShare} f)
    ∗ ((tile (k0_off10 (grid0.coords t)) (k0_off10_inb _)).view.loc (c : Thread nD τ) ↦[(tile (k0_off10 (grid0.coords t)) (k0_off10_inb _)).view.set]{fullShare} f))
/-- The four pieces of the result that point `t` writes, each at the contents `f`. -/
def pieces (c : Dev nD) (t : Fin cfg0.N) (f : BufOf (F := F) c hbY) : sProp 𝕄 :=
  iprop(((piece (k0_off3 (grid0.coords t)) (k0_off3_inb _)).view.loc (c : Thread nD τ) ↦[(piece (k0_off3 (grid0.coords t)) (k0_off3_inb _)).view.set]{fullShare} f)
    ∗ ((piece (k0_off5 (grid0.coords t)) (k0_off5_inb _)).view.loc (c : Thread nD τ) ↦[(piece (k0_off5 (grid0.coords t)) (k0_off5_inb _)).view.set]{fullShare} f)
    ∗ ((piece (k0_off7 (grid0.coords t)) (k0_off7_inb _)).view.loc (c : Thread nD τ) ↦[(piece (k0_off7 (grid0.coords t)) (k0_off7_inb _)).view.set]{fullShare} f)
    ∗ ((piece (k0_off9 (grid0.coords t)) (k0_off9_inb _)).view.loc (c : Thread nD τ) ↦[(piece (k0_off9 (grid0.coords t)) (k0_off9_inb _)).view.set]{fullShare} f))

/-- A slot held is its four tiles held, -/
theorem slot_tiles (c : Dev nD) (t : Fin cfg0.N) (f : BufOf (F := F) c scY) :
    (scY.view.loc (c : Thread nD τ) ↦[slotSet (grid0.coords t)]{fullShare} f : sProp 𝕄) = tiles c t f := by
  have hc : Finset.univ.biUnion (fun k => tileSet (grid0.coords t) k) = slotSet (grid0.coords t) := by
    ext x
    simp only [Finset.mem_biUnion, Finset.mem_univ, _root_.true_and]
    constructor
    · rintro ⟨k, hk⟩; exact (mem_slotSet t x).mpr ((mem_tileSet t k x).mp hk).1
    · intro h; exact ⟨⟨(x 1).val, (x 1).isLt⟩, (mem_tileSet t _ x).mpr ⟨(mem_slotSet t x).mp h, rfl⟩⟩
  have hd : ∀ k ∈ (Finset.univ : Finset (Fin 4)), ∀ k' ∈ (Finset.univ : Finset (Fin 4)), k ≠ k' →
      Disjoint (tileSet (grid0.coords t) k) (tileSet (grid0.coords t) k') := by
    intro k _ k' _ hk
    rw [Finset.disjoint_left]
    intro x h1 h2
    exact hk (Fin.ext (((mem_tileSet t k x).mp h1).2.symm.trans ((mem_tileSet t k' x).mp h2).2))
  rw [← hc, pointsTo_biUnion _ _ hd, BI.bigSep_eq_bigSepL_of_eq [0, 1, 2, 3] (by decide) (by decide)]; rfl

/-- and the two-slot buffer held whole is its two slots held. -/
theorem scY_slots (c : Dev nD) (f : BufOf (F := F) c scY) :
    (scY.view.loc (c : Thread nD τ) ↦{fullShare} f : sProp 𝕄)
      = iprop((scY.view.loc (c : Thread nD τ) ↦[slotSet (grid0.coords pt0)]{fullShare} f)
        ∗ (scY.view.loc (c : Thread nD τ) ↦[slotSet (grid0.coords pt1)]{fullShare} f)) := by
  have hc : Finset.univ.biUnion (fun t => slotSet (grid0.coords t)) = (Finset.univ : Finset S2x4x64x1024.Idx) := by
    ext x
    simp only [Finset.mem_biUnion, Finset.mem_univ, _root_.true_and, iff_true]
    exact ⟨⟨(x 0).val, (x 0).isLt⟩, (mem_slotSet _ x).mpr rfl⟩
  have hd : ∀ k ∈ (Finset.univ : Finset (Fin cfg0.N)), ∀ k' ∈ (Finset.univ : Finset (Fin cfg0.N)), k ≠ k' →
      Disjoint (slotSet (grid0.coords k)) (slotSet (grid0.coords k')) := by
    intro k _ k' _ hk
    rw [Finset.disjoint_left]
    intro x h1 h2
    exact hk (Fin.ext (((mem_slotSet k x).mp h1).symm.trans ((mem_slotSet k' x).mp h2)))
  rw [show (Finset.univ : Finset (Idx (scY.view.loc (c : Thread nD τ)))) = Finset.univ.biUnion (fun t => slotSet (grid0.coords t)) from hc.symm,
    pointsTo_biUnion _ _ hd, BI.bigSep_eq_bigSepL_of_eq [pt0, pt1] (by decide) (by decide)]; rfl

/-- The result held whole is the eight pieces held. -/
theorem hbY_pieces (c : Dev nD) (f : BufOf (F := F) c hbY) :
    (hbY.view.loc (c : Thread nD τ) ↦{fullShare} f : sProp 𝕄)
      = iprop(pieces c pt0 f ∗ pieces c pt1 f) := by
  have hc : Finset.univ.biUnion (fun t : Fin cfg0.N => Finset.univ.biUnion fun k => pieceSet (grid0.coords t) k) = (Finset.univ : Finset S128x4x1024.Idx) := by
    ext x
    simp only [Finset.mem_biUnion, Finset.mem_univ, _root_.true_and, iff_true]
    have h0 : (x 0).val < 128 := (x 0).isLt
    exact ⟨⟨(x 0).val / 64, by show _ < 2; omega⟩, ⟨(x 1).val, (x 1).isLt⟩, (mem_pieceSet _ _ x).mpr ⟨rfl, rfl⟩⟩
  have hd : ∀ k ∈ (Finset.univ : Finset (Fin cfg0.N)), ∀ k' ∈ (Finset.univ : Finset (Fin cfg0.N)), k ≠ k' →
      Disjoint (Finset.univ.biUnion fun j => pieceSet (grid0.coords k) j) (Finset.univ.biUnion fun j => pieceSet (grid0.coords k') j) := by
    intro k _ k' _ hk
    rw [Finset.disjoint_left]
    intro x h1 h2
    simp only [Finset.mem_biUnion, Finset.mem_univ, _root_.true_and] at h1 h2
    obtain ⟨j, h1⟩ := h1
    obtain ⟨j', h2⟩ := h2
    exact hk (Fin.ext (((mem_pieceSet k j x).mp h1).1.symm.trans ((mem_pieceSet k' j' x).mp h2).1))
  have hd' : ∀ t, ∀ k ∈ (Finset.univ : Finset (Fin 4)), ∀ k' ∈ (Finset.univ : Finset (Fin 4)), k ≠ k' →
      Disjoint (pieceSet (grid0.coords t) k) (pieceSet (grid0.coords t) k') := by
    intro t k _ k' _ hk
    rw [Finset.disjoint_left]
    intro x h1 h2
    exact hk (Fin.ext (((mem_pieceSet t k x).mp h1).2.symm.trans ((mem_pieceSet t k' x).mp h2).2))
  rw [show (Finset.univ : Finset (Idx (hbY.view.loc (c : Thread nD τ)))) = Finset.univ.biUnion (fun t : Fin cfg0.N => Finset.univ.biUnion fun k => pieceSet (grid0.coords t) k) from hc.symm,
    pointsTo_biUnion _ _ hd, BI.bigSep_eq_bigSepL_of_eq [pt0, pt1] (by decide) (by decide)]
  have hp : ∀ t : Fin cfg0.N, (hbY.view.loc (c : Thread nD τ) ↦[Finset.univ.biUnion fun k => pieceSet (grid0.coords t) k]{fullShare} f : sProp 𝕄) = pieces c t f := by
    intro t
    rw [pointsTo_biUnion _ _ (hd' t), BI.bigSep_eq_bigSepL_of_eq [0, 1, 2, 3] (by decide) (by decide)]; rfl
  exact congrArg₂ (fun a b : sProp 𝕄 => iprop(a ∗ b)) (hp pt0) (hp pt1)

/-- What the copy of time step `k` at a point delivers: its piece of the result at the landed contents, its source back. -/
def deliv (c : Dev nD) (i : grid0.Coords) (gS : BufOf (F := F) c scY) (gV : BufOf (F := F) c hbY) : Fin 4 → sProp 𝕄
  | 0 => iprop(((piece (k0_off3 i) (k0_off3_inb i)).view.loc (c : Thread nD τ) ↦[(piece (k0_off3 i) (k0_off3_inb i)).view.set]{fullShare} (piece (k0_off3 i) (k0_off3_inb i)).view.writes (Elt F) gV [⟨Rect.whole S64x1024, ReadAs.same.apply ((tile (k0_off4 i) (k0_off4_inb i)).view.read (Elt F) gS)⟩])
      ∗ ((tile (k0_off4 i) (k0_off4_inb i)).view.loc (c : Thread nD τ) ↦[(tile (k0_off4 i) (k0_off4_inb i)).view.set]{fullShare} gS))
  | 1 => iprop(((piece (k0_off5 i) (k0_off5_inb i)).view.loc (c : Thread nD τ) ↦[(piece (k0_off5 i) (k0_off5_inb i)).view.set]{fullShare} (piece (k0_off5 i) (k0_off5_inb i)).view.writes (Elt F) gV [⟨Rect.whole S64x1024, ReadAs.same.apply ((tile (k0_off6 i) (k0_off6_inb i)).view.read (Elt F) gS)⟩])
      ∗ ((tile (k0_off6 i) (k0_off6_inb i)).view.loc (c : Thread nD τ) ↦[(tile (k0_off6 i) (k0_off6_inb i)).view.set]{fullShare} gS))
  | 2 => iprop(((piece (k0_off7 i) (k0_off7_inb i)).view.loc (c : Thread nD τ) ↦[(piece (k0_off7 i) (k0_off7_inb i)).view.set]{fullShare} (piece (k0_off7 i) (k0_off7_inb i)).view.writes (Elt F) gV [⟨Rect.whole S64x1024, ReadAs.same.apply ((tile (k0_off8 i) (k0_off8_inb i)).view.read (Elt F) gS)⟩])
      ∗ ((tile (k0_off8 i) (k0_off8_inb i)).view.loc (c : Thread nD τ) ↦[(tile (k0_off8 i) (k0_off8_inb i)).view.set]{fullShare} gS))
  | 3 => iprop(((piece (k0_off9 i) (k0_off9_inb i)).view.loc (c : Thread nD τ) ↦[(piece (k0_off9 i) (k0_off9_inb i)).view.set]{fullShare} (piece (k0_off9 i) (k0_off9_inb i)).view.writes (Elt F) gV [⟨Rect.whole S64x1024, ReadAs.same.apply ((tile (k0_off10 i) (k0_off10_inb i)).view.read (Elt F) gS)⟩])
      ∗ ((tile (k0_off10 i) (k0_off10_inb i)).view.loc (c : Thread nD τ) ↦[(tile (k0_off10 i) (k0_off10_inb i)).view.set]{fullShare} gS))

instance deliv_storable (c : Dev nD) (i : grid0.Coords) (gS : BufOf (F := F) c scY) (gV : BufOf (F := F) c hbY) (k : Fin 4) :
    Storable (upEmb : UEmb _ 𝕄) (deliv c i gS gV k) := by
  match k with
  | 0 => simp only [deliv]; infer_instance
  | 1 => simp only [deliv]; infer_instance
  | 2 => simp only [deliv]; infer_instance
  | 3 => simp only [deliv]; infer_instance

/-- Naming the contents of a region held. -/
theorem name_contents {ℓ : Loc nD τ sig} {I : Finset (Idx ℓ)} {f : Buf (Elt F) ℓ} :
    (ℓ ↦[I]{fullShare} f : sProp 𝕄) ⊢ iprop(∃ g, ⌜g = f⌝ ∗ ℓ ↦[I]{fullShare} g) := by
  iintro H; iexists f; isplitr; · ipureintro; rfl
  iexact H

end Cert.Kernel2Ideal.Hand

end
-- ==== Proof.Kernel2Ideal.Pieces.lean ====
/-
  What one point of the feed-forward call leaves, as functions of its operands' blocks: the three column tiles of the
  new convolution state, and the slab of finished rows.
-/
module

public import proofs.«01_k».proof.Proof.Kernel2Ideal.Operands
public import Idealize.ShloMosaic.Lib.VecWindow
public import Idealize.ShloMosaic.Lib.WholeRead
public import Idealize.ShloMosaic.Lib.WritesUnit

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The part of an array a load through a rectangle reads. -/
def cut {s : Shape} {e : EltTy} (X : Vec F s e) (B : LoadRect s) : B.shape.Idx → Elt F e := fun i => X (B.idx i)

/-- A load from a whole operand that reads `X` is the part of `X` under the rectangle. -/
theorem load_eq_cut {sp : Space} {s : Shape} {e : EltTy} {m : Memref sig .tc sp s e} (h : m.IsWhole) (X : Vec F s e)
    (B : LoadRect s) : View.readAt (Elt F) m.view B (h.unread X) = cut X B :=
  funext fun x => h.readAt_unread X B x

/-- Column tile 0 of a state scratch. -/
abbrev colU0 : Rect S128x3072 := (Rect.unit (s := S128x3072) ![0, 0] ![128, 1024] inb_S128x3072_S128x1024_0_0)
/-- Column tile 0 of a projection's weights. -/
abbrev colW0 : Rect S1024x3072 := (Rect.unit (s := S1024x3072) ![0, 0] ![1024, 1024] inb_S1024x3072_S1024x1024_0_0)
/-- Column tile 0 of the bias. -/
abbrev colB0 : Rect S1x3072 := (Rect.unit (s := S1x3072) ![0, 0] ![1, 1024] inb_S1x3072_S1x1024_0_0)
/-- Row tile 0 of the down projection's weights. -/
abbrev rowD0 : Rect S3072x1024 := (Rect.unit (s := S3072x1024) ![0, 0] ![1024, 1024] inb_S3072x1024_S1024x1024_0_0)
/-- Column tile 0 of the new convolution state. -/
abbrev colS0 : Rect S2x64x3072 := (Rect.unit (s := S2x64x3072) ![0, 0, 0] ![2, 64, 1024] inb_S2x64x3072_S2x64x1024_0_0_0)
/-- Tap 0 of the convolution, column tile 0. -/
abbrev tap00 : Rect S3x3072 := (Rect.unit (s := S3x3072) ![0, 0] ![1, 1024] inb_S3x3072_S1x1024_0_0)
/-- Tap 1 of the convolution, column tile 0. -/
abbrev tap10 : Rect S3x3072 := (Rect.unit (s := S3x3072) ![1, 0] ![1, 1024] inb_S3x3072_S1x1024_1_0)
/-- Tap 2 of the convolution, column tile 0. -/
abbrev tap20 : Rect S3x3072 := (Rect.unit (s := S3x3072) ![2, 0] ![1, 1024] inb_S3x3072_S1x1024_2_0)
/-- Column tile 1 of a state scratch. -/
abbrev colU1 : Rect S128x3072 := (Rect.unit (s := S128x3072) ![0, 1024] ![128, 1024] inb_S128x3072_S128x1024_0_1024)
/-- Column tile 1 of a projection's weights. -/
abbrev colW1 : Rect S1024x3072 := (Rect.unit (s := S1024x3072) ![0, 1024] ![1024, 1024] inb_S1024x3072_S1024x1024_0_1024)
/-- Column tile 1 of the bias. -/
abbrev colB1 : Rect S1x3072 := (Rect.unit (s := S1x3072) ![0, 1024] ![1, 1024] inb_S1x3072_S1x1024_0_1024)
/-- Row tile 1 of the down projection's weights. -/
abbrev rowD1 : Rect S3072x1024 := (Rect.unit (s := S3072x1024) ![1024, 0] ![1024, 1024] inb_S3072x1024_S1024x1024_1024_0)
/-- Column tile 1 of the new convolution state. -/
abbrev colS1 : Rect S2x64x3072 := (Rect.unit (s := S2x64x3072) ![0, 0, 1024] ![2, 64, 1024] inb_S2x64x3072_S2x64x1024_0_0_1024)
/-- Tap 0 of the convolution, column tile 1. -/
abbrev tap01 : Rect S3x3072 := (Rect.unit (s := S3x3072) ![0, 1024] ![1, 1024] inb_S3x3072_S1x1024_0_1024)
/-- Tap 1 of the convolution, column tile 1. -/
abbrev tap11 : Rect S3x3072 := (Rect.unit (s := S3x3072) ![1, 1024] ![1, 1024] inb_S3x3072_S1x1024_1_1024)
/-- Tap 2 of the convolution, column tile 1. -/
abbrev tap21 : Rect S3x3072 := (Rect.unit (s := S3x3072) ![2, 1024] ![1, 1024] inb_S3x3072_S1x1024_2_1024)
/-- Column tile 2 of a state scratch. -/
abbrev colU2 : Rect S128x3072 := (Rect.unit (s := S128x3072) ![0, 2048] ![128, 1024] inb_S128x3072_S128x1024_0_2048)
/-- Column tile 2 of a projection's weights. -/
abbrev colW2 : Rect S1024x3072 := (Rect.unit (s := S1024x3072) ![0, 2048] ![1024, 1024] inb_S1024x3072_S1024x1024_0_2048)
/-- Column tile 2 of the bias. -/
abbrev colB2 : Rect S1x3072 := (Rect.unit (s := S1x3072) ![0, 2048] ![1, 1024] inb_S1x3072_S1x1024_0_2048)
/-- Row tile 2 of the down projection's weights. -/
abbrev rowD2 : Rect S3072x1024 := (Rect.unit (s := S3072x1024) ![2048, 0] ![1024, 1024] inb_S3072x1024_S1024x1024_2048_0)
/-- Column tile 2 of the new convolution state. -/
abbrev colS2 : Rect S2x64x3072 := (Rect.unit (s := S2x64x3072) ![0, 0, 2048] ![2, 64, 1024] inb_S2x64x3072_S2x64x1024_0_0_2048)
/-- Tap 0 of the convolution, column tile 2. -/
abbrev tap02 : Rect S3x3072 := (Rect.unit (s := S3x3072) ![0, 2048] ![1, 1024] inb_S3x3072_S1x1024_0_2048)
/-- Tap 1 of the convolution, column tile 2. -/
abbrev tap12 : Rect S3x3072 := (Rect.unit (s := S3x3072) ![1, 2048] ![1, 1024] inb_S3x3072_S1x1024_1_2048)
/-- Tap 2 of the convolution, column tile 2. -/
abbrev tap22 : Rect S3x3072 := (Rect.unit (s := S3x3072) ![2, 2048] ![1, 1024] inb_S3x3072_S1x1024_2_2048)

/-- The whole block of rows. -/
abbrev allX : Rect S4x64x1024 := (Rect.unit (s := S4x64x1024) ![0, 0, 0] ![4, 64, 1024] inb_S4x64x1024_S4x64x1024_0_0_0)
/-- The whole state block. -/
abbrev allS : Rect S2x64x3072 := (Rect.unit (s := S2x64x3072) ![0, 0, 0] ![2, 64, 3072] inb_S2x64x3072_S2x64x3072_0_0_0)
/-- A whole row of gains. -/
abbrev allG : Rect S1x1024 := (Rect.unit (s := S1x1024) ![0, 0] ![1, 1024] inb_S1x1024_S1x1024_0_0)
/-- The whole state scratch. -/
abbrev allU : Rect S128x3072 := (Rect.unit (s := S128x3072) ![0, 0] ![128, 3072] inb_S128x3072_S128x3072_0_0)

/-- The state scratch as the point first fills it. -/
abbrev carried (x3 : Vec F S2x64x3072 .f32) : Vec F S128x3072 .f32 := k0_pay1 (cut x3 allS.toLoadRect)

/-- The normalised rows that enter the projections. -/
abbrev rowsIn (x2 : Vec F S4x64x1024 .f32) (x4 : Vec F S1x1024 .f32) : FVec F S256x1024 .bf16 :=
  k0_pay3 (cut x2 allX.toLoadRect) (cut x4 allG.toLoadRect)

/-- The rows after column tile 0 has been added. -/
abbrev rows0 (x2 : Vec F S4x64x1024 .f32) (x3 : Vec F S2x64x3072 .f32) (x4 : Vec F S1x1024 .f32)
    (x5 x6 : Vec F S1024x3072 .bf16) (x7 : Vec F S3x3072 .f32) (x8 : Vec F S1x3072 .f32) (x9 : Vec F S3072x1024 .bf16) :
    FVec F S256x1024 .f32 :=
  k0_pay11 (k0_pay2 (cut x2 allX.toLoadRect))
    (k0_pay10 (k0_pay4 (cut x2 allX.toLoadRect) (cut x4 allG.toLoadRect) (cut x5 colW0.toLoadRect))
      (k0_pay5 (cut x2 allX.toLoadRect) (cut x4 allG.toLoadRect) (cut x6 colW0.toLoadRect))
      (cut (carried x3) colU0.toLoadRect) (k0_pay6 (cut x8 colB0.toLoadRect))
      (k0_pay7 (cut x2 allX.toLoadRect) (cut x4 allG.toLoadRect) (cut x5 colW0.toLoadRect) (cut (carried x3) colU0.toLoadRect))
      (cut x7 tap00.toLoadRect) (cut x7 tap10.toLoadRect) (cut x7 tap20.toLoadRect))
    (cut x9 rowD0.toLoadRect)

/-- The rows after column tile 1 has been added. -/
abbrev rows1 (x2 : Vec F S4x64x1024 .f32) (x3 : Vec F S2x64x3072 .f32) (x4 : Vec F S1x1024 .f32)
    (x5 x6 : Vec F S1024x3072 .bf16) (x7 : Vec F S3x3072 .f32) (x8 : Vec F S1x3072 .f32) (x9 : Vec F S3072x1024 .bf16) :
    FVec F S256x1024 .f32 :=
  k0_pay17 (rows0 x2 x3 x4 x5 x6 x7 x8 x9) (k0_pay13 (rowsIn x2 x4) (cut x6 colW1.toLoadRect))
    (k0_pay14 (rowsIn x2 x4) (cut x5 colW1.toLoadRect) (cut (carried x3) colU1.toLoadRect) (cut x8 colB1.toLoadRect)
      (cut x7 tap01.toLoadRect) (cut x7 tap11.toLoadRect) (cut x7 tap21.toLoadRect))
    (cut x9 rowD1.toLoadRect)

/-- The rows after column tile 2 has been added: the residual and the whole down projection. -/
abbrev rows2 (x2 : Vec F S4x64x1024 .f32) (x3 : Vec F S2x64x3072 .f32) (x4 : Vec F S1x1024 .f32)
    (x5 x6 : Vec F S1024x3072 .bf16) (x7 : Vec F S3x3072 .f32) (x8 : Vec F S1x3072 .f32) (x9 : Vec F S3072x1024 .bf16) :
    FVec F S256x1024 .f32 :=
  k0_pay24 (rows1 x2 x3 x4 x5 x6 x7 x8 x9) (k0_pay18 (rowsIn x2 x4) (cut x5 colW2.toLoadRect))
    (k0_pay19 (rowsIn x2 x4) (cut x6 colW2.toLoadRect))
    (k0_pay20 (rowsIn x2 x4) (cut x5 colW2.toLoadRect) (cut (carried x3) colU2.toLoadRect) (cut x8 colB2.toLoadRect)
      (cut x7 tap02.toLoadRect))
    (k0_pay21 (cut (carried x3) colU2.toLoadRect)) (cut x7 tap12.toLoadRect) (cut x7 tap22.toLoadRect)
    (cut x9 rowD2.toLoadRect)

/-- The slab of finished rows. -/
def slab (x2 : Vec F S4x64x1024 .f32) (x3 : Vec F S2x64x3072 .f32) (x4 : Vec F S1x1024 .f32)
    (x5 x6 : Vec F S1024x3072 .bf16) (x7 : Vec F S3x3072 .f32) (x8 : Vec F S1x3072 .f32) (x9 : Vec F S3072x1024 .bf16)
    (x10 : Vec F S1x1024 .f32) : FVec F S1x4x64x1024 .f32 :=
  k0_pay26 (rows2 x2 x3 x4 x5 x6 x7 x8 x9) (k0_pay25 (cut x10 allG.toLoadRect))

/-- The stores into the new convolution state, newest first. -/
def statePieces (x2 : Vec F S4x64x1024 .f32) (x4 : Vec F S1x1024 .f32) (x5 : Vec F S1024x3072 .bf16) :
    List (View.Piece (Elt F) S2x64x3072 .f32) :=
  [⟨colS2, k0_pay23 (k0_pay18 (rowsIn x2 x4) (cut x5 colW2.toLoadRect))⟩,
    ⟨colS1, k0_pay16 (rowsIn x2 x4) (cut x5 colW1.toLoadRect)⟩,
    ⟨colS0, k0_pay9 (k0_pay4 (cut x2 allX.toLoadRect) (cut x4 allG.toLoadRect) (cut x5 colW0.toLoadRect))⟩]

/-- The store into the point's slot. -/
def slotPieces (i : grid0.Coords) (x2 : Vec F S4x64x1024 .f32) (x3 : Vec F S2x64x3072 .f32) (x4 : Vec F S1x1024 .f32)
    (x5 x6 : Vec F S1024x3072 .bf16) (x7 : Vec F S3x3072 .f32) (x8 : Vec F S1x3072 .f32) (x9 : Vec F S3072x1024 .bf16)
    (x10 : Vec F S1x1024 .f32) : List (View.Piece (Elt F) S2x4x64x1024 .f32) :=
  [⟨Rect.unit (s := S2x4x64x1024) (k0_off1 i) ![1, 4, 64, 1024] (k0_off1_inb i), slab x2 x3 x4 x5 x6 x7 x8 x9 x10⟩]

/-- A column tile read back after the whole scratch was filled. -/
theorem readBack0 (v : View sig .tc .vmem S128x3072 .f32) (p : Vec F S128x3072 .f32) :
    v.readCov (Val := Elt F) [⟨allU, p⟩] colU0.toLoadRect = cut p colU0.toLoadRect :=
  funext fun x => congrFun (View.read_writes_full v _ _ p []) (colU0.toLoadRect.idx x)

/-- Column tile 1 read back after the whole scratch was filled and tile 0 replaced. -/
theorem readBack1 (v : View sig .tc .vmem S128x3072 .f32) (p : Vec F S128x3072 .f32) (q : colU0.shape.Idx → Elt F .f32) :
    v.readCov (Val := Elt F) [⟨colU0, q⟩, ⟨allU, p⟩] colU1.toLoadRect = cut p colU1.toLoadRect :=
  funext fun x =>
    (View.read_writes_cons_unit_of_not_mem v _ _ q _ (colU1.toLoadRect.idx x) rfl 1 (Or.inr (by
      show 0 + 1024 ≤ 1024 + 1 * (x 1).val; omega))).trans
    (congrFun (View.read_writes_full v _ _ p []) (colU1.toLoadRect.idx x))

/-- Column tile 2 read back after the whole scratch was filled and tiles 0 and 1 replaced. -/
theorem readBack2 (v : View sig .tc .vmem S128x3072 .f32) (p : Vec F S128x3072 .f32) (q : colU0.shape.Idx → Elt F .f32)
    (r : colU1.shape.Idx → Elt F .f32) :
    v.readCov (Val := Elt F) [⟨colU1, r⟩, ⟨colU0, q⟩, ⟨allU, p⟩] colU2.toLoadRect = cut p colU2.toLoadRect :=
  funext fun x =>
    (View.read_writes_cons_unit_of_not_mem v _ _ r _ (colU2.toLoadRect.idx x) rfl 1 (Or.inr (by
      show 1024 + 1024 ≤ 2048 + 1 * (x 1).val; omega))).trans
    ((View.read_writes_cons_unit_of_not_mem v _ _ q _ (colU2.toLoadRect.idx x) rfl 1 (Or.inr (by
      show 0 + 1024 ≤ 2048 + 1 * (x 1).val; omega))).trans
    (congrFun (View.read_writes_full v _ _ p []) (colU2.toLoadRect.idx x)))

end Cert.Kernel2Ideal.Hand

end
-- ==== Proof.Kernel2Ideal.Landing.lean ====
/-
  What the awaited copies leave: the four time steps of a point's slab on the point's 64 rows of the result, and the
  slot back.
-/
module

public import proofs.«01_k».proof.Proof.Kernel2Ideal.Pieces
public import Idealize.ShloMosaic.Lib.ValueLayout

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

theorem all4 {P : Fin 4 → Prop} (h0 : P 0) (h1 : P 1) (h2 : P 2) (h3 : P 3) : ∀ a, P a
  | 0 => h0
  | 1 => h1
  | 2 => h2
  | 3 => h3

/-- Sixty-four rows of one time step, the unit axis put back. -/
theorem rows_unit (h : (⟨2, ![64, 1024]⟩ : Shape).numel = (⟨3, ![64, 1, 1024]⟩ : Shape).numel) (x : Fin 64) (y : Fin 1024) :
    Shape.reshapeEquiv h (ix2 x y) = ix3 x (0 : Fin 1) y :=
  Shape.reshapeEquiv_eq_of_rowMajor h (by
    rw [Shape.rowMajor_val_three, Shape.rowMajor_val_two]
    show ((x.val * 1 + 0) * 1024 + y.val) = x.val * 1024 + y.val
    omega)

/-- Contents of the two-slot buffer, read through its own view. -/
theorem read_scY (c : Dev nD) (f : BufOf (F := F) c scY) (x : S2x4x64x1024.Idx) : f x = scY.view.read (Elt F) f x := rfl

/-- A slot after the slab was stored in it holds the slab. -/
theorem slot_read (c : Dev nD) (t : Fin cfg0.N) (f gS : BufOf (F := F) c scY) (p : FVec F S1x4x64x1024 .f32)
    (hg : gS = scY.view.writes (Elt F) f [⟨Rect.unit (s := S2x4x64x1024) (k0_off1 (grid0.coords t)) ![1, 4, 64, 1024] (k0_off1_inb _), p⟩])
    (x : S2x4x64x1024.Idx) (hx : (x 0).val = t.val) : gS x = p (ix4 (0 : Fin 1) (x 1 : Fin 4) (x 2 : Fin 64) (x 3 : Fin 1024)) := by
  have hr := View.read_writes_cons_unit_of_mem (Val := Elt F) scY.view f (size := ![1, 4, 64, 1024]) (k0_off1_inb (grid0.coords t)) p [] x
    (ix4 (0 : Fin 1) (x 1 : Fin 4) (x 2 : Fin 64) (x 3 : Fin 1024)) (offs t).1
    (all4 hx (Nat.zero_add _).symm (Nat.zero_add _).symm (Nat.zero_add _).symm)
  rw [← hg] at hr
  exact (read_scY c gS x).trans hr

/-- Reading a time step of a slot. -/
theorem tile_read (c : Dev nD) (o : Fin 4 → ℕ) (h) (t : ℕ) (k : Fin 4) (e : o = ![t, k.val, 0, 0]) (gS : BufOf (F := F) c scY) (p : FVec F S1x4x64x1024 .f32)
    (hg : ∀ x : S2x4x64x1024.Idx, (x 0).val = t → gS x = p (ix4 (0 : Fin 1) (x 1 : Fin 4) (x 2 : Fin 64) (x 3 : Fin 1024))) (y : S64x1024.Idx) :
    (tile o h).view.read (Elt F) gS y = p (ix4 (0 : Fin 1) k (y 0 : Fin 64) (y 1 : Fin 1024)) := by
  obtain ⟨r, d, rfl⟩ : ∃ (r : Fin 64) (d : Fin 1024), y = ix2 r d := ⟨y 0, y 1, eq_ix2 y⟩
  have hz : Shape.reshapeEquiv squeezes_S1x1x64x1024_S64x1024.numel_eq (ix2 r d) = ix4 (0 : Fin 1) (0 : Fin 1) r d := reshapeEquiv_ix2_11ab _ r d
  show gS ((Rect.unit (s := S2x4x64x1024) o S1x1x64x1024.size h).emb (Shape.reshapeEquiv squeezes_S1x1x64x1024_S64x1024.numel_eq (ix2 r d))) = _
  rw [hz]
  subst e
  refine (hg _ ?_).trans (congrArg p ?_)
  · show t + 1 * 0 = t; omega
  · funext a
    revert a
    exact all4 rfl (Fin.ext (show k.val + 1 * 0 = k.val by omega)) (Fin.ext (show 0 + 1 * r.val = r.val by omega)) (Fin.ext (show 0 + 1 * d.val = d.val by omega))

/-- Contents of the result, read through one piece of it. -/
theorem read_piece (c : Dev nD) (o : Fin 3 → ℕ) (h : ∀ a, o a + S64x1x1024.size a ≤ S128x4x1024.size a) (f : BufOf (F := F) c hbY) (r : Fin 64) (d : Fin 1024) :
    f ((piece o h).view.emb (ix2 r d)) = (piece o h).view.read (Elt F) f (ix2 r d) := rfl

/-- What one awaited copy left on its piece of the result. -/
theorem piece_val (c : Dev nD) (o : Fin 3 → ℕ) (h) (o' : Fin 4 → ℕ) (h') (t : ℕ) (k : Fin 4) (e : o = ![64 * t, k.val, 0]) (e' : o' = ![t, k.val, 0, 0])
    (gS : BufOf (F := F) c scY) (gV G : BufOf (F := F) c hbY) (p : FVec F S1x4x64x1024 .f32)
    (hg : ∀ x : S2x4x64x1024.Idx, (x 0).val = t → gS x = p (ix4 (0 : Fin 1) (x 1 : Fin 4) (x 2 : Fin 64) (x 3 : Fin 1024)))
    (hG : ∀ (r : Fin 64) (x : S128x4x1024.Idx), (x 0).val = 64 * t + r.val → G x = p (ix4 (0 : Fin 1) (x 1 : Fin 4) r (x 2 : Fin 1024)))
    (x : S128x4x1024.Idx) (hx : x ∈ (piece o h).view.set) :
    (piece o h).view.writes (Elt F) gV [⟨Rect.whole S64x1024, ReadAs.same.apply ((tile o' h').view.read (Elt F) gS)⟩] x = G x := by
  obtain ⟨y, -, rfl⟩ := Finset.mem_map.mp hx
  obtain ⟨r, d, rfl⟩ : ∃ (r : Fin 64) (d : Fin 1024), y = ix2 r d := ⟨y 0, y 1, eq_ix2 y⟩
  have hz : Shape.reshapeEquiv squeezes_S64x1x1024_S64x1024.numel_eq (ix2 r d) = ix3 r (0 : Fin 1) d := rows_unit _ r d
  have hr := View.read_writes_cons_emb (piece o h).view gV (Rect.whole S64x1024) (ReadAs.same.apply ((tile o' h').view.read (Elt F) gS)) [] (ix2 r d)
  rw [show (Rect.whole S64x1024).emb (ix2 r d) = ix2 r d from by
    funext a; exact Fin.ext (show 0 + 1 * (ix2 r d a).val = (ix2 r d a).val by omega)] at hr
  refine (read_piece c o h _ r d).trans (hr.trans ?_)
  refine (tile_read c o' h' t k e' gS p hg (ix2 r d)).trans ?_
  have he : (piece o h).view.emb (ix2 r d) = (Rect.unit (s := S128x4x1024) o S64x1x1024.size h).emb (Shape.reshapeEquiv squeezes_S64x1x1024_S64x1024.numel_eq (ix2 r d)) := rfl
  rw [he, hz]
  subst e
  refine (congrArg p ?_).trans (hG r _ ?_).symm
  · funext a
    revert a
    exact all4 rfl (Fin.ext (show k.val = k.val + 1 * 0 by omega)) rfl (Fin.ext (show d.val = 0 + 1 * d.val by omega))
  · show 64 * t + 1 * r.val = 64 * t + r.val; omega

/-- The same of the piece held. -/
theorem piece_pt (c : Dev nD) (o : Fin 3 → ℕ) (h) (o' : Fin 4 → ℕ) (h') (t : ℕ) (k : Fin 4) (e : o = ![64 * t, k.val, 0]) (e' : o' = ![t, k.val, 0, 0])
    (gS : BufOf (F := F) c scY) (gV G : BufOf (F := F) c hbY) (p : FVec F S1x4x64x1024 .f32)
    (hg : ∀ x : S2x4x64x1024.Idx, (x 0).val = t → gS x = p (ix4 (0 : Fin 1) (x 1 : Fin 4) (x 2 : Fin 64) (x 3 : Fin 1024)))
    (hG : ∀ (r : Fin 64) (x : S128x4x1024.Idx), (x 0).val = 64 * t + r.val → G x = p (ix4 (0 : Fin 1) (x 1 : Fin 4) r (x 2 : Fin 1024))) :
    ((piece o h).view.loc (c : Thread nD τ) ↦[(piece o h).view.set]{fullShare}
        (piece o h).view.writes (Elt F) gV [⟨Rect.whole S64x1024, ReadAs.same.apply ((tile o' h').view.read (Elt F) gS)⟩] : sProp 𝕄)
      = ((piece o h).view.loc (c : Thread nD τ) ↦[(piece o h).view.set]{fullShare} G) :=
  pointsTo_congr (fun x hx => piece_val c o h o' h' t k e e' gS gV G p hg hG x hx)

/-- A point's four deliveries: its rows of the result at the slab, and its slot back. -/
theorem landed (c : Dev nD) (t : Fin cfg0.N) (gS : BufOf (F := F) c scY) (gV G : BufOf (F := F) c hbY) (p : FVec F S1x4x64x1024 .f32)
    (hg : ∀ x : S2x4x64x1024.Idx, (x 0).val = t.val → gS x = p (ix4 (0 : Fin 1) (x 1 : Fin 4) (x 2 : Fin 64) (x 3 : Fin 1024)))
    (hG : ∀ (r : Fin 64) (x : S128x4x1024.Idx), (x 0).val = 64 * t.val + r.val → G x = p (ix4 (0 : Fin 1) (x 1 : Fin 4) r (x 2 : Fin 1024))) :
    iprop(deliv c (grid0.coords t) gS gV 0 ∗ deliv c (grid0.coords t) gS gV 1 ∗ deliv c (grid0.coords t) gS gV 2 ∗ deliv c (grid0.coords t) gS gV 3)
      ⊢ iprop(pieces c t G ∗ (scY.view.loc (c : Thread nD τ) ↦[slotSet (grid0.coords t)]{fullShare} gS)) := by
  obtain ⟨e1, e3, e4, e5, e6, e7, e8, e9, e10⟩ := offs t
  rw [slot_tiles]
  have d0 : deliv c (grid0.coords t) gS gV 0 = iprop(((piece (k0_off3 (grid0.coords t)) (k0_off3_inb _)).view.loc (c : Thread nD τ) ↦[(piece (k0_off3 (grid0.coords t)) (k0_off3_inb _)).view.set]{fullShare} G)
      ∗ ((tile (k0_off4 (grid0.coords t)) (k0_off4_inb _)).view.loc (c : Thread nD τ) ↦[(tile (k0_off4 (grid0.coords t)) (k0_off4_inb _)).view.set]{fullShare} gS)) :=
    congrArg (fun X : sProp 𝕄 => iprop(X ∗ _)) (piece_pt c _ (k0_off3_inb _) _ (k0_off4_inb _) t.val 0 e3 e4 gS gV G p hg hG)
  have d1 : deliv c (grid0.coords t) gS gV 1 = iprop(((piece (k0_off5 (grid0.coords t)) (k0_off5_inb _)).view.loc (c : Thread nD τ) ↦[(piece (k0_off5 (grid0.coords t)) (k0_off5_inb _)).view.set]{fullShare} G)
      ∗ ((tile (k0_off6 (grid0.coords t)) (k0_off6_inb _)).view.loc (c : Thread nD τ) ↦[(tile (k0_off6 (grid0.coords t)) (k0_off6_inb _)).view.set]{fullShare} gS)) :=
    congrArg (fun X : sProp 𝕄 => iprop(X ∗ _)) (piece_pt c _ (k0_off5_inb _) _ (k0_off6_inb _) t.val 1 e5 e6 gS gV G p hg hG)
  have d2 : deliv c (grid0.coords t) gS gV 2 = iprop(((piece (k0_off7 (grid0.coords t)) (k0_off7_inb _)).view.loc (c : Thread nD τ) ↦[(piece (k0_off7 (grid0.coords t)) (k0_off7_inb _)).view.set]{fullShare} G)
      ∗ ((tile (k0_off8 (grid0.coords t)) (k0_off8_inb _)).view.loc (c : Thread nD τ) ↦[(tile (k0_off8 (grid0.coords t)) (k0_off8_inb _)).view.set]{fullShare} gS)) :=
    congrArg (fun X : sProp 𝕄 => iprop(X ∗ _)) (piece_pt c _ (k0_off7_inb _) _ (k0_off8_inb _) t.val 2 e7 e8 gS gV G p hg hG)
  have d3 : deliv c (grid0.coords t) gS gV 3 = iprop(((piece (k0_off9 (grid0.coords t)) (k0_off9_inb _)).view.loc (c : Thread nD τ) ↦[(piece (k0_off9 (grid0.coords t)) (k0_off9_inb _)).view.set]{fullShare} G)
      ∗ ((tile (k0_off10 (grid0.coords t)) (k0_off10_inb _)).view.loc (c : Thread nD τ) ↦[(tile (k0_off10 (grid0.coords t)) (k0_off10_inb _)).view.set]{fullShare} gS)) :=
    congrArg (fun X : sProp 𝕄 => iprop(X ∗ _)) (piece_pt c _ (k0_off9_inb _) _ (k0_off10_inb _) t.val 3 e9 e10 gS gV G p hg hG)
  rw [d0, d1, d2, d3]
  unfold pieces tiles
  iintro ⟨⟨P0, T0⟩, ⟨P1, T1⟩, ⟨P2, T2⟩, ⟨P3, T3⟩⟩
  isplitl [P0 P1 P2 P3]
  · isplitl [P0]; · iexact P0
    isplitl [P1]; · iexact P1
    isplitl [P2]; · iexact P2
    iexact P3
  isplitl [T0]; · iexact T0
  isplitl [T1]; · iexact T1
  isplitl [T2]; · iexact T2
  iexact T3

/-- The two slots held, at whatever each holds, are the two-slot buffer held. -/
theorem slots_join (c : Dev nD) (f g : BufOf (F := F) c scY) :
    iprop((scY.view.loc (c : Thread nD τ) ↦[slotSet (grid0.coords pt0)]{fullShare} f) ∗ (scY.view.loc (c : Thread nD τ) ↦[slotSet (grid0.coords pt1)]{fullShare} g))
      ⊢ (iprop(∃ h : BufOf (F := F) c scY, scY.view.loc (c : Thread nD τ) ↦{fullShare} h) : sProp 𝕄) := by
  classical
  let h : BufOf (F := F) c scY := fun x => if x ∈ slotSet (grid0.coords pt0) then f x else g x
  rw [pointsTo_congr (f := f) (g := h) (fun x hx => (if_pos hx).symm),
    pointsTo_congr (f := g) (g := h) (fun x hx => (if_neg fun h0 => by
      have a := (mem_slotSet pt0 x).mp h0
      have b := (mem_slotSet pt1 x).mp hx
      have : (0 : ℕ) = 1 := a.symm.trans b
      omega).symm), ← scY_slots c h]
  iintro H; iexists h; iexact H

end Cert.Kernel2Ideal.Hand

end
-- ==== Proof.Kernel2Ideal.Run.lean ====
/-
  The body of the feed-forward call run at each of its two points.

  At the first point the slot is filled and its four copies are started; they are still in flight when the body
  returns. At the second point the other slot is filled and copied, the first point's copies are awaited, and then
  the second point's.
-/
module

public import proofs.«01_k».proof.Proof.Kernel2Ideal.Pieces

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four copies of point `t`, of which `k` are started and none is awaited, on the cell `sm`. -/
abbrev flights (c : Dev nD) (sm : DmaSem sig) (t : Fin cfg0.N) (gS : BufOf (F := F) c scY) (gV : BufOf (F := F) c hbY) (k : ℕ) : sProp 𝕄 :=
  Transfers.Batch (Lvl := ℕ) (countersEmb (U := Pipeline.UD sig nD τ)) (c : Thread nD τ) (SemLoc.dma sm) ()
    ((piece (k0_off3 (grid0.coords t)) (k0_off3_inb _)).view.amount (.dma sm)) (deliv c (grid0.coords t) gS gV) k 0

set_option maxRecDepth 16384 in
set_option maxHeartbeats 1000000 in
/-- The first point: the pieces it writes of the new convolution state and of the slot, and that it leaves its four
    copies in flight. -/
theorem run0 (c : Dev nD) (arg2 : Memref sig .tc .vmem S4x64x1024 .f32) (h2 : arg2.IsWhole) (arg3 : Memref sig .tc .vmem S2x64x3072 .f32) (h3 : arg3.IsWhole) (arg4 : Memref sig .tc .vmem S1x1024 .f32) (h4 : arg4.IsWhole) (arg5 : Memref sig .tc .vmem S1024x3072 .bf16) (h5 : arg5.IsWhole) (arg6 : Memref sig .tc .vmem S1024x3072 .bf16) (h6 : arg6.IsWhole) (arg7 : Memref sig .tc .vmem S3x3072 .f32) (h7 : arg7.IsWhole) (arg8 : Memref sig .tc .vmem S1x3072 .f32) (h8 : arg8.IsWhole) (arg9 : Memref sig .tc .vmem S3072x1024 .bf16) (h9 : arg9.IsWhole) (arg10 : Memref sig .tc .vmem S1x1024 .f32) (h10 : arg10.IsWhole) (arg12 : Memref sig .tc .vmem S2x64x3072 .f32) (h12 : arg12.IsWhole)
    (x2 : Vec F S4x64x1024 .f32) (x3 : Vec F S2x64x3072 .f32) (x4 : Vec F S1x1024 .f32) (x5 : Vec F S1024x3072 .bf16) (x6 : Vec F S1024x3072 .bf16) (x7 : Vec F S3x3072 .f32) (x8 : Vec F S1x3072 .f32) (x9 : Vec F S3072x1024 .bf16) (x10 : Vec F S1x1024 .f32) :
    ∀ (gV : BufOf (F := F) c hbY) (W : Waits sig Unit) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg12 fullShare d) ∗ (∃ d, owns (c : Thread nD τ) scU fullShare d) ∗ (∃ d, owns (c : Thread nD τ) scY fullShare d)
            ∗ pieces c pt0 gV ∗ semVal ((c : Thread nD τ), SemLoc.dma 13) 0 ∗ owes (c : Thread nD τ) 0 W
            ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
                ∗ (∃ f, arg12.view.loc (c : Thread nD τ) ↦[arg12.view.set]{fullShare} arg12.view.writes (Elt F) f (statePieces x2 x4 x5))
                ∗ (∃ d, owns (c : Thread nD τ) scU fullShare d)
                ∗ (∃ gS, ⌜∃ f, gS = scY.view.writes (Elt F) f (slotPieces (grid0.coords pt0) x2 x3 x4 x5 x6 x7 x8 x9 x10)⌝ ∗ flights c 13 pt0 gS gV 4
                    ∗ (scY.view.loc (c : Thread nD τ) ↦[slotSet (grid0.coords pt1)]{fullShare} gS))
                ∗ (∃ W', owes (c : Thread nD τ) 0 W')) -∗ K ⟨⟩))
          ⊢ wp frame (wpE (defs₀ (F := F)) Variants.none c none) Set.univ
              (cc0_ffn (grid0.coords pt0) arg2 h2 arg3 h3 arg4 h4 arg5 h5 arg6 h6 arg7 h7 arg8 h8 arg9 h9 arg10 h10 hbY (Memref.isWhole_whole _) arg12 h12 scU (Memref.isWhole_whole _) scY (Memref.isWhole_whole _) cc0_scratch2) K := by
  intro gV W K
  focus
    have e2 : k0_cond2 (grid0.coords pt0) ≠ 1#1 := by decide +kernel
    have e3 : k0_cond3 (grid0.coords pt0) ≠ 1#1 := by decide +kernel
    simp only [cc0_ffn_eq_skeleton]; unfold cc0_ffn_skel
    simp only [k0_part3_eq_skeleton, k0_part4_eq_skeleton, k0_part5_eq_skeleton, k0_part6_eq_skeleton, k0_part7_eq_skeleton, k0_part8_eq_skeleton]
    unfold k0_part3_skel k0_part4_skel k0_part5_skel k0_part6_skel k0_part7_skel k0_part8_skel
    simp only [dif_neg e2, dif_neg e3]
    unfold owns
    iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%d12, %f12, -, H12⟩, ⟨%dU, %fU, -, HU⟩, ⟨%dY, %fY, -, HY⟩, HP, Hc, HW, Hk⟩
    obtain rfl := h2.eq_unread g2
    obtain rfl := h3.eq_unread g3
    obtain rfl := h4.eq_unread g4
    obtain rfl := h5.eq_unread g5
    obtain rfl := h6.eq_unread g6
    obtain rfl := h7.eq_unread g7
    obtain rfl := h8.eq_unread g8
    obtain rfl := h9.eq_unread g9
    obtain rfl := h10.eq_unread g10
    sl_exec
    icases (name_contents (F := F)) $$ HY with HY
    icases HY with ⟨%gS, %hgS, HY⟩
    icases (name_contents (F := F)) $$ H12 with H12
    icases H12 with ⟨%gO, %hgO, H12⟩
    dsimp only at hgS hgO
    have hS : ∃ f, gS = scY.view.writes (Elt F) f (slotPieces (grid0.coords pt0) x2 x3 x4 x5 x6 x7 x8 x9 x10) := by
      refine ⟨fY, hgS.trans ?_⟩
      clear hgS hgO
      sl_unfold_run_names
      simp only [load_eq_cut, readBack0, readBack1, readBack2]
      rfl
    have hO : ∃ f, gO = arg12.view.writes (Elt F) f (statePieces x2 x4 x5) := by
      refine ⟨f12, hgO.trans ?_⟩
      clear hgS hgO
      simp only [load_eq_cut]
      rfl
    clear hgS hgO
    ihave HY := (Entails.of_eq (show (scY.view.loc (c : Thread nD τ) ↦[scY.view.set]{fullShare} gS : sProp 𝕄) = _ from
      (congrArg (fun S => (scY.view.loc (c : Thread nD τ) ↦[S]{fullShare} gS : sProp 𝕄)) (View.set_whole _)).trans (scY_slots c gS))) $$ HY
    icases HY with ⟨HY0, HY1⟩
    ihave HY0 := (Entails.of_eq (slot_tiles c pt0 gS)) $$ HY0
    unfold tiles pieces
    icases HY0 with ⟨HT0, HT1, HT2, HT3⟩
    icases HP with ⟨HP0, HP1, HP2, HP3⟩
    imod (Transfers.batch_alloc' (Lvl := ℕ) (countersEmb (U := Pipeline.UD sig nD τ)) (c : Thread nD τ) () ((piece (k0_off3 (grid0.coords pt0)) (k0_off3_inb _)).view.amount (.dma (13 : DmaSem sig)))
      (deliv c (grid0.coords pt0) gS gV) (sm := SemLoc.dma 13) (E := Set.univ)) $$ Hc with HB
    unfold deliv
    sl_exec
    sl_step
    iapply Hk
    isplitl [H2]
    · iexists _; isplitr; swap; · iexact H2
      ipureintro; exact h2.read_unread x2
    isplitl [H3]
    · iexists _; isplitr; swap; · iexact H3
      ipureintro; exact h3.read_unread x3
    isplitl [H4]
    · iexists _; isplitr; swap; · iexact H4
      ipureintro; exact h4.read_unread x4
    isplitl [H5]
    · iexists _; isplitr; swap; · iexact H5
      ipureintro; exact h5.read_unread x5
    isplitl [H6]
    · iexists _; isplitr; swap; · iexact H6
      ipureintro; exact h6.read_unread x6
    isplitl [H7]
    · iexists _; isplitr; swap; · iexact H7
      ipureintro; exact h7.read_unread x7
    isplitl [H8]
    · iexists _; isplitr; swap; · iexact H8
      ipureintro; exact h8.read_unread x8
    isplitl [H9]
    · iexists _; isplitr; swap; · iexact H9
      ipureintro; exact h9.read_unread x9
    isplitl [H10]
    · iexists _; isplitr; swap; · iexact H10
      ipureintro; exact h10.read_unread x10
    isplitl [H12]
    · obtain ⟨f, hf⟩ := hO
      subst hf
      iexists _; iexact H12
    isplitl [HU]
    · iexists _, _; isplitr; swap; · iexact HU
      ipureintro; rfl
    isplitl [HB HY1]
    · iexists gS
      isplitr; · ipureintro; exact hS
      isplitl [HB]; · iexact HB
      iexact HY1
    iexists _; iexact HW

end Cert.Kernel2Ideal.Hand

end
-- ==== Proof.Kernel2Ideal.Run1.lean ====
/-
  The body of the feed-forward call run at its second, last point: the second slot is filled and its four copies are
  started, the first point's four copies are awaited, and then the second point's.
-/
module

public import proofs.«01_k».proof.Proof.Kernel2Ideal.Run

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- One slot of the slab buffer, held by its own elements. -/
def slotHeld (c : Dev nD) (i : grid0.Coords) (f : BufOf (F := F) c scY) : sProp 𝕄 :=
  (slotAt i).view.loc (c : Thread nD τ) ↦[(slotAt i).view.set]{fullShare} f

set_option maxRecDepth 16384 in
set_option maxHeartbeats 1000000 in
/-- The second point: the pieces it writes of the new convolution state and of the slot, and that every copy has
    landed when it returns. -/
theorem run1 (c : Dev nD) (arg2 : Memref sig .tc .vmem S4x64x1024 .f32) (h2 : arg2.IsWhole) (arg3 : Memref sig .tc .vmem S2x64x3072 .f32) (h3 : arg3.IsWhole) (arg4 : Memref sig .tc .vmem S1x1024 .f32) (h4 : arg4.IsWhole) (arg5 : Memref sig .tc .vmem S1024x3072 .bf16) (h5 : arg5.IsWhole) (arg6 : Memref sig .tc .vmem S1024x3072 .bf16) (h6 : arg6.IsWhole) (arg7 : Memref sig .tc .vmem S3x3072 .f32) (h7 : arg7.IsWhole) (arg8 : Memref sig .tc .vmem S1x3072 .f32) (h8 : arg8.IsWhole) (arg9 : Memref sig .tc .vmem S3072x1024 .bf16) (h9 : arg9.IsWhole) (arg10 : Memref sig .tc .vmem S1x1024 .f32) (h10 : arg10.IsWhole) (arg12 : Memref sig .tc .vmem S2x64x3072 .f32) (h12 : arg12.IsWhole)
    (x2 : Vec F S4x64x1024 .f32) (x3 : Vec F S2x64x3072 .f32) (x4 : Vec F S1x1024 .f32) (x5 : Vec F S1024x3072 .bf16) (x6 : Vec F S1024x3072 .bf16) (x7 : Vec F S3x3072 .f32) (x8 : Vec F S1x3072 .f32) (x9 : Vec F S3072x1024 .bf16) (x10 : Vec F S1x1024 .f32) :
    ∀ (gS0 : BufOf (F := F) c scY) (gV : BufOf (F := F) c hbY) (W : Waits sig Unit) (K : PUnit → sProp 𝕄),
        iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg12 fullShare d) ∗ (∃ d, owns (c : Thread nD τ) scU fullShare d)
            ∗ (∃ f, slotHeld c (grid0.coords pt1) f)
            ∗ flights c 13 pt0 gS0 gV 4
            ∗ pieces c pt1 gV ∗ semVal ((c : Thread nD τ), SemLoc.dma 14) 0 ∗ owes (c : Thread nD τ) 0 W
            ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
                ∗ (∃ f, arg12.view.loc (c : Thread nD τ) ↦[arg12.view.set]{fullShare} arg12.view.writes (Elt F) f (statePieces x2 x4 x5))
                ∗ (∃ d, owns (c : Thread nD τ) scU fullShare d)
                ∗ (∃ gS, ⌜∃ f, gS = scY.view.writes (Elt F) f (slotPieces (grid0.coords pt1) x2 x3 x4 x5 x6 x7 x8 x9 x10)⌝ ∗ deliv c (grid0.coords pt1) gS gV 0 ∗ deliv c (grid0.coords pt1) gS gV 1 ∗ deliv c (grid0.coords pt1) gS gV 2 ∗ deliv c (grid0.coords pt1) gS gV 3)
                ∗ deliv c (grid0.coords pt0) gS0 gV 0 ∗ deliv c (grid0.coords pt0) gS0 gV 1 ∗ deliv c (grid0.coords pt0) gS0 gV 2 ∗ deliv c (grid0.coords pt0) gS0 gV 3
                ∗ semVal ((c : Thread nD τ), SemLoc.dma 13) 0 ∗ semVal ((c : Thread nD τ), SemLoc.dma 14) 0
                ∗ (∃ W', owes (c : Thread nD τ) 0 W')) -∗ K ⟨⟩))
          ⊢ wp frame (wpE (defs₀ (F := F)) Variants.none c none) Set.univ
              (cc0_ffn (grid0.coords pt1) arg2 h2 arg3 h3 arg4 h4 arg5 h5 arg6 h6 arg7 h7 arg8 h8 arg9 h9 arg10 h10 hbY (Memref.isWhole_whole _) arg12 h12 scU (Memref.isWhole_whole _) scY (Memref.isWhole_whole _) cc0_scratch2) K := by
  intro gS0 gV W K
  focus
    have hS : (scY.access (Rect.unit (s := S2x4x64x1024) (k0_off1 (grid0.coords pt1)) S1x4x64x1024.size (k0_off1_inb _))).set
        ⊆ (slotAt (grid0.coords pt1)).view.set := Finset.Subset.refl _
    have e2 : k0_cond2 (grid0.coords pt1) = 1#1 := by decide +kernel
    have e3 : k0_cond3 (grid0.coords pt1) = 1#1 := by decide +kernel
    simp only [cc0_ffn_eq_skeleton]; unfold cc0_ffn_skel
    simp only [k0_part3_eq_skeleton, k0_part4_eq_skeleton, k0_part5_eq_skeleton, k0_part6_eq_skeleton, k0_part7_eq_skeleton, k0_part8_eq_skeleton]
    unfold k0_part3_skel k0_part4_skel k0_part5_skel k0_part6_skel k0_part7_skel k0_part8_skel
    simp only [dif_pos e2, dif_pos e3, k0_part1_eq_skeleton, k0_part2_eq_skeleton]
    unfold k0_part1_skel k0_part2_skel
    unfold owns
    iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%d12, %f12, -, H12⟩, ⟨%dU, %fU, -, HU⟩, ⟨%fY, HY⟩, HB0, HP, Hc, HW, Hk⟩
    obtain rfl := h2.eq_unread g2
    obtain rfl := h3.eq_unread g3
    obtain rfl := h4.eq_unread g4
    obtain rfl := h5.eq_unread g5
    obtain rfl := h6.eq_unread g6
    obtain rfl := h7.eq_unread g7
    obtain rfl := h8.eq_unread g8
    obtain rfl := h9.eq_unread g9
    obtain rfl := h10.eq_unread g10
    unfold slotHeld
    sl_exec
    icases (name_contents (F := F)) $$ HY with HY
    icases HY with ⟨%gS, %hgS, HY⟩
    icases (name_contents (F := F)) $$ H12 with H12
    icases H12 with ⟨%gO, %hgO, H12⟩
    have hL : ∃ f, gS = scY.view.writes (Elt F) f (slotPieces (grid0.coords pt1) x2 x3 x4 x5 x6 x7 x8 x9 x10) := by
      refine ⟨fY, hgS.trans ?_⟩
      clear hgS hgO
      sl_unfold_run_names
      dsimp only
      simp only [load_eq_cut, readBack0, readBack1, readBack2]
      rfl
    dsimp only at hgO
    have hO : ∃ f, gO = arg12.view.writes (Elt F) f (statePieces x2 x4 x5) := by
      refine ⟨f12, hgO.trans ?_⟩
      clear hgS hgO
      simp only [load_eq_cut]
      rfl
    clear hgS hgO
    ihave HY := (Entails.of_eq (slot_tiles c pt1 gS)) $$ HY
    unfold tiles pieces
    icases HY with ⟨HT0, HT1, HT2, HT3⟩
    icases HP with ⟨HP0, HP1, HP2, HP3⟩
    imod (Transfers.batch_alloc' (Lvl := ℕ) (countersEmb (U := Pipeline.UD sig nD τ)) (c : Thread nD τ) () ((piece (k0_off3 (grid0.coords pt1)) (k0_off3_inb _)).view.amount (.dma (14 : DmaSem sig)))
      (deliv c (grid0.coords pt1) gS gV) (sm := SemLoc.dma 14) (E := Set.univ)) $$ Hc with HB
    unfold deliv
    sl_exec
    sl_step
    iapply Hk
    isplitl [H2]
    · iexists _; isplitr; swap; · iexact H2
      ipureintro; exact h2.read_unread x2
    isplitl [H3]
    · iexists _; isplitr; swap; · iexact H3
      ipureintro; exact h3.read_unread x3
    isplitl [H4]
    · iexists _; isplitr; swap; · iexact H4
      ipureintro; exact h4.read_unread x4
    isplitl [H5]
    · iexists _; isplitr; swap; · iexact H5
      ipureintro; exact h5.read_unread x5
    isplitl [H6]
    · iexists _; isplitr; swap; · iexact H6
      ipureintro; exact h6.read_unread x6
    isplitl [H7]
    · iexists _; isplitr; swap; · iexact H7
      ipureintro; exact h7.read_unread x7
    isplitl [H8]
    · iexists _; isplitr; swap; · iexact H8
      ipureintro; exact h8.read_unread x8
    isplitl [H9]
    · iexists _; isplitr; swap; · iexact H9
      ipureintro; exact h9.read_unread x9
    isplitl [H10]
    · iexists _; isplitr; swap; · iexact H10
      ipureintro; exact h10.read_unread x10
    isplitl [H12]
    · obtain ⟨f, hf⟩ := hO
      subst hf
      iexists _; iexact H12
    isplitl [HU]
    · iexists _, _; isplitr; swap; · iexact HU
      ipureintro; rfl
    isplitl [HB_dst0 HB_src0 HB_dst1 HB_src1 HB_dst2 HB_src2 HB_dst3 HB_src3]
    · iexists gS
      isplitr; · ipureintro; exact hL
      isplitl [HB_dst0 HB_src0]
      · isplitl [HB_dst0]; · iexact HB_dst0
        iexact HB_src0
      isplitl [HB_dst1 HB_src1]
      · isplitl [HB_dst1]; · iexact HB_dst1
        iexact HB_src1
      isplitl [HB_dst2 HB_src2]
      · isplitl [HB_dst2]; · iexact HB_dst2
        iexact HB_src2
      isplitl [HB_dst3]; · iexact HB_dst3
      iexact HB_src3
    isplitl [HB0_dst0 HB0_src0]
    · isplitl [HB0_dst0]; · iexact HB0_dst0
      iexact HB0_src0
    isplitl [HB0_dst1 HB0_src1]
    · isplitl [HB0_dst1]; · iexact HB0_dst1
      iexact HB0_src1
    isplitl [HB0_dst2 HB0_src2]
    · isplitl [HB0_dst2]; · iexact HB0_dst2
      iexact HB0_src2
    isplitl [HB0_dst3 HB0_src3]
    · isplitl [HB0_dst3]; · iexact HB0_dst3
      iexact HB0_src3
    isplitl [HB0]; · iexact HB0
    isplitl [HB]; · iexact HB
    iexists _; iexact HW

end Cert.Kernel2Ideal.Hand

end
-- ==== Proof.Kernel2Ideal.Frame.lean ====
/-
  The frame of the feed-forward call: it terminates, nothing faults, its nine arguments end unchanged and every
  semaphore counter ends at zero; with what it leaves in its two results.

  Between the two points the first point's four copies are in flight. The invariant therefore names the contents of the
  slot they read, and holds the pieces of the result they do not write.
-/
module

public import proofs.«01_k».proof.Proof.Kernel2Ideal.Landing
public import proofs.«01_k».proof.Proof.Kernel2Ideal.Run1

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ) (ρ : Dev nD → PrngReg)

/-! ## What each point leaves -/

/-- Window 0's block at a point. -/
abbrev blk0 (c : Dev nD) (t : Fin cfg0.N) : Vec F S4x64x1024 .f32 := iblk m c 0 t
/-- Window 1's block at a point. -/
abbrev blk1 (c : Dev nD) (t : Fin cfg0.N) : Vec F S2x64x3072 .f32 := iblk m c 1 t
/-- Window 2's block at a point. -/
abbrev blk2 (c : Dev nD) (t : Fin cfg0.N) : Vec F S1x1024 .f32 := iblk m c 2 t
/-- Window 3's block at a point. -/
abbrev blk3 (c : Dev nD) (t : Fin cfg0.N) : Vec F S1024x3072 .bf16 := iblk m c 3 t
/-- Window 4's block at a point. -/
abbrev blk4 (c : Dev nD) (t : Fin cfg0.N) : Vec F S1024x3072 .bf16 := iblk m c 4 t
/-- Window 5's block at a point. -/
abbrev blk5 (c : Dev nD) (t : Fin cfg0.N) : Vec F S3x3072 .f32 := iblk m c 5 t
/-- Window 6's block at a point. -/
abbrev blk6 (c : Dev nD) (t : Fin cfg0.N) : Vec F S1x3072 .f32 := iblk m c 6 t
/-- Window 7's block at a point. -/
abbrev blk7 (c : Dev nD) (t : Fin cfg0.N) : Vec F S3072x1024 .bf16 := iblk m c 7 t
/-- Window 8's block at a point. -/
abbrev blk8 (c : Dev nD) (t : Fin cfg0.N) : Vec F S1x1024 .f32 := iblk m c 8 t

/-- The slab of finished rows of a point. -/
def slabAt (c : Dev nD) (t : Fin cfg0.N) : FVec F S1x4x64x1024 .f32 := slab (blk0 m c t) (blk1 m c t) (blk2 m c t) (blk3 m c t) (blk4 m c t) (blk5 m c t) (blk6 m c t) (blk7 m c t) (blk8 m c t)

/-- What the call leaves in the result in HBM: row `64 t + r` of time step `k` is row `(k, r)` of point `t`'s slab. -/
def rowsOut (c : Dev nD) : BufOf (F := F) c hbY := fun (x : S128x4x1024.Idx) =>
  slabAt m c ⟨(x 0).val / 64, by have h : (x 0).val < 128 := (x 0).isLt; show _ < 2; omega⟩
    (ix4 (0 : Fin 1) (x 1 : Fin 4) (⟨(x 0).val % 64, Nat.mod_lt _ (by decide)⟩ : Fin 64) (x 2 : Fin 1024))

theorem rowsOut_at (c : Dev nD) (t : Fin cfg0.N) (r : Fin 64) (x : S128x4x1024.Idx) (hx : (x 0).val = 64 * t.val + r.val) :
    rowsOut m c x = slabAt m c t (ix4 (0 : Fin 1) (x 1 : Fin 4) r (x 2 : Fin 1024)) := by
  have hr := r.isLt
  have h1 : (⟨(x 0).val / 64, by have h : (x 0).val < 128 := (x 0).isLt; show _ < 2; omega⟩ : Fin cfg0.N) = t :=
    Fin.ext (show (x 0).val / 64 = t.val by omega)
  have h2 : (⟨(x 0).val % 64, Nat.mod_lt _ (by decide)⟩ : Fin 64) = r := Fin.ext (show (x 0).val % 64 = r.val by omega)
  show slabAt m c _ (ix4 (0 : Fin 1) (x 1 : Fin 4) _ (x 2 : Fin 1024)) = _
  rw [h1, h2]

/-- Three column tiles side by side. -/
def sideBySide (A B C : FVec F S2x64x1024 .f32) : Vec F S2x64x3072 .f32 := fun x =>
  if h : (x 2).val < 1024 then A (ix3 (x 0 : Fin 2) (x 1 : Fin 64) (⟨(x 2).val, h⟩ : Fin 1024))
  else if h' : (x 2).val < 2048 then B (ix3 (x 0 : Fin 2) (x 1 : Fin 64) (⟨(x 2).val - 1024, by omega⟩ : Fin 1024))
  else C (ix3 (x 0 : Fin 2) (x 1 : Fin 64) (⟨(x 2).val - 2048, by have h3 : (x 2).val < 3072 := (x 2).isLt; omega⟩ : Fin 1024))

/-- What a point leaves in the new convolution state. -/
def stateOf (x2 : Vec F S4x64x1024 .f32) (x4 : Vec F S1x1024 .f32) (x5 : Vec F S1024x3072 .bf16) : Vec F S2x64x3072 .f32 :=
  sideBySide (k0_pay9 (k0_pay4 (cut x2 allX.toLoadRect) (cut x4 allG.toLoadRect) (cut x5 colW0.toLoadRect)))
    (k0_pay16 (rowsIn x2 x4) (cut x5 colW1.toLoadRect)) (k0_pay23 (k0_pay18 (rowsIn x2 x4) (cut x5 colW2.toLoadRect)))

theorem all3 {P : Fin 3 → Prop} (h0 : P 0) (h1 : P 1) (h2 : P 2) : ∀ a, P a
  | 0 => h0
  | 1 => h1
  | 2 => h2

theorem tiles_read (v : View sig .tc .vmem S2x64x3072 .f32) (f) (A B C : FVec F S2x64x1024 .f32) :
    v.read (Elt F) (v.writes (Elt F) f [⟨colS2, C⟩, ⟨colS1, B⟩, ⟨colS0, A⟩]) = sideBySide A B C := by
  funext x
  have h3 : (x 2).val < 3072 := (x 2).isLt
  unfold sideBySide
  by_cases h : (x 2).val < 1024
  · rw [dif_pos h]
    refine (View.read_writes_cons_unit_of_not_mem v f _ C _ x rfl 2 (Or.inl (show (x 2).val < 2048 by omega))).trans ?_
    refine (View.read_writes_cons_unit_of_not_mem v f _ B _ x rfl 2 (Or.inl (show (x 2).val < 1024 by omega))).trans ?_
    exact View.read_writes_cons_unit_of_mem v f _ A _ x (ix3 (x 0 : Fin 2) (x 1 : Fin 64) (⟨(x 2).val, h⟩ : Fin 1024)) rfl
      (all3 (Nat.zero_add _).symm (Nat.zero_add _).symm (Nat.zero_add _).symm)
  · rw [dif_neg h]
    by_cases h' : (x 2).val < 2048
    · rw [dif_pos h']
      refine (View.read_writes_cons_unit_of_not_mem v f _ C _ x rfl 2 (Or.inl (show (x 2).val < 2048 by omega))).trans ?_
      exact View.read_writes_cons_unit_of_mem v f _ B _ x (ix3 (x 0 : Fin 2) (x 1 : Fin 64) (⟨(x 2).val - 1024, by omega⟩ : Fin 1024)) rfl
        (all3 (Nat.zero_add _).symm (Nat.zero_add _).symm (show (x 2).val = 1024 + ((x 2).val - 1024) by omega))
    · rw [dif_neg h']
      exact View.read_writes_cons_unit_of_mem v f _ C _ x (ix3 (x 0 : Fin 2) (x 1 : Fin 64) (⟨(x 2).val - 2048, by omega⟩ : Fin 1024)) rfl
        (all3 (Nat.zero_add _).symm (Nat.zero_add _).symm (show (x 2).val = 2048 + ((x 2).val - 2048) by omega))

theorem state_read (v : View sig .tc .vmem S2x64x3072 .f32) (f) (x2 : Vec F S4x64x1024 .f32) (x4 : Vec F S1x1024 .f32) (x5 : Vec F S1024x3072 .bf16) :
    v.read (Elt F) (v.writes (Elt F) f (statePieces x2 x4 x5)) = stateOf x2 x4 x5 := tiles_read v f _ _ _

/-! ## The buffers and counters the body holds of its own -/

abbrev osem0 : Fin 2 → SemLoc sig := fun j => (![SemLoc.dma 13, SemLoc.dma 14] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0) := by
  rw [Pipeline.ownSems0_eq_of_list c osem0 [0, 1] (by decide) (by decide)]; rfl

/-- No buffer outside the windows is only read. -/
def H0 : Finset (Ref sig .tc) := ∅
/-- The body's copies write the result in HBM. -/
def R0 : Finset (Ref sig .tc) := {main_v12_0}
theorem H0_sub : H0 ⊆ Pipeline.restRefs sig spec0 := by decide
theorem R0_sub : R0 ⊆ Pipeline.restRefs sig spec0 \ H0 := by decide

/-- What the call leaves in the buffers its own copies write. -/
def G (c : Dev nD) (b : Ref sig .tc) : Buf (Elt F) ((c : Thread nD τ).loc b) :=
  if h : b = main_v12_0 then h ▸ (rowsOut m c : Buf (Elt F) ((c : Thread nD τ).loc main_v12_0)) else V m c b
theorem G_rows (c : Dev nD) : G m c main_v12_0 = rowsOut m c := by unfold G; rw [dif_pos rfl]

theorem routed_eq (c : Dev nD) (W : (b : Ref sig .tc) → Buf (Elt F) ((c : Thread nD τ).loc b)) :
    (Pipeline.routed R0 c W : sProp 𝕄) = iprop(hbY.view.loc (c : Thread nD τ) ↦{fullShare} W main_v12_0) := by
  unfold Pipeline.routed; rw [BI.bigSep_eq_bigSepL_of_eq [main_v12_0] (by decide) (by decide)]; rfl

/-- Nothing outside the windows is only read: an empty holding. -/
def hold (c : Dev nD) : sProp 𝕄 := bigSep H0 (fun b => ((c : Thread nD τ).loc b) ↦{fullShare} V m c b)

theorem PhiDRG0_eq (W : (c : Dev nD) → (b : Ref sig .tc) → Buf (Elt F) ((c : Thread nD τ).loc b)) (c : Dev nD) :
    (Pipeline.ΦDRG osem0 spec0 H0 R0 (V m) W c : sProp 𝕄)
      = iprop(iprop((∃ d, owns (c : Thread nD τ) scU fullShare d) ∗ (∃ f : BufOf (F := F) c scY, scY.view.loc (c : Thread nD τ) ↦{fullShare} f))
          ∗ (∃ r, prngReg c r)
          ∗ iprop(semVal ((c : Thread nD τ), SemLoc.dma 13) 0 ∗ semVal ((c : Thread nD τ), SemLoc.dma 14) 0)
          ∗ hold m c
          ∗ iprop(hbY.view.loc (c : Thread nD τ) ↦{fullShare} W c main_v12_0)) := by
  rw [Pipeline.ΦDRG_eq, scopedRest0_eq, ownSems00_eq, routed_eq]
  simp only [scU, owns_whole]; rfl

/-! ## The pipeline's data -/

/-- Between the two points: the first point's copies in flight. -/
def between (c : Dev nD) : sProp 𝕄 :=
  iprop((∃ d, owns (c : Thread nD τ) scU fullShare d) ∗ (∃ r, prngReg c r)
    ∗ (∃ gS : BufOf (F := F) c scY, ⌜∃ f, gS = scY.view.writes (Elt F) f (slotPieces (grid0.coords pt0) (blk0 m c pt0) (blk1 m c pt0) (blk2 m c pt0) (blk3 m c pt0) (blk4 m c pt0) (blk5 m c pt0) (blk6 m c pt0) (blk7 m c pt0) (blk8 m c pt0))⌝
        ∗ flights c 13 pt0 gS (V m c main_v12_0) 4
        ∗ (scY.view.loc (c : Thread nD τ) ↦[slotSet (grid0.coords pt1)]{fullShare} gS))
    ∗ semVal ((c : Thread nD τ), SemLoc.dma 14) 0 ∗ hold m c ∗ pieces c pt1 (V m c main_v12_0))

/-- The invariant before point `n`. -/
def Inv (c : Dev nD) : ℕ → sProp 𝕄
  | 0 => Pipeline.ΦDRG osem0 spec0 H0 R0 (V m) (V m) c
  | 1 => between m c
  | _ => Pipeline.ΦDRG osem0 spec0 H0 R0 (V m) (G m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => stateOf (blk0 m c t) (blk2 m c t) (blk3 m c t)
  Φ t := Inv m c t.val
  q _ := fullShare
  owed _ := 0

theorem A_eq (c : Dev nD) (w : Fin cfg0.W) : (dats m 0 c).A w = V m c (Pipeline.arrRef spec0 w) := by
  dsimp only [dats]
theorem after0_9 (c : Dev nD) (t : Fin cfg0.N) : (dats m 0 c).after 9 t = stateOf (blk0 m c t) (blk2 m c t) (blk3 m c t) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

/-! ## The body at each point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body0 (c : Dev nD) :
    bodyPre m c pt0 ⊢ wp frame (wpE (defs₀ (F := F)) Variants.none c none) Set.univ (bodyAt0 pt0) (fun _ => bodyPost m c pt0) := by
  unfold bodyPre bodyPost bodyAt0
  simp only [before0_0, before0_1, before0_2, before0_3, before0_4, before0_5, before0_6, before0_7, before0_8]
  rw [after0_0, after0_1, after0_2, after0_3, after0_4, after0_5, after0_6, after0_7, after0_8, after0_9]
  rw [show (dats m 0 c).Φ pt0.castSucc = Pipeline.ΦDRG osem0 spec0 H0 R0 (V m) (V m) c from rfl, show (dats m 0 c).Φ pt0.succ = between m c from rfl, PhiDRG0_eq]
  unfold Dat.owesAt Pipeline.owesWithin between
  rw [show (dats m 0 c).owed pt0.castSucc = 0 from rfl, show (dats m 0 c).owed pt0.succ = 0 from rfl]
  iintro ⟨⟨⟨HU, HY⟩, Hg, ⟨Hq0, Hq1⟩, Hh, Hy⟩, ⟨%W, -, HW⟩, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩⟩
  ihave Hy := (Entails.of_eq (hbY_pieces c (V m c main_v12_0))) $$ Hy
  icases Hy with ⟨Hy0, Hy1⟩
  iapply (run0 c (st0_0 pt0) (hstage0_0 ((cfg0.slots pt0 0).cast nbuf0_0)) (st0_1 pt0) (hstage0_1 ((cfg0.slots pt0 1).cast nbuf0_1)) (st0_2 pt0) (hstage0_2 ((cfg0.slots pt0 2).cast nbuf0_2)) (st0_3 pt0) (hstage0_3 ((cfg0.slots pt0 3).cast nbuf0_3)) (st0_4 pt0) (hstage0_4 ((cfg0.slots pt0 4).cast nbuf0_4)) (st0_5 pt0) (hstage0_5 ((cfg0.slots pt0 5).cast nbuf0_5)) (st0_6 pt0) (hstage0_6 ((cfg0.slots pt0 6).cast nbuf0_6)) (st0_7 pt0) (hstage0_7 ((cfg0.slots pt0 7).cast nbuf0_7)) (st0_8 pt0) (hstage0_8 ((cfg0.slots pt0 8).cast nbuf0_8)) (st0_9 pt0) (hstage0_9 ((cfg0.slots pt0 9).cast nbuf0_9)) (blk0 m c pt0) (blk1 m c pt0) (blk2 m c pt0) (blk3 m c pt0) (blk4 m c pt0) (blk5 m c pt0) (blk6 m c pt0) (blk7 m c pt0) (blk8 m c pt0) (V m c main_v12_0) W _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexists _; iexact B9
  isplitl [HU]; · iexact HU
  isplitl [HY]; · simp only [scY, owns_whole]; iexact HY
  isplitl [Hy0]; · iexact Hy0
  isplitl [Hq0]; · iexact Hq0
  isplitl [HW]; · iexact HW
  iintro ⟨B0, B1, B2, B3, B4, B5, B6, B7, B8, ⟨%e9, B9⟩, HU, HY, ⟨%W', HW'⟩⟩
  isplitl [HU HY Hg Hq1 Hh Hy1]
  · isplitl [HU]; · iexact HU
    isplitl [Hg]; · iexact Hg
    isplitl [HY]; · iexact HY
    isplitl [Hq1]; · iexact Hq1
    isplitl [Hh]; · iexact Hh
    iexact Hy1
  isplitl [HW']
  · iexists W'; isplitr; · ipureintro; exact fun _ _ => Or.inl trivial
    iexact HW'
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  unfold owns; iexists _; isplitr
  swap; · iexact B9
  ipureintro; exact state_read _ _ _ _ _

theorem sound_body1 (c : Dev nD) :
    bodyPre m c pt1 ⊢ wp frame (wpE (defs₀ (F := F)) Variants.none c none) Set.univ (bodyAt0 pt1) (fun _ => bodyPost m c pt1) := by
  unfold bodyPre bodyPost bodyAt0
  simp only [before0_0, before0_1, before0_2, before0_3, before0_4, before0_5, before0_6, before0_7, before0_8]
  rw [after0_0, after0_1, after0_2, after0_3, after0_4, after0_5, after0_6, after0_7, after0_8, after0_9]
  rw [show (dats m 0 c).Φ pt1.castSucc = between m c from rfl, show (dats m 0 c).Φ pt1.succ = Pipeline.ΦDRG osem0 spec0 H0 R0 (V m) (G m) c from rfl, PhiDRG0_eq]
  unfold Dat.owesAt Pipeline.owesWithin between
  rw [show (dats m 0 c).owed pt1.castSucc = 0 from rfl, show (dats m 0 c).owed pt1.succ = 0 from rfl]
  iintro ⟨⟨HU, Hg, ⟨%gS0, %hgS0, HB, HY⟩, Hq1, Hh, Hy⟩, ⟨%W, -, HW⟩, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩⟩
  iapply (run1 c (st0_0 pt1) (hstage0_0 ((cfg0.slots pt1 0).cast nbuf0_0)) (st0_1 pt1) (hstage0_1 ((cfg0.slots pt1 1).cast nbuf0_1)) (st0_2 pt1) (hstage0_2 ((cfg0.slots pt1 2).cast nbuf0_2)) (st0_3 pt1) (hstage0_3 ((cfg0.slots pt1 3).cast nbuf0_3)) (st0_4 pt1) (hstage0_4 ((cfg0.slots pt1 4).cast nbuf0_4)) (st0_5 pt1) (hstage0_5 ((cfg0.slots pt1 5).cast nbuf0_5)) (st0_6 pt1) (hstage0_6 ((cfg0.slots pt1 6).cast nbuf0_6)) (st0_7 pt1) (hstage0_7 ((cfg0.slots pt1 7).cast nbuf0_7)) (st0_8 pt1) (hstage0_8 ((cfg0.slots pt1 8).cast nbuf0_8)) (st0_9 pt1) (hstage0_9 ((cfg0.slots pt1 9).cast nbuf0_9)) (blk0 m c pt1) (blk1 m c pt1) (blk2 m c pt1) (blk3 m c pt1) (blk4 m c pt1) (blk5 m c pt1) (blk6 m c pt1) (blk7 m c pt1) (blk8 m c pt1) gS0 (V m c main_v12_0) W _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexists _; iexact B9
  isplitl [HU]; · iexact HU
  isplitl [HY]; · iexists gS0; unfold slotHeld; iexact HY
  isplitl [HB]; · iexact HB
  isplitl [Hy]; · iexact Hy
  isplitl [Hq1]; · iexact Hq1
  isplitl [HW]; · iexact HW
  iintro ⟨B0, B1, B2, B3, B4, B5, B6, B7, B8, ⟨%e9, B9⟩, HU, ⟨%gS, %hgS, D0, D1, D2, D3⟩, E0, E1, E2, E3, Hq0, Hq1, ⟨%W', HW'⟩⟩
  obtain ⟨f0, hf0⟩ := hgS0
  obtain ⟨f1, hf1⟩ := hgS
  ihave HE := (landed c pt0 gS0 (V m c main_v12_0) (rowsOut m c) (slabAt m c pt0) (fun x hx => slot_read c pt0 f0 gS0 _ hf0 x hx)
    (fun r x hx => rowsOut_at m c pt0 r x hx)) $$ [E0 E1 E2 E3]
  · isplitl [E0]; · iexact E0
    isplitl [E1]; · iexact E1
    isplitl [E2]; · iexact E2
    iexact E3
  ihave HD := (landed c pt1 gS (V m c main_v12_0) (rowsOut m c) (slabAt m c pt1) (fun x hx => slot_read c pt1 f1 gS _ hf1 x hx)
    (fun r x hx => rowsOut_at m c pt1 r x hx)) $$ [D0 D1 D2 D3]
  · isplitl [D0]; · iexact D0
    isplitl [D1]; · iexact D1
    isplitl [D2]; · iexact D2
    iexact D3
  icases HE with ⟨P0, T0⟩
  icases HD with ⟨P1, T1⟩
  isplitl [HU Hg Hq0 Hq1 Hh P0 P1 T0 T1]
  · isplitl [HU T0 T1]
    · isplitl [HU]; · iexact HU
      iapply (slots_join c gS0 gS)
      isplitl [T0]; · iexact T0
      iexact T1
    isplitl [Hg]; · iexact Hg
    isplitl [Hq0 Hq1]
    · isplitl [Hq0]; · iexact Hq0
      iexact Hq1
    isplitl [Hh]; · iexact Hh
    rw [G_rows]
    iapply (Entails.of_eq (hbY_pieces c (rowsOut m c)).symm)
    isplitl [P0]; · iexact P0
    iexact P1
  isplitl [HW']
  · iexists W'; isplitr; · ipureintro; exact fun _ _ => Or.inl trivial
    iexact HW'
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  unfold owns; iexists _; isplitr
  swap; · iexact B9
  ipureintro; exact state_read _ _ _ _ _

theorem sound_body (c : Dev nD) (t : Fin cfg0.N) :
    bodyPre m c t ⊢ wp frame (wpE (defs₀ (F := F)) Variants.none c none) Set.univ (bodyAt0 t) (fun _ => bodyPost m c t) := by
  rcases fin_N0 t with h | h
  · obtain rfl : t = pt0 := h; exact sound_body0 m c
  · obtain rfl : t = pt1 := h; exact sound_body1 m c

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun _ => .rfl) (hout := fun _ => .rfl)

/-- The arguments end unchanged in every run that ends as `run_main` says. -/
theorem args_of {r : PUnit × MemSt nD τ sig (Elt F)} (h : Pipeline.FramePostRG cfgs (dats m) 0 R0 (V m) (G m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c),
    ((h.1 c).2 main_arg8 (Finset.mem_sdiff.mpr ⟨Pipeline.mem_restRefs_of main_arg8 (by decide) (by decide), by decide⟩)).trans (V_main_arg8 m c)⟩

/-- The frame: the run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨args_of m h.1, h.2⟩) (run_main m ρ)

end Cert.Kernel2Ideal.Hand

end
-- ==== Proof.Value.Args.lean ====
/-
  A point's blocks, read at an index as the arguments.
-/
module

public import proofs.«01_k».proof.Proof.Kernel2Ideal.Frame
public import Idealize.ShloMosaic.Lib.Pointwise
public import Idealize.ShloMosaic.Lib.StableHlo.Run

@[expose] public section

set_option maxRecDepth 16384

noncomputable section

namespace Cert.Ffn

open Cert.Kernel2Ideal Cert.Kernel2Ideal.Gen Cert.Kernel2Ideal.Hand
open Idealize.ShloMosaic Idealize.ShloMosaic.TcCoe Idealize.ShloMosaic.StableHlo

variable (m : (ℓ : Loc nD τ sig) → Buf (Elt Ideal) ℓ) (c : Dev nD)

/-! ## Host reshapes at an index -/

theorem row_row (a : FVec Ideal S1x1024 .f32) (d : Fin 1024) :
    shapeCast S1x1024 (shapeCast S1024 a shapeCasts_S1x1024_S1024) shapeCasts_S1024_S1x1024 (ix2 (0 : Fin 1) d) = a (ix2 0 d) := by pointwise
theorem bias_row (a : FVec Ideal S1x3072 .f32) (f : Fin 3072) :
    shapeCast S1x3072 (shapeCast S3072 a shapeCasts_S1x3072_S3072) shapeCasts_S3072_S1x3072 (ix2 (0 : Fin 1) f) = a (ix2 0 f) := by pointwise
theorem weights_cast (a : FVec Ideal S1x1024x3072 .f32) (k : Fin 1024) (f : Fin 3072) :
    (truncf (F := Ideal) .bf16 (shapeCast S1024x3072 a shapeCasts_S1x1024x3072_S1024x3072) bitsLt_bf16_f32 : FVec Ideal S1024x3072 .bf16) (ix2 k f) = a (ix3 0 k f) := by pointwise
theorem down_cast (a : FVec Ideal S1x3072x1024 .f32) (f : Fin 3072) (d : Fin 1024) :
    (truncf (F := Ideal) .bf16 (shapeCast S3072x1024 a shapeCasts_S1x3072x1024_S3072x1024) bitsLt_bf16_f32 : FVec Ideal S3072x1024 .bf16) (ix2 f d) = a (ix3 0 f d) := by pointwise
theorem taps_cast (a : FVec Ideal S1x3x3072 .f32) (j : Fin 3) (f : Fin 3072) :
    shapeCast S3x3072 a shapeCasts_S1x3x3072_S3x3072 (ix2 j f) = a (ix3 0 j f) := by pointwise
theorem gain_cast (a : FVec Ideal S1024 .f32) (d : Fin 1024) :
    shapeCast S1x1024 a shapeCasts_S1024_S1x1024 (ix2 (0 : Fin 1) d) = a (ix1 d) := by pointwise

/-! ## The arrays the call takes -/

theorem V1 : V m c main_v1 = shapeCast S1x1024 (shapeCast S1024 (m ((c.tc : Thread nD τ).loc main_arg2)) shapeCasts_S1x1024_S1024) shapeCasts_S1024_S1x1024 := by
  dsimp only [V, hostOps0]
  after_results_simp <;> rfl

theorem V3 : V m c main_v3 = (truncf (F := Ideal) .bf16 (shapeCast S1024x3072 (m ((c.tc : Thread nD τ).loc main_arg3)) shapeCasts_S1x1024x3072_S1024x3072) bitsLt_bf16_f32 : FVec Ideal S1024x3072 .bf16) := by
  dsimp only [V, hostOps0]
  after_results_simp <;> rfl

theorem V5 : V m c main_v5 = (truncf (F := Ideal) .bf16 (shapeCast S1024x3072 (m ((c.tc : Thread nD τ).loc main_arg4)) shapeCasts_S1x1024x3072_S1024x3072) bitsLt_bf16_f32 : FVec Ideal S1024x3072 .bf16) := by
  dsimp only [V, hostOps0]
  after_results_simp <;> rfl

theorem V6 : V m c main_v6 = shapeCast S3x3072 (m ((c.tc : Thread nD τ).loc main_arg5)) shapeCasts_S1x3x3072_S3x3072 := by
  dsimp only [V, hostOps0]
  after_results_simp <;> rfl

theorem V8 : V m c main_v8 = shapeCast S1x3072 (shapeCast S3072 (m ((c.tc : Thread nD τ).loc main_arg6)) shapeCasts_S1x3072_S3072) shapeCasts_S3072_S1x3072 := by
  dsimp only [V, hostOps0]
  after_results_simp <;> rfl

theorem V10 : V m c main_v10 = (truncf (F := Ideal) .bf16 (shapeCast S3072x1024 (m ((c.tc : Thread nD τ).loc main_arg7)) shapeCasts_S1x3072x1024_S3072x1024) bitsLt_bf16_f32 : FVec Ideal S3072x1024 .bf16) := by
  dsimp only [V, hostOps0]
  after_results_simp <;> rfl

theorem V11 : V m c main_v11 = shapeCast S1x1024 (m ((c.tc : Thread nD τ).loc main_arg8)) shapeCasts_S1024_S1x1024 := by
  dsimp only [V, hostOps0]
  after_results_simp <;> rfl

/-! ## The blocks -/

theorem index0 (t : Fin cfg0.N) : ∀ a, (cfg0.win 0).index t a = (![0, t.val, 0] : Fin 3 → ℕ) a := by
  fin_cases t <;> decide
theorem index1 (t : Fin cfg0.N) : ∀ a, (cfg0.win 1).index t a = (![0, t.val, 0] : Fin 3 → ℕ) a := by
  fin_cases t <;> decide

theorem blk0_apply (t : Fin cfg0.N) (l : Fin 4) (b : Fin 64) (d : Fin 1024) (b' : Fin 128) (hb : b'.val = 64 * t.val + b.val) :
    blk0 m c t (ix3 l b d) = m ((c.tc : Thread nD τ).loc main_arg0) (ix3 l b' d) := by
  show ((cfg0.win 0).blk t).view.read (Elt Ideal) (V m c (Pipeline.arrRef spec0 0)) _ = _
  rw [View.read_apply]
  show (V m c main_arg0) (((cfg0.win 0).blk t).view.emb (ix3 l b d)) = _
  rw [V_main_arg0]
  refine congrArg (m ((c.tc : Thread nD τ).loc main_arg0)) ?_
  funext a
  apply Fin.ext
  refine ((cfg0.win 0).rect_emb_val t (ix3 l b d) a).trans ?_
  rw [index0]
  exact (all3 (P := fun a : Fin 3 => (![0, t.val, 0] : Fin 3 → ℕ) a * (![4, 64, 1024] : Fin 3 → ℕ) a + ((ix3 l b d : (⟨3, ![4, 64, 1024]⟩ : Shape).Idx) a).val
      = ((ix3 l b' d : (⟨3, ![4, 128, 1024]⟩ : Shape).Idx) a).val)
    (show 0 * 4 + l.val = l.val by omega) (show t.val * 64 + b.val = b'.val by omega) (show 0 * 1024 + d.val = d.val by omega)) a

theorem blk1_apply (t : Fin cfg0.N) (j : Fin 2) (b : Fin 64) (f : Fin 3072) (b' : Fin 128) (hb : b'.val = 64 * t.val + b.val) :
    blk1 m c t (ix3 j b f) = m ((c.tc : Thread nD τ).loc main_arg1) (ix3 j b' f) := by
  show ((cfg0.win 1).blk t).view.read (Elt Ideal) (V m c (Pipeline.arrRef spec0 1)) _ = _
  rw [View.read_apply]
  show (V m c main_arg1) (((cfg0.win 1).blk t).view.emb (ix3 j b f)) = _
  rw [V_main_arg1]
  refine congrArg (m ((c.tc : Thread nD τ).loc main_arg1)) ?_
  funext a
  apply Fin.ext
  refine ((cfg0.win 1).rect_emb_val t (ix3 j b f) a).trans ?_
  rw [index1]
  exact (all3 (P := fun a : Fin 3 => (![0, t.val, 0] : Fin 3 → ℕ) a * (![2, 64, 3072] : Fin 3 → ℕ) a + ((ix3 j b f : (⟨3, ![2, 64, 3072]⟩ : Shape).Idx) a).val
      = ((ix3 j b' f : (⟨3, ![2, 128, 3072]⟩ : Shape).Idx) a).val)
    (show 0 * 2 + j.val = j.val by omega) (show t.val * 64 + b.val = b'.val by omega) (show 0 * 3072 + f.val = f.val by omega)) a

theorem blk2_apply (t : Fin cfg0.N) (d : Fin 1024) : blk2 m c t (ix2 (0 : Fin 1) d) = m ((c.tc : Thread nD τ).loc main_arg2) (ix2 (0 : Fin 1) d) := by
  show ((cfg0.win 2).blk t).view.read (Elt Ideal) (V m c (Pipeline.arrRef spec0 2)) _ = _
  rw [View.read_apply]
  show (V m c main_v1) (((cfg0.win 2).blk t).view.emb (ix2 (0 : Fin 1) d)) = _
  have he : ((cfg0.win 2).blk t).view.emb (ix2 (0 : Fin 1) d) = ix2 (0 : Fin 1) d := by
    funext a
    exact Fin.ext ((cfg0.win 2).rect_emb_val_of_index_zero t a (by fin_cases t <;> fin_cases a <;> rfl) (ix2 (0 : Fin 1) d))
  rw [he, V1]
  exact row_row _ d

theorem blk3_apply (t : Fin cfg0.N) (k : Fin 1024) (f : Fin 3072) : blk3 m c t (ix2 k f) = m ((c.tc : Thread nD τ).loc main_arg3) (ix3 (0 : Fin 1) k f) := by
  show ((cfg0.win 3).blk t).view.read (Elt Ideal) (V m c (Pipeline.arrRef spec0 3)) _ = _
  rw [View.read_apply]
  show (V m c main_v3) (((cfg0.win 3).blk t).view.emb (ix2 k f)) = _
  have he : ((cfg0.win 3).blk t).view.emb (ix2 k f) = ix2 k f := by
    funext a
    exact Fin.ext ((cfg0.win 3).rect_emb_val_of_index_zero t a (by fin_cases t <;> fin_cases a <;> rfl) (ix2 k f))
  rw [he, V3]
  exact weights_cast _ k f

theorem blk4_apply (t : Fin cfg0.N) (k : Fin 1024) (f : Fin 3072) : blk4 m c t (ix2 k f) = m ((c.tc : Thread nD τ).loc main_arg4) (ix3 (0 : Fin 1) k f) := by
  show ((cfg0.win 4).blk t).view.read (Elt Ideal) (V m c (Pipeline.arrRef spec0 4)) _ = _
  rw [View.read_apply]
  show (V m c main_v5) (((cfg0.win 4).blk t).view.emb (ix2 k f)) = _
  have he : ((cfg0.win 4).blk t).view.emb (ix2 k f) = ix2 k f := by
    funext a
    exact Fin.ext ((cfg0.win 4).rect_emb_val_of_index_zero t a (by fin_cases t <;> fin_cases a <;> rfl) (ix2 k f))
  rw [he, V5]
  exact weights_cast _ k f

theorem blk5_apply (t : Fin cfg0.N) (j : Fin 3) (f : Fin 3072) : blk5 m c t (ix2 j f) = m ((c.tc : Thread nD τ).loc main_arg5) (ix3 (0 : Fin 1) j f) := by
  show ((cfg0.win 5).blk t).view.read (Elt Ideal) (V m c (Pipeline.arrRef spec0 5)) _ = _
  rw [View.read_apply]
  show (V m c main_v6) (((cfg0.win 5).blk t).view.emb (ix2 j f)) = _
  have he : ((cfg0.win 5).blk t).view.emb (ix2 j f) = ix2 j f := by
    funext a
    exact Fin.ext ((cfg0.win 5).rect_emb_val_of_index_zero t a (by fin_cases t <;> fin_cases a <;> rfl) (ix2 j f))
  rw [he, V6]
  exact taps_cast _ j f

theorem blk6_apply (t : Fin cfg0.N) (f : Fin 3072) : blk6 m c t (ix2 (0 : Fin 1) f) = m ((c.tc : Thread nD τ).loc main_arg6) (ix2 (0 : Fin 1) f) := by
  show ((cfg0.win 6).blk t).view.read (Elt Ideal) (V m c (Pipeline.arrRef spec0 6)) _ = _
  rw [View.read_apply]
  show (V m c main_v8) (((cfg0.win 6).blk t).view.emb (ix2 (0 : Fin 1) f)) = _
  have he : ((cfg0.win 6).blk t).view.emb (ix2 (0 : Fin 1) f) = ix2 (0 : Fin 1) f := by
    funext a
    exact Fin.ext ((cfg0.win 6).rect_emb_val_of_index_zero t a (by fin_cases t <;> fin_cases a <;> rfl) (ix2 (0 : Fin 1) f))
  rw [he, V8]
  exact bias_row _ f

theorem blk7_apply (t : Fin cfg0.N) (f : Fin 3072) (d : Fin 1024) : blk7 m c t (ix2 f d) = m ((c.tc : Thread nD τ).loc main_arg7) (ix3 (0 : Fin 1) f d) := by
  show ((cfg0.win 7).blk t).view.read (Elt Ideal) (V m c (Pipeline.arrRef spec0 7)) _ = _
  rw [View.read_apply]
  show (V m c main_v10) (((cfg0.win 7).blk t).view.emb (ix2 f d)) = _
  have he : ((cfg0.win 7).blk t).view.emb (ix2 f d) = ix2 f d := by
    funext a
    exact Fin.ext ((cfg0.win 7).rect_emb_val_of_index_zero t a (by fin_cases t <;> fin_cases a <;> rfl) (ix2 f d))
  rw [he, V10]
  exact down_cast _ f d

theorem blk8_apply (t : Fin cfg0.N) (d : Fin 1024) : blk8 m c t (ix2 (0 : Fin 1) d) = m ((c.tc : Thread nD τ).loc main_arg8) (ix1 d) := by
  show ((cfg0.win 8).blk t).view.read (Elt Ideal) (V m c (Pipeline.arrRef spec0 8)) _ = _
  rw [View.read_apply]
  show (V m c main_v11) (((cfg0.win 8).blk t).view.emb (ix2 (0 : Fin 1) d)) = _
  have he : ((cfg0.win 8).blk t).view.emb (ix2 (0 : Fin 1) d) = ix2 (0 : Fin 1) d := by
    funext a
    exact Fin.ext ((cfg0.win 8).rect_emb_val_of_index_zero t a (by fin_cases t <;> fin_cases a <;> rfl) (ix2 (0 : Fin 1) d))
  rw [he, V11]
  exact gain_cast _ d

end Cert.Ffn

end
-- ==== Proof.Value.Rows.lean ====
/-
  The payloads of the feed-forward call, row by row: each is the mathematics of one sequence.
-/
module

public import proofs.«01_k».proof.Proof.Kernel2Ideal.Pieces
public import proofs.«01_k».proof.Proof.Value.Spec

@[expose] public section

set_option maxRecDepth 16384

noncomputable section

namespace Cert.Ffn

open Cert.Kernel2Ideal Cert.Kernel2Ideal.Gen Cert.Kernel2Ideal.Hand
open Idealize.ShloMosaic

/-- The new row a flattened row belongs to. -/
def lOf (r : Fin 256) : Fin 4 := ⟨r.val / 64, by omega⟩
/-- The sequence a flattened row belongs to. -/
def bOf (r : Fin 256) : Fin 64 := ⟨r.val % 64, by omega⟩

/-- The block of rows, flattened. -/
theorem pay2_apply (x : Vec Ideal S4x64x1024 .f32) (r : Fin 256) (d : Fin 1024) :
    k0_pay2 x (ix2 r d) = x (ix3 (lOf r) (bOf r) d) := by
  pointwise [k0_pay2, lOf, bOf]

/-- The normalised rows. -/
theorem pay3_apply (x : Vec Ideal S4x64x1024 .f32) (g : Vec Ideal S1x1024 .f32) (r : Fin 256) (d : Fin 1024) :
    k0_pay3 x g (ix2 r d) = rms (fun k => k0_pay2 x (ix2 r k)) (fun k => g (ix2 0 k)) d := by
  pointwise [k0_pay3, rms]

/-- The final norm. -/
theorem pay26_apply (a : FVec Ideal S256x1024 .f32) (g : Vec Ideal S1x1024 .f32) (l : Fin 4) (b : Fin 64) (d : Fin 1024) :
    k0_pay26 a g (ix4 0 l b d) = rms (fun k => a (ix2 ⟨l.val * 64 + b.val, by omega⟩ k)) (fun k => g (ix2 0 k)) d := by
  pointwise [k0_pay26, rms]

/-- A projection of flattened rows. -/
theorem pay12_apply (x : FVec Ideal S256x1024 .bf16) (w : Vec Ideal S1024x1024 .bf16) (r : Fin 256) (e : Fin 1024) :
    k0_pay12 x w (ix2 r e) = proj (fun k => x (ix2 r k)) (fun k => w (ix2 k e)) := by
  pointwise [k0_pay12, proj]

/-- The rows two places earlier: the carried rows, then the block's. -/
abbrev shift2 (P : Vec Ideal S128x1024 .f32) (U : FVec Ideal S256x1024 .f32) : FVec Ideal S256x1024 .f32 :=
  concatenate S256x1024 0 [⟨S128x1024, P⟩, ⟨S128x1024, extractStridedSlice S128x1024 ![0, 0] U slices_S256x1024_o0_0_S128x1024⟩]
    concatenates_S128x1024_S128x1024_S256x1024_d0

/-- The rows one place earlier: the later carried row, then the block's. -/
abbrev shift1 (P : Vec Ideal S128x1024 .f32) (U : FVec Ideal S256x1024 .f32) : FVec Ideal S256x1024 .f32 :=
  concatenate S256x1024 0 [⟨S64x1024, extractStridedSlice S64x1024 ![64, 0] P slices_S128x1024_o64_0_S64x1024⟩,
    ⟨S192x1024, extractStridedSlice S192x1024 ![0, 0] U slices_S256x1024_o0_0_S192x1024⟩]
    concatenates_S64x1024_S192x1024_S256x1024_d0

/-- A flattened carried row. -/
def cRow (j : Fin 2) (b : Fin 64) : Fin 128 := ⟨j.val * 64 + b.val, by omega⟩
/-- A flattened new row. -/
def nRow (l : Fin 4) (b : Fin 64) : Fin 256 := ⟨l.val * 64 + b.val, by omega⟩

theorem nRow_of (r : Fin 256) : nRow (lOf r) (bOf r) = r := Fin.ext (by show r.val / 64 * 64 + r.val % 64 = r.val; omega)
theorem lOf_nRow (l : Fin 4) (b : Fin 64) : lOf (nRow l b) = l := Fin.ext (by show (l.val * 64 + b.val) / 64 = l.val; omega)
theorem bOf_nRow (l : Fin 4) (b : Fin 64) : bOf (nRow l b) = b := Fin.ext (by show (l.val * 64 + b.val) % 64 = b.val; omega)

theorem shift2_apply (P : Vec Ideal S128x1024 .f32) (U : FVec Ideal S256x1024 .f32) (r : Fin 256) (e : Fin 1024) :
    shift2 P U (ix2 r e) = past (fun j => P (ix2 (cRow j (bOf r)) e)) (fun i => U (ix2 (nRow i (bOf r)) e))
      ⟨(lOf r).val, by omega⟩ := by
  have hl : (lOf r).val = r.val / 64 := rfl
  unfold past
  pointwise [shift2]
  split <;> split
  · exact congrArg (fun q => P (ix2 q e)) (Fin.ext (by simp only [cRow, lOf, bOf] at *; omega))
  · omega
  · omega
  · exact congrArg (fun q => U (ix2 q e)) (Fin.ext (by simp only [nRow, lOf, bOf] at *; omega))

theorem shift1_apply (P : Vec Ideal S128x1024 .f32) (U : FVec Ideal S256x1024 .f32) (r : Fin 256) (e : Fin 1024) :
    shift1 P U (ix2 r e) = past (fun j => P (ix2 (cRow j (bOf r)) e)) (fun i => U (ix2 (nRow i (bOf r)) e))
      ⟨(lOf r).val + 1, by omega⟩ := by
  have hl : (lOf r).val = r.val / 64 := rfl
  unfold past
  pointwise [shift1]
  split <;> split
  · exact congrArg (fun q => P (ix2 q e)) (Fin.ext (by simp only [cRow, lOf, bOf] at *; omega))
  · omega
  · omega
  · exact congrArg (fun q => U (ix2 q e)) (Fin.ext (by simp only [nRow, lOf, bOf] at *; omega))

/-- The hidden units of column tile 0. -/
theorem pay10_apply (U G : FVec Ideal S256x1024 .f32) (P : Vec Ideal S128x1024 .f32) (b : FVec Ideal S1x1024 .f32)
    (V : FVec Ideal S256x1024 .f32) (w0 w1 w2 : Vec Ideal S1x1024 .f32) (r : Fin 256) (e : Fin 1024) :
    k0_pay10 U G P b V w0 w1 w2 (ix2 r e)
      = gelu (conv (V (ix2 r e)) (shift1 P U (ix2 r e)) (U (ix2 r e)) (w0 (ix2 0 e)) (w1 (ix2 0 e)) (w2 (ix2 0 e))
          (b (ix2 0 e))) * G (ix2 r e) := by
  pointwise [k0_pay10, conv, gelu]

/-- Column tile 0 added to the residual. -/
theorem pay11_apply (a : FVec Ideal S256x1024 .f32) (h : FVec Ideal S256x1024 .bf16) (w : Vec Ideal S1024x1024 .bf16)
    (r : Fin 256) (d : Fin 1024) :
    k0_pay11 a h w (ix2 r d) = a (ix2 r d) + proj (fun e => h (ix2 r e)) (fun e => w (ix2 e d)) := by
  pointwise [k0_pay11, proj]

/-- The convolution of column tile 1. -/
theorem pay14_apply (x : FVec Ideal S256x1024 .bf16) (w : Vec Ideal S1024x1024 .bf16) (P : Vec Ideal S128x1024 .f32)
    (b w0 w1 w2 : Vec Ideal S1x1024 .f32) (r : Fin 256) (e : Fin 1024) :
    k0_pay14 x w P b w0 w1 w2 (ix2 r e)
      = conv (shift2 P (k0_pay12 x w) (ix2 r e)) (shift1 P (k0_pay12 x w) (ix2 r e)) (k0_pay12 x w (ix2 r e))
          (w0 (ix2 0 e)) (w1 (ix2 0 e)) (w2 (ix2 0 e)) (b (ix2 0 e)) := by
  pointwise [k0_pay14, conv]

/-- Column tile 1 added. -/
theorem pay17_apply (a G C : FVec Ideal S256x1024 .f32) (w : Vec Ideal S1024x1024 .bf16) (r : Fin 256) (d : Fin 1024) :
    k0_pay17 a G C w (ix2 r d)
      = a (ix2 r d) + proj (fun e => gelu (C (ix2 r e)) * G (ix2 r e)) (fun e => w (ix2 e d)) := by
  pointwise [k0_pay17, proj, gelu]

/-- The first tap of column tile 2. -/
theorem pay20_apply (x : FVec Ideal S256x1024 .bf16) (w : Vec Ideal S1024x1024 .bf16) (P : Vec Ideal S128x1024 .f32)
    (b w0 : Vec Ideal S1x1024 .f32) (r : Fin 256) (e : Fin 1024) :
    k0_pay20 x w P b w0 (ix2 r e) = b (ix2 0 e) + shift2 P (k0_pay18 x w) (ix2 r e) * w0 (ix2 0 e) := by
  pointwise [k0_pay20]

/-- Column tile 2 added. -/
theorem pay24_apply (a U G V : FVec Ideal S256x1024 .f32) (P : Vec Ideal S128x1024 .f32) (w1 w2 : Vec Ideal S1x1024 .f32)
    (w : Vec Ideal S1024x1024 .bf16) (r : Fin 256) (d : Fin 1024) :
    k0_pay24 a U G V (k0_pay21 P) w1 w2 w (ix2 r d)
      = a (ix2 r d) + proj (fun e => gelu (V (ix2 r e) + shift1 P U (ix2 r e) * w1 (ix2 0 e) + U (ix2 r e) * w2 (ix2 0 e))
          * G (ix2 r e)) (fun e => w (ix2 e d)) := by
  pointwise [k0_pay24, k0_pay21, proj, gelu]

/-! ## The parts of the operands the loads read -/

/-- The carried rows, flattened. -/
theorem carried_apply (x : Vec Ideal S2x64x3072 .f32) (j : Fin 2) (b : Fin 64) (f : Fin 3072) :
    carried x (ix2 (cRow j b) f) = x (ix3 j b f) := by
  pointwise [carried, k0_pay1, cut, cRow]

theorem cut_allX (x : Vec Ideal S4x64x1024 .f32) : cut x allX.toLoadRect = x := by
  funext i; pointwise [cut]
theorem cut_allG (x : Vec Ideal S1x1024 .f32) (k : Fin 1024) : cut x allG.toLoadRect (ix2 0 k) = x (ix2 0 k) := by
  pointwise [cut]

/-! ### Column tile 0 -/

theorem cut_colU0 (x : Vec Ideal S128x3072 .f32) (q : Fin 128) (e : Fin 1024) :
    cut x colU0.toLoadRect (ix2 q e) = x (ix2 q ⟨e.val, by omega⟩) := by pointwise [cut]
theorem cut_colW0 (x : Vec Ideal S1024x3072 .bf16) (k e : Fin 1024) :
    cut x colW0.toLoadRect (ix2 k e) = x (ix2 k ⟨e.val, by omega⟩) := by pointwise [cut]
theorem cut_colB0 (x : Vec Ideal S1x3072 .f32) (e : Fin 1024) :
    cut x colB0.toLoadRect (ix2 0 e) = x (ix2 0 ⟨e.val, by omega⟩) := by pointwise [cut]
theorem cut_rowD0 (x : Vec Ideal S3072x1024 .bf16) (e d : Fin 1024) :
    cut x rowD0.toLoadRect (ix2 e d) = x (ix2 ⟨e.val, by omega⟩ d) := by pointwise [cut]
theorem cut_tap00 (x : Vec Ideal S3x3072 .f32) (e : Fin 1024) :
    cut x tap00.toLoadRect (ix2 0 e) = x (ix2 0 ⟨e.val, by omega⟩) := by pointwise [cut]
theorem cut_tap10 (x : Vec Ideal S3x3072 .f32) (e : Fin 1024) :
    cut x tap10.toLoadRect (ix2 0 e) = x (ix2 1 ⟨e.val, by omega⟩) := by pointwise [cut]
theorem cut_tap20 (x : Vec Ideal S3x3072 .f32) (e : Fin 1024) :
    cut x tap20.toLoadRect (ix2 0 e) = x (ix2 2 ⟨e.val, by omega⟩) := by pointwise [cut]

/-! ### Column tile 1 -/

theorem cut_colU1 (x : Vec Ideal S128x3072 .f32) (q : Fin 128) (e : Fin 1024) :
    cut x colU1.toLoadRect (ix2 q e) = x (ix2 q ⟨1024 + e.val, by omega⟩) := by pointwise [cut]
theorem cut_colW1 (x : Vec Ideal S1024x3072 .bf16) (k e : Fin 1024) :
    cut x colW1.toLoadRect (ix2 k e) = x (ix2 k ⟨1024 + e.val, by omega⟩) := by pointwise [cut]
theorem cut_colB1 (x : Vec Ideal S1x3072 .f32) (e : Fin 1024) :
    cut x colB1.toLoadRect (ix2 0 e) = x (ix2 0 ⟨1024 + e.val, by omega⟩) := by pointwise [cut]
theorem cut_rowD1 (x : Vec Ideal S3072x1024 .bf16) (e d : Fin 1024) :
    cut x rowD1.toLoadRect (ix2 e d) = x (ix2 ⟨1024 + e.val, by omega⟩ d) := by pointwise [cut]
theorem cut_tap01 (x : Vec Ideal S3x3072 .f32) (e : Fin 1024) :
    cut x tap01.toLoadRect (ix2 0 e) = x (ix2 0 ⟨1024 + e.val, by omega⟩) := by pointwise [cut]
theorem cut_tap11 (x : Vec Ideal S3x3072 .f32) (e : Fin 1024) :
    cut x tap11.toLoadRect (ix2 0 e) = x (ix2 1 ⟨1024 + e.val, by omega⟩) := by pointwise [cut]
theorem cut_tap21 (x : Vec Ideal S3x3072 .f32) (e : Fin 1024) :
    cut x tap21.toLoadRect (ix2 0 e) = x (ix2 2 ⟨1024 + e.val, by omega⟩) := by pointwise [cut]

/-! ### Column tile 2 -/

theorem cut_colU2 (x : Vec Ideal S128x3072 .f32) (q : Fin 128) (e : Fin 1024) :
    cut x colU2.toLoadRect (ix2 q e) = x (ix2 q ⟨2048 + e.val, by omega⟩) := by pointwise [cut]
theorem cut_colW2 (x : Vec Ideal S1024x3072 .bf16) (k e : Fin 1024) :
    cut x colW2.toLoadRect (ix2 k e) = x (ix2 k ⟨2048 + e.val, by omega⟩) := by pointwise [cut]
theorem cut_colB2 (x : Vec Ideal S1x3072 .f32) (e : Fin 1024) :
    cut x colB2.toLoadRect (ix2 0 e) = x (ix2 0 ⟨2048 + e.val, by omega⟩) := by pointwise [cut]
theorem cut_rowD2 (x : Vec Ideal S3072x1024 .bf16) (e d : Fin 1024) :
    cut x rowD2.toLoadRect (ix2 e d) = x (ix2 ⟨2048 + e.val, by omega⟩ d) := by pointwise [cut]
theorem cut_tap02 (x : Vec Ideal S3x3072 .f32) (e : Fin 1024) :
    cut x tap02.toLoadRect (ix2 0 e) = x (ix2 0 ⟨2048 + e.val, by omega⟩) := by pointwise [cut]
theorem cut_tap12 (x : Vec Ideal S3x3072 .f32) (e : Fin 1024) :
    cut x tap12.toLoadRect (ix2 0 e) = x (ix2 1 ⟨2048 + e.val, by omega⟩) := by pointwise [cut]
theorem cut_tap22 (x : Vec Ideal S3x3072 .f32) (e : Fin 1024) :
    cut x tap22.toLoadRect (ix2 0 e) = x (ix2 2 ⟨2048 + e.val, by omega⟩) := by pointwise [cut]

end Cert.Ffn

end
-- ==== Proof.Value.Block.lean ====
/-
  One point's block: the finished rows and the new carried rows are, sequence by sequence, the mathematics of the
  feed-forward block.
-/
module

public import proofs.«01_k».proof.Proof.Kernel2Ideal.Frame
public import proofs.«01_k».proof.Proof.Value.Rows

@[expose] public section

set_option maxRecDepth 16384

noncomputable section

namespace Cert.Ffn

open Cert.Kernel2Ideal Cert.Kernel2Ideal.Gen Cert.Kernel2Ideal.Hand
open Idealize.ShloMosaic

variable (x2 : Vec Ideal S4x64x1024 .f32) (x3 : Vec Ideal S2x64x3072 .f32) (x4 : Vec Ideal S1x1024 .f32)
  (x5 x6 : Vec Ideal S1024x3072 .bf16) (x7 : Vec Ideal S3x3072 .f32) (x8 : Vec Ideal S1x3072 .f32)
  (x9 : Vec Ideal S3072x1024 .bf16) (x10 : Vec Ideal S1x1024 .f32)

/-- The new rows of sequence `b` of a block. -/
def bX (b : Fin 64) (l : Fin 4) (d : Fin 1024) : EReal := x2 (ix3 l b d)
/-- The carried rows of sequence `b` of a block. -/
def bS (b : Fin 64) (j : Fin 2) (f : Fin 3072) : EReal := x3 (ix3 j b f)
/-- A row of gains. -/
def bG (d : Fin 1024) : EReal := x4 (ix2 0 d)
/-- A projection's weights. -/
def bW (k : Fin 1024) (f : Fin 3072) : EReal := x5 (ix2 k f)
/-- The taps. -/
def bC (j : Fin 3) (f : Fin 3072) : EReal := x7 (ix2 j f)
/-- The bias. -/
def bB (f : Fin 3072) : EReal := x8 (ix2 0 f)
/-- The weights back down. -/
def bD (f : Fin 3072) (d : Fin 1024) : EReal := x9 (ix2 f d)

theorem proj_congr {K : ℕ} {x x' w w' : Fin K → EReal} (hx : ∀ k, x k = x' k) (hw : ∀ k, w k = w' k) : proj x w = proj x' w' := by
  rw [funext hx, funext hw]

theorem rowsIn_apply (r : Fin 256) (k : Fin 1024) :
    rowsIn x2 x4 (ix2 r k) = rms (bX x2 (bOf r) (lOf r)) (bG x4) k := by
  show k0_pay3 (cut x2 allX.toLoadRect) (cut x4 allG.toLoadRect) (ix2 r k) = _
  rw [cut_allX, pay3_apply]
  simp only [cut_allG, pay2_apply]
  rfl

/-- A projection of the normalised rows, at a column of a tile. -/
theorem up_apply (w : Vec Ideal S1024x1024 .bf16) (W : Fin 1024 → Fin 3072 → EReal) (c : Fin 3072) (e : Fin 1024)
    (hw : ∀ k, w (ix2 k e) = W k c) (r : Fin 256) :
    k0_pay12 (rowsIn x2 x4) w (ix2 r e) = up (bX x2 (bOf r)) (bG x4) W (lOf r) c := by
  rw [pay12_apply]
  unfold up proj
  exact Finset.sum_congr rfl fun k _ => Ideal.mul_congr (rowsIn_apply x2 x4 r k) (hw k)

/-- A hidden unit at a column of a tile. -/
theorem hid_apply (w v : Vec Ideal S1024x1024 .bf16) (P : Vec Ideal S128x1024 .f32) (w0 w1 w2 b : EReal) (c : Fin 3072)
    (e : Fin 1024) (hw : ∀ k, w (ix2 k e) = x5 (ix2 k c)) (hv : ∀ k, v (ix2 k e) = x6 (ix2 k c))
    (hP : ∀ j s, P (ix2 (cRow j s) e) = x3 (ix3 j s c)) (h0 : w0 = x7 (ix2 0 c)) (h1 : w1 = x7 (ix2 1 c))
    (h2 : w2 = x7 (ix2 2 c)) (hb : b = x8 (ix2 0 c)) (r : Fin 256) :
    gelu (conv (shift2 P (k0_pay12 (rowsIn x2 x4) w) (ix2 r e)) (shift1 P (k0_pay12 (rowsIn x2 x4) w) (ix2 r e))
        (k0_pay12 (rowsIn x2 x4) w (ix2 r e)) w0 w1 w2 b) * k0_pay12 (rowsIn x2 x4) v (ix2 r e)
      = hidRow (bX x2 (bOf r)) (bS x3 (bOf r)) (bG x4) (bW x5) (bW x6) (bC x7) (bB x8) (lOf r) c := by
  have hU : (fun i => k0_pay12 (rowsIn x2 x4) w (ix2 (nRow i (bOf r)) e))
      = fun i => up (bX x2 (bOf r)) (bG x4) (bW x5) i c := by
    funext i
    rw [up_apply x2 x4 w (bW x5) c e hw, lOf_nRow, bOf_nRow]
  have hS : (fun j => P (ix2 (cRow j (bOf r)) e)) = fun j => bS x3 (bOf r) j c := by
    funext j; exact hP j (bOf r)
  rw [shift2_apply, shift1_apply, hU, hS, up_apply x2 x4 w (bW x5) c e hw, up_apply x2 x4 v (bW x6) c e hv, h0, h1, h2, hb]
  rfl

/-- What column tile 0 adds to row `r`. -/
def part0 (r : Fin 256) (d : Fin 1024) : EReal :=
  proj (fun e : Fin 1024 => hidRow (bX x2 (bOf r)) (bS x3 (bOf r)) (bG x4) (bW x5) (bW x6) (bC x7) (bB x8) (lOf r) ⟨e.val, by omega⟩)
    (fun e : Fin 1024 => bD x9 ⟨e.val, by omega⟩ d)

/-- What column tile 1 adds to row `r`. -/
def part1 (r : Fin 256) (d : Fin 1024) : EReal :=
  proj (fun e : Fin 1024 => hidRow (bX x2 (bOf r)) (bS x3 (bOf r)) (bG x4) (bW x5) (bW x6) (bC x7) (bB x8) (lOf r) ⟨1024 + e.val, by omega⟩)
    (fun e : Fin 1024 => bD x9 ⟨1024 + e.val, by omega⟩ d)

/-- What column tile 2 adds to row `r`. -/
def part2 (r : Fin 256) (d : Fin 1024) : EReal :=
  proj (fun e : Fin 1024 => hidRow (bX x2 (bOf r)) (bS x3 (bOf r)) (bG x4) (bW x5) (bW x6) (bC x7) (bB x8) (lOf r) ⟨2048 + e.val, by omega⟩)
    (fun e : Fin 1024 => bD x9 ⟨2048 + e.val, by omega⟩ d)

theorem rows0_apply (r : Fin 256) (d : Fin 1024) :
    rows0 x2 x3 x4 x5 x6 x7 x8 x9 (ix2 r d) = bX x2 (bOf r) (lOf r) d + part0 x2 x3 x4 x5 x6 x7 x8 x9 r d := by
  refine (pay11_apply _ _ _ r d).trans (Ideal.add_congr ?_ (proj_congr (fun e => ?_) fun e => ?_))
  · rw [cut_allX]; exact pay2_apply x2 r d
  · refine (pay10_apply _ _ _ _ _ _ _ _ r e).trans ?_
    have h6 : k0_pay6 (cut x8 colB0.toLoadRect) (ix2 0 e) = cut x8 colB0.toLoadRect (ix2 0 e) := by pointwise [k0_pay6]
    rw [h6]
    exact hid_apply x2 x3 x4 x5 x6 x7 x8 (cut x5 colW0.toLoadRect) (cut x6 colW0.toLoadRect)
      (cut (carried x3) colU0.toLoadRect) _ _ _ _ ⟨e.val, by omega⟩ e
      (fun k => cut_colW0 x5 k e) (fun k => cut_colW0 x6 k e)
      (fun j b => (cut_colU0 (carried x3) (cRow j b) e).trans (carried_apply x3 j b _))
      (cut_tap00 x7 e) (cut_tap10 x7 e) (cut_tap20 x7 e) (cut_colB0 x8 e) r
  · exact cut_rowD0 x9 e d

theorem rows1_apply (r : Fin 256) (d : Fin 1024) :
    rows1 x2 x3 x4 x5 x6 x7 x8 x9 (ix2 r d) = bX x2 (bOf r) (lOf r) d + part0 x2 x3 x4 x5 x6 x7 x8 x9 r d + part1 x2 x3 x4 x5 x6 x7 x8 x9 r d := by
  refine (pay17_apply _ _ _ _ r d).trans (Ideal.add_congr ?_ (proj_congr (fun e => ?_) fun e => ?_))
  · exact rows0_apply x2 x3 x4 x5 x6 x7 x8 x9 r d
  · rw [pay14_apply]
    exact hid_apply x2 x3 x4 x5 x6 x7 x8 (cut x5 colW1.toLoadRect) (cut x6 colW1.toLoadRect)
      (cut (carried x3) colU1.toLoadRect) _ _ _ _ ⟨1024 + e.val, by omega⟩ e
      (fun k => cut_colW1 x5 k e) (fun k => cut_colW1 x6 k e)
      (fun j b => (cut_colU1 (carried x3) (cRow j b) e).trans (carried_apply x3 j b _))
      (cut_tap01 x7 e) (cut_tap11 x7 e) (cut_tap21 x7 e) (cut_colB1 x8 e) r
  · exact cut_rowD1 x9 e d

theorem rows2_apply (r : Fin 256) (d : Fin 1024) :
    rows2 x2 x3 x4 x5 x6 x7 x8 x9 (ix2 r d)
      = bX x2 (bOf r) (lOf r) d + part0 x2 x3 x4 x5 x6 x7 x8 x9 r d + part1 x2 x3 x4 x5 x6 x7 x8 x9 r d + part2 x2 x3 x4 x5 x6 x7 x8 x9 r d := by
  refine (pay24_apply _ _ _ _ _ _ _ _ r d).trans (Ideal.add_congr ?_ (proj_congr (fun e => ?_) fun e => ?_))
  · exact rows1_apply x2 x3 x4 x5 x6 x7 x8 x9 r d
  · rw [pay20_apply]
    exact hid_apply x2 x3 x4 x5 x6 x7 x8 (cut x5 colW2.toLoadRect) (cut x6 colW2.toLoadRect)
      (cut (carried x3) colU2.toLoadRect) _ _ _ _ ⟨2048 + e.val, by omega⟩ e
      (fun k => cut_colW2 x5 k e) (fun k => cut_colW2 x6 k e)
      (fun j b => (cut_colU2 (carried x3) (cRow j b) e).trans (carried_apply x3 j b _))
      (cut_tap02 x7 e) (cut_tap12 x7 e) (cut_tap22 x7 e) (cut_colB2 x8 e) r
  · exact cut_rowD2 x9 e d

/-- The rows before the final norm. -/
theorem rows2_eq (r : Fin 256) (d : Fin 1024) :
    rows2 x2 x3 x4 x5 x6 x7 x8 x9 (ix2 r d)
      = outRow (bX x2 (bOf r)) (bS x3 (bOf r)) (bG x4) (bW x5) (bW x6) (bC x7) (bB x8) (bD x9) (lOf r) d := by
  rw [rows2_apply]
  unfold outRow
  rw [proj_tiles, ← add_assoc, ← add_assoc]
  rfl

/-- **The slab of finished rows.** -/
theorem slab_apply (l : Fin 4) (b : Fin 64) (d : Fin 1024) :
    slab x2 x3 x4 x5 x6 x7 x8 x9 x10 (ix4 0 l b d)
      = seqOut (bX x2 b) (bS x3 b) (bG x4) (bW x5) (bW x6) (bC x7) (bB x8) (bD x9) (bG x10) l d := by
  have hg : (fun k => k0_pay25 (cut x10 allG.toLoadRect) (ix2 0 k)) = bG x10 := by
    funext k
    have : k0_pay25 (cut x10 allG.toLoadRect) (ix2 0 k) = cut x10 allG.toLoadRect (ix2 0 k) := by pointwise [k0_pay25]
    rw [this, cut_allG]; rfl
  have hr : (fun k => rows2 x2 x3 x4 x5 x6 x7 x8 x9 (ix2 (nRow l b) k))
      = outRow (bX x2 b) (bS x3 b) (bG x4) (bW x5) (bW x6) (bC x7) (bB x8) (bD x9) l := by
    funext k
    rw [rows2_eq, lOf_nRow, bOf_nRow]
  refine (pay26_apply _ _ l b d).trans ?_
  unfold seqOut
  rw [← hr, ← hg]
  rfl

/-- A tile of the new carried rows. -/
theorem state_tile (w : Vec Ideal S1024x1024 .bf16) (c : Fin 3072) (e : Fin 1024) (hw : ∀ k, w (ix2 k e) = x5 (ix2 k c))
    (j : Fin 2) (b : Fin 64) :
    k0_pay16 (rowsIn x2 x4) w (ix3 j b e) = seqState (bX x2 b) (bG x4) (bW x5) j c := by
  have h : k0_pay16 (rowsIn x2 x4) w (ix3 j b e) = k0_pay12 (rowsIn x2 x4) w (ix2 (nRow ⟨j.val + 2, by omega⟩ b) e) := by
    pointwise [k0_pay16, nRow]
    exact congrArg (fun q => k0_pay12 (rowsIn x2 x4) w (ix2 q e)) (Fin.ext (by simp only [nRow]; omega))
  rw [h, up_apply x2 x4 w (bW x5) c e hw, lOf_nRow, bOf_nRow]
  rfl

/-- **The new carried rows of a block.** -/
theorem state_apply (j : Fin 2) (b : Fin 64) (f : Fin 3072) :
    stateOf x2 x4 x5 (ix3 j b f) = seqState (bX x2 b) (bG x4) (bW x5) j f := by
  have hf := f.isLt
  rw [ix3_eq_valueIdx]
  unfold stateOf sideBySide
  by_cases h : f.val < 1024
  · refine (dif_pos h).trans ?_
    rw [← ix3_eq_valueIdx]
    exact state_tile x2 x4 x5 (cut x5 colW0.toLoadRect) f ⟨f.val, h⟩ (fun k => cut_colW0 x5 k ⟨f.val, h⟩) j b
  · refine (dif_neg h).trans ?_
    by_cases h' : f.val < 2048
    · refine (dif_pos h').trans ?_
      rw [← ix3_eq_valueIdx]
      exact state_tile x2 x4 x5 (cut x5 colW1.toLoadRect) f ⟨f.val - 1024, by omega⟩
        (fun k => (cut_colW1 x5 k ⟨f.val - 1024, by omega⟩).trans
          (congrArg (fun q => x5 (ix2 k q)) (Fin.ext (show 1024 + (f.val - 1024) = f.val by omega)))) j b
    · refine (dif_neg h').trans ?_
      rw [← ix3_eq_valueIdx]
      exact state_tile x2 x4 x5 (cut x5 colW2.toLoadRect) f ⟨f.val - 2048, by omega⟩
        (fun k => (cut_colW2 x5 k ⟨f.val - 2048, by omega⟩).trans
          (congrArg (fun q => x5 (ix2 k q)) (Fin.ext (show 2048 + (f.val - 2048) = f.val by omega)))) j b

end Cert.Ffn

end
-- ==== Proof.Value.Reference.lean ====
/-
  The reference, stage by stage: its composed term is the mathematics of the feed-forward block, sequence by
  sequence.
-/
module

public import proofs.«01_k».proof.Proof.Gen.Reference2Ideal.Run
public import proofs.«01_k».proof.Proof.Value.Spec

@[expose] public section

set_option maxRecDepth 16384

noncomputable section

namespace Cert.Ffn.Ref

open Cert.Reference2Ideal Cert.Reference2Ideal.Gen
open Idealize.ShloMosaic Idealize.ShloMosaic.TcCoe

/-! ## The stages -/

/-- The rows by sequence. -/
def rows (a : FVec Ideal S4x128x1024 .f32) : FVec Ideal S128x4x1024 .f32 :=
  transpose S128x4x1024 [1, 0, 2] a transposes_S4x128x1024_S128x4x1024_1_0_2

/-- The rms-norm of every row. -/
def norm (x : FVec Ideal S128x4x1024 .f32) (g : FVec Ideal S1024 .f32) : FVec Ideal S128x4x1024 .f32 :=
  mulf (mulf x (broadcastInDim S128x4x1024 ![0, 1, 2] bcast_S128x4x1_S128x4x1024_0_1_2
      (Host.rsqrt (addf (Host.divf (broadcastInDim S128x4x1 ![0, 1] bcast_S128x4_S128x4x1_0_1
          (Host.reduceAdd (mulf x x) (constant S_ .f32 0x00000000#32) reducesTo_S128x4x1024_S128x4_d2 h_S_))
        (broadcastInDim S128x4x1 ![] bcast_S_S128x4x1 (constant S_ .f32 0x44800000#32)))
        (broadcastInDim S128x4x1 ![] bcast_S_S128x4x1 (constant S_ .f32 0x358637BD#32))))))
    (broadcastInDim S128x4x1024 ![0, 1, 2] bcast_S1x1x1024_S128x4x1024_0_1_2
      (broadcastInDim S1x1x1024 ![2] bcast_S1024_S1x1x1024_2 g))

/-- A projection up. -/
def lift (x : FVec Ideal S128x4x1024 .f32) (W : FVec Ideal S1024x3072 .f32) : FVec Ideal S128x4x3072 .f32 :=
  Host.dotGeneral dot_S128x4x1024_S1024x3072_S128x4x3072_2_0_01_1_n_n none x W

/-- The carried rows before the new ones. -/
def joined (s : FVec Ideal S2x128x3072 .f32) (u : FVec Ideal S128x4x3072 .f32) : FVec Ideal S128x6x3072 .f32 :=
  concatenate S128x6x3072 1 [⟨S128x2x3072, transpose S128x2x3072 [1, 0, 2] s transposes_S2x128x3072_S128x2x3072_1_0_2⟩,
    ⟨S128x4x3072, u⟩] concatenates_S128x2x3072_S128x4x3072_S128x6x3072_d1

/-- A row of the columns' gains at every row. -/
def spread (w : FVec Ideal S3072 .f32) : FVec Ideal S128x4x3072 .f32 :=
  broadcastInDim S128x4x3072 ![0, 1, 2] bcast_S1x1x3072_S128x4x3072_0_1_2
    (broadcastInDim S1x1x3072 ![2] bcast_S3072_S1x1x3072_2 w)

/-- The causal convolution. -/
def convolved (p : FVec Ideal S128x6x3072 .f32) (w : FVec Ideal S3x3072 .f32) (b : FVec Ideal S3072 .f32) :
    FVec Ideal S128x4x3072 .f32 :=
  addf (addf (addf (spread b)
      (mulf (extractStridedSlice S128x4x3072 ![0, 0, 0] p slices_S128x6x3072_S128x4x3072_0_0_0)
        (spread (shapeCast S3072 (extractStridedSlice S1x3072 ![0, 0] w slices_S3x3072_S1x3072_0_0) shapeCasts_S1x3072_S3072))))
      (mulf (extractStridedSlice S128x4x3072 ![0, 1, 0] p slices_S128x6x3072_S128x4x3072_0_1_0)
        (spread (shapeCast S3072 (extractStridedSlice S1x3072 ![1, 0] w slices_S3x3072_S1x3072_1_0) shapeCasts_S1x3072_S3072))))
    (mulf (extractStridedSlice S128x4x3072 ![0, 2, 0] p slices_S128x6x3072_S128x4x3072_0_2_0)
      (spread (shapeCast S3072 (extractStridedSlice S1x3072 ![2, 0] w slices_S3x3072_S1x3072_2_0) shapeCasts_S1x3072_S3072)))

/-- The gelu. -/
def smooth (u : FVec Ideal S128x4x3072 .f32) : FVec Ideal S128x4x3072 .f32 :=
  mulf u (mulf (broadcastInDim S128x4x3072 ![] bcast_S_S128x4x3072 (constant S_ .f32 0x3F000000#32))
    (addf (broadcastInDim S128x4x3072 ![] bcast_S_S128x4x3072 (constant S_ .f32 0x3F800000#32))
      (Host.tanh (mulf (broadcastInDim S128x4x3072 ![] bcast_S_S128x4x3072 (constant S_ .f32 0x3F4C422A#32))
        (addf u (mulf (broadcastInDim S128x4x3072 ![] bcast_S_S128x4x3072 (constant S_ .f32 0x3D372713#32))
          (mulf (mulf u u) u)))))))

/-- The projection back, added to the rows. -/
def lower (x : FVec Ideal S128x4x1024 .f32) (h : FVec Ideal S128x4x3072 .f32) (W : FVec Ideal S3072x1024 .f32) :
    FVec Ideal S128x4x1024 .f32 :=
  addf x (Host.dotGeneral dot_S128x4x3072_S3072x1024_S128x4x1024_2_0_01_1_n_n none h W)

/-- The new carried rows. -/
def kept (p : FVec Ideal S128x6x3072 .f32) : FVec Ideal S2x128x3072 .f32 :=
  transpose S2x128x3072 [1, 0, 2] (extractStridedSlice S128x2x3072 ![0, 4, 0] p slices_S128x6x3072_S128x2x3072_0_4_0)
    transposes_S128x2x3072_S2x128x3072_1_0_2

/-! ## Each stage at an index -/

theorem rows_apply (a) (b : Fin 128) (l : Fin 4) (d : Fin 1024) : rows a (ix3 b l d) = a (ix3 l b d) := by
  pointwise [rows]

theorem norm_apply (x) (g) (b : Fin 128) (l : Fin 4) (d : Fin 1024) :
    norm x g (ix3 b l d) = rms (fun k => x (ix3 b l k)) (fun k => g (ix1 k)) d := by
  pointwise [norm, rms]

theorem lift_apply (x W) (b : Fin 128) (l : Fin 4) (f : Fin 3072) :
    lift x W (ix3 b l f) = proj (fun k => x (ix3 b l k)) (fun k => W (ix2 k f)) := by
  pointwise [lift, proj]

theorem joined_apply (s u) (b : Fin 128) (j : Fin 6) (f : Fin 3072) :
    joined s u (ix3 b j f) = past (fun j => s (ix3 j b f)) (fun i => u (ix3 b i f)) j := by
  pointwise [joined, past]

theorem convolved_apply (p w bias) (b : Fin 128) (l : Fin 4) (f : Fin 3072) :
    convolved p w bias (ix3 b l f) = conv (p (ix3 b ⟨l.val, by omega⟩ f)) (p (ix3 b ⟨1 + l.val, by omega⟩ f))
      (p (ix3 b ⟨2 + l.val, by omega⟩ f)) (w (ix2 0 f)) (w (ix2 1 f)) (w (ix2 2 f)) (bias (ix1 f)) := by
  pointwise [convolved, spread, conv]

theorem smooth_apply (u) (b : Fin 128) (l : Fin 4) (f : Fin 3072) : smooth u (ix3 b l f) = gelu (u (ix3 b l f)) := by
  pointwise! [smooth, gelu]

theorem lower_apply (x h W) (b : Fin 128) (l : Fin 4) (d : Fin 1024) :
    lower x h W (ix3 b l d) = x (ix3 b l d) + proj (fun k => h (ix3 b l k)) (fun k => W (ix2 k d)) := by
  pointwise [lower, proj]

theorem kept_apply (p) (j : Fin 2) (b : Fin 128) (f : Fin 3072) : kept p (ix3 j b f) = p (ix3 b ⟨j.val + 4, by omega⟩ f) := by
  pointwise [kept]
  exact congrArg (fun q => p (ix3 b q f)) (Fin.ext (Nat.add_comm _ _))

/-! ## The reference -/

variable (a0 : FVec Ideal S4x128x1024 .f32) (a1 : FVec Ideal S2x128x3072 .f32) (g : FVec Ideal S1024 .f32)
  (Wu Wg : FVec Ideal S1024x3072 .f32) (w : FVec Ideal S3x3072 .f32) (bias : FVec Ideal S3072 .f32)
  (Wd : FVec Ideal S3072x1024 .f32) (g' : FVec Ideal S1024 .f32)

/-- The projection up of the normalised rows. -/
def ups (W : FVec Ideal S1024x3072 .f32) : FVec Ideal S128x4x3072 .f32 := lift (norm (rows a0) g) W

/-- The hidden rows. -/
def hidden : FVec Ideal S128x4x3072 .f32 :=
  mulf (smooth (convolved (joined a1 (ups a0 g Wu)) w bias)) (ups a0 g Wg)

/-- The finished rows. -/
def out : FVec Ideal S128x4x1024 .f32 := norm (lower (rows a0) (hidden a0 a1 g Wu Wg w bias) Wd) g'

theorem ups_apply (W) (b : Fin 128) (l : Fin 4) (f : Fin 3072) :
    ups a0 g W (ix3 b l f) = up (fun l d => a0 (ix3 l b d)) (fun d => g (ix1 d)) (fun k f => W (ix2 k f)) l f := by
  unfold ups up
  rw [lift_apply]
  simp only [norm_apply, rows_apply]

theorem past_new (s : Fin 2 → EReal) (u : Fin 4 → EReal) (l : Fin 4) (j : Fin 6) (h : j.val = l.val + 2) : past s u j = u l := by
  unfold past
  rw [dif_neg (by omega)]
  exact congrArg u (Fin.ext (by show j.val - 2 = l.val; omega))

theorem hidden_apply (b : Fin 128) (l : Fin 4) (f : Fin 3072) :
    hidden a0 a1 g Wu Wg w bias (ix3 b l f)
      = hidRow (fun l d => a0 (ix3 l b d)) (fun j f => a1 (ix3 j b f)) (fun d => g (ix1 d)) (fun k f => Wu (ix2 k f))
        (fun k f => Wg (ix2 k f)) (fun j f => w (ix2 j f)) (fun f => bias (ix1 f)) l f := by
  have h : hidden a0 a1 g Wu Wg w bias (ix3 b l f)
      = smooth (convolved (joined a1 (ups a0 g Wu)) w bias) (ix3 b l f) * ups a0 g Wg (ix3 b l f) := by
    pointwise [hidden]
  rw [h, smooth_apply, convolved_apply, joined_apply, joined_apply, joined_apply, past_new _ _ l ⟨2 + l.val, by omega⟩ (Nat.add_comm _ _)]
  simp only [ups_apply]
  have h1 : (⟨1 + l.val, by omega⟩ : Fin 6) = ⟨l.val + 1, by omega⟩ := Fin.ext (Nat.add_comm _ _)
  rw [h1]
  rfl

theorem out_apply (b : Fin 128) (l : Fin 4) (d : Fin 1024) :
    out a0 a1 g Wu Wg w bias Wd g' (ix3 b l d)
      = seqOut (fun l d => a0 (ix3 l b d)) (fun j f => a1 (ix3 j b f)) (fun d => g (ix1 d)) (fun k f => Wu (ix2 k f))
        (fun k f => Wg (ix2 k f)) (fun j f => w (ix2 j f)) (fun f => bias (ix1 f)) (fun f d => Wd (ix2 f d))
        (fun d => g' (ix1 d)) l d := by
  unfold out seqOut
  rw [norm_apply]
  simp only [lower_apply, rows_apply, hidden_apply]
  rfl

theorem kept_joined (j : Fin 2) (b : Fin 128) (f : Fin 3072) :
    kept (joined a1 (ups a0 g Wu)) (ix3 j b f)
      = seqState (fun l d => a0 (ix3 l b d)) (fun d => g (ix1 d)) (fun k f => Wu (ix2 k f)) j f := by
  rw [kept_apply, joined_apply, past_new _ _ ⟨j.val + 2, by omega⟩ _ rfl, ups_apply]
  rfl

/-! ## The arguments as the stages take them -/

theorem gain_apply (a : FVec Ideal S1x1024 .f32) (d : Fin 1024) :
    shapeCast S1024 a shapeCasts_S1x1024_S1024 (ix1 d) = a (ix2 0 d) := by pointwise

theorem weights_apply (a : FVec Ideal S1x1024x3072 .f32) (k : Fin 1024) (f : Fin 3072) :
    shapeCast S1024x3072 a shapeCasts_S1x1024x3072_S1024x3072 (ix2 k f) = a (ix3 0 k f) := by pointwise

theorem taps_apply (a : FVec Ideal S1x3x3072 .f32) (j : Fin 3) (f : Fin 3072) :
    shapeCast S3x3072 a shapeCasts_S1x3x3072_S3x3072 (ix2 j f) = a (ix3 0 j f) := by pointwise

theorem bias_apply (a : FVec Ideal S1x3072 .f32) (f : Fin 3072) :
    shapeCast S3072 a shapeCasts_S1x3072_S3072 (ix1 f) = a (ix2 0 f) := by pointwise

theorem down_apply (a : FVec Ideal S1x3072x1024 .f32) (f : Fin 3072) (d : Fin 1024) :
    shapeCast S3072x1024 a shapeCasts_S1x3072x1024_S3072x1024 (ix2 f d) = a (ix3 0 f d) := by pointwise

section
variable (m : (ℓ : Loc nD τ sig) → Buf (Elt Ideal) ℓ) (c : Dev nD)

/-- The reference's first result, of the arguments. -/
def res0 : FVec Ideal S128x4x1024 .f32 :=
  out (m ((c.tc : Thread nD τ).loc main_arg0)) (m ((c.tc : Thread nD τ).loc main_arg1))
    (shapeCast S1024 (m ((c.tc : Thread nD τ).loc main_arg2)) shapeCasts_S1x1024_S1024)
    (shapeCast S1024x3072 (m ((c.tc : Thread nD τ).loc main_arg3)) shapeCasts_S1x1024x3072_S1024x3072)
    (shapeCast S1024x3072 (m ((c.tc : Thread nD τ).loc main_arg4)) shapeCasts_S1x1024x3072_S1024x3072)
    (shapeCast S3x3072 (m ((c.tc : Thread nD τ).loc main_arg5)) shapeCasts_S1x3x3072_S3x3072)
    (shapeCast S3072 (m ((c.tc : Thread nD τ).loc main_arg6)) shapeCasts_S1x3072_S3072)
    (shapeCast S3072x1024 (m ((c.tc : Thread nD τ).loc main_arg7)) shapeCasts_S1x3072x1024_S3072x1024)
    (m ((c.tc : Thread nD τ).loc main_arg8))

/-- The reference's second result, of the arguments. -/
def res1 : FVec Ideal S2x128x3072 .f32 :=
  kept (joined (m ((c.tc : Thread nD τ).loc main_arg1)) (ups (m ((c.tc : Thread nD τ).loc main_arg0))
    (shapeCast S1024 (m ((c.tc : Thread nD τ).loc main_arg2)) shapeCasts_S1x1024_S1024)
    (shapeCast S1024x3072 (m ((c.tc : Thread nD τ).loc main_arg3)) shapeCasts_S1x1024x3072_S1024x3072)))

theorem res_main_v76_eq : Cert.Reference2Ideal.Value.res_main_v76 (F := Ideal) m c = res0 m c := rfl

end

end Cert.Ffn.Ref

end
-- ==== Proof.Value.Algebraic.lean ====
/-
  The kernel and the reference leave the same two arrays: at every index each is the mathematics of the
  feed-forward block of the arguments' values.
-/
module

public import proofs.«01_k».proof.Defs
public import proofs.«01_k».proof.Proof.Value.Args
public import proofs.«01_k».proof.Proof.Value.Block
public import proofs.«01_k».proof.Proof.Value.Reference

@[expose] public section

set_option maxRecDepth 16384

noncomputable section

namespace Cert.Ffn

open Cert.Kernel2Ideal Cert.Kernel2Ideal.Gen Cert.Kernel2Ideal.Hand
open Idealize.ShloMosaic Idealize.ShloMosaic.TcCoe Idealize.SL.Sem

variable (m : (ℓ : Loc nD τ sig) → Buf (Elt Ideal) ℓ) (c : Dev nD)

/-! ## The two results, of the arguments -/

/-- The new rows of sequence `b`. -/
def aX (b : Fin 128) (l : Fin 4) (d : Fin 1024) : EReal := m ((c.tc : Thread nD τ).loc main_arg0) (ix3 l b d)
/-- Its carried rows. -/
def aS (b : Fin 128) (j : Fin 2) (f : Fin 3072) : EReal := m ((c.tc : Thread nD τ).loc main_arg1) (ix3 j b f)
/-- The first gain. -/
def aG (d : Fin 1024) : EReal := m ((c.tc : Thread nD τ).loc main_arg2) (ix2 (0 : Fin 1) d)
/-- The weights up. -/
def aU (k : Fin 1024) (f : Fin 3072) : EReal := m ((c.tc : Thread nD τ).loc main_arg3) (ix3 (0 : Fin 1) k f)
/-- The gate's weights. -/
def aV (k : Fin 1024) (f : Fin 3072) : EReal := m ((c.tc : Thread nD τ).loc main_arg4) (ix3 (0 : Fin 1) k f)
/-- The taps. -/
def aC (j : Fin 3) (f : Fin 3072) : EReal := m ((c.tc : Thread nD τ).loc main_arg5) (ix3 (0 : Fin 1) j f)
/-- The bias. -/
def aB (f : Fin 3072) : EReal := m ((c.tc : Thread nD τ).loc main_arg6) (ix2 (0 : Fin 1) f)
/-- The weights back down. -/
def aD (f : Fin 3072) (d : Fin 1024) : EReal := m ((c.tc : Thread nD τ).loc main_arg7) (ix3 (0 : Fin 1) f d)
/-- The final gain. -/
def aF (d : Fin 1024) : EReal := m ((c.tc : Thread nD τ).loc main_arg8) (ix1 d)

/-- The finished rows at an index. -/
def outVal (b : Fin 128) (l : Fin 4) (d : Fin 1024) : EReal :=
  seqOut (aX m c b) (aS m c b) (aG m c) (aU m c) (aV m c) (aC m c) (aB m c) (aD m c) (aF m c) l d

/-- The new carried rows at an index. -/
def stateVal (j : Fin 2) (b : Fin 128) (f : Fin 3072) : EReal := seqState (aX m c b) (aG m c) (aU m c) j f

/-! ## The kernel -/

section
variable (t : Fin cfg0.N) (b : Fin 64) (b' : Fin 128) (hb : b'.val = 64 * t.val + b.val)
include hb
theorem bX_eq : bX (blk0 m c t) b = aX m c b' := funext fun l => funext fun d => blk0_apply m c t l b d b' hb
theorem bS_eq : bS (blk1 m c t) b = aS m c b' := funext fun j => funext fun f => blk1_apply m c t j b f b' hb
end
section
variable (t : Fin cfg0.N)
theorem bG_eq : bG (blk2 m c t) = aG m c := funext fun d => blk2_apply m c t d
theorem bU_eq : bW (blk3 m c t) = aU m c := funext fun k => funext fun f => blk3_apply m c t k f
theorem bV_eq : bW (blk4 m c t) = aV m c := funext fun k => funext fun f => blk4_apply m c t k f
theorem bC_eq : bC (blk5 m c t) = aC m c := funext fun j => funext fun f => blk5_apply m c t j f
theorem bB_eq : bB (blk6 m c t) = aB m c := funext fun f => blk6_apply m c t f
theorem bD_eq : bD (blk7 m c t) = aD m c := funext fun f => funext fun d => blk7_apply m c t f d
theorem bF_eq : bG (blk8 m c t) = aF m c := funext fun d => blk8_apply m c t d
end

/-- A sequence's point and its place in the point's block. -/
theorem point_of (b : Fin 128) : ∃ (t : Fin cfg0.N) (r : Fin 64), b.val = 64 * t.val + r.val :=
  ⟨⟨b.val / 64, by have := b.isLt; show _ < 2; omega⟩, ⟨b.val % 64, Nat.mod_lt _ (by decide)⟩, by show b.val = 64 * (b.val / 64) + b.val % 64; omega⟩

theorem rowsOut_apply (b : Fin 128) (l : Fin 4) (d : Fin 1024) : rowsOut m c (ix3 b l d) = outVal m c b l d := by
  obtain ⟨t, r, h⟩ := point_of b
  refine (rowsOut_at m c t r (ix3 b l d) h).trans ?_
  show slabAt m c t (ValueIdx.ix4 (0 : Fin 1) l r d) = _
  rw [← ix4_eq_valueIdx]
  refine (slab_apply _ _ _ _ _ _ _ _ _ l r d).trans ?_
  rw [bX_eq m c t r b h, bS_eq m c t r b h, bG_eq, bU_eq, bV_eq, bC_eq, bB_eq, bD_eq, bF_eq]
  rfl

/-- The new carried rows as an array. -/
def stateArr : Vec Ideal S2x128x3072 .f32 := fun x => stateVal m c (x 0) (x 1) (x 2)

theorem stateAt (t : Fin cfg0.N) (j : Fin 2) (r : Fin 64) (f : Fin 3072) (b : Fin 128) (h : b.val = 64 * t.val + r.val) :
    stateOf (blk0 m c t) (blk2 m c t) (blk3 m c t) (ix3 j r f) = stateVal m c j b f := by
  rw [state_apply, bX_eq m c t r b h, bG_eq, bU_eq]
  rfl

theorem index9 (t : Fin cfg0.N) : ∀ a, (cfg0.win 9).index t a = (![0, t.val, 0] : Fin 3 → ℕ) a := by
  fin_cases t <;> decide

theorem emb9 (t : Fin cfg0.N) (j : Fin 2) (r : Fin 64) (f : Fin 3072) (b : Fin 128) (h : b.val = 64 * t.val + r.val) :
    ((cfg0.win 9).blk t).view.emb (ix3 j r f) = (ix3 j b f : S2x128x3072.Idx) := by
  funext a
  apply Fin.ext
  refine ((cfg0.win 9).rect_emb_val t (ix3 j r f) a).trans ?_
  rw [index9]
  exact (all3 (P := fun a : Fin 3 => (![0, t.val, 0] : Fin 3 → ℕ) a * (![2, 64, 3072] : Fin 3 → ℕ) a + ((ix3 j r f : (⟨3, ![2, 64, 3072]⟩ : Shape).Idx) a).val
      = ((ix3 j b f : (⟨3, ![2, 128, 3072]⟩ : Shape).Idx) a).val)
    (show 0 * 2 + j.val = j.val by omega) (show t.val * 64 + r.val = b.val by omega) (show 0 * 3072 + f.val = f.val by omega)) a

theorem flushed9 (t : Fin cfg0.N) : (dats m 0 c).flushed 9 t = ((cfg0.win 9).blk t).view.read (Elt Ideal) (stateArr m c) := by
  funext x
  show (dats m 0 c).after 9 t x = _
  rw [after0_9, View.read_apply]
  obtain ⟨j, r, f, rfl⟩ : ∃ (j : Fin 2) (r : Fin 64) (f : Fin 3072), x = ix3 j r f := ⟨x 0, x 1, x 2, eq_ix3 x⟩
  have ht : t.val < 2 := t.isLt
  refine (stateAt m c t j r f ⟨64 * t.val + r.val, by omega⟩ rfl).trans ?_
  rw [emb9 t j r f ⟨64 * t.val + r.val, by omega⟩ rfl]
  rfl

theorem cover9 (i : S2x128x3072.Idx) : ∃ t : Fin cfg0.N, (cfg0.win 9).flush t = true ∧ i ∈ ((cfg0.win 9).blk t).view.set := by
  obtain ⟨j, b, f, rfl⟩ : ∃ (j : Fin 2) (b : Fin 128) (f : Fin 3072), i = ix3 j b f := ⟨i 0, i 1, i 2, eq_ix3 i⟩
  obtain ⟨t, r, h⟩ := point_of b
  refine ⟨t, flush0_9 t, ?_⟩
  rw [← emb9 t j r f b h]
  exact View.emb_mem_set _ _

theorem arr9 : (dats m 0 c).arrAt 9 cfg0.N = stateArr m c :=
  (dats m 0 c).arrAt_eq_of_cover 9 (stateArr m c) (fun t _ => flushed9 m c t) (fun i => cover9 i)

/-! ## The reference -/

variable (m' : (ℓ : Loc Cert.Reference2Ideal.nD Cert.Reference2Ideal.τ Cert.Reference2Ideal.sig) → Buf (Elt Ideal) ℓ)

/-- The two programs' arguments agree on a device. -/
def Agree (c : Dev nD) : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
  ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
  ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
  ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)

theorem ref0 (h : Agree m m' c) : Ref.res0 m' c = rowsOut m c := by
  obtain ⟨h0, h1, h2, h3, h4, h5, h6, h7, h8⟩ := h
  funext x
  obtain ⟨b, l, d, rfl⟩ : ∃ (b : Fin 128) (l : Fin 4) (d : Fin 1024), x = ix3 b l d := ⟨x 0, x 1, x 2, eq_ix3 x⟩
  refine Eq.trans ?_ (rowsOut_apply m c b l d).symm
  unfold Ref.res0
  rw [Ref.out_apply, h0, h1, h2, h3, h4, h5, h6, h7, h8]
  simp only [Ref.gain_apply, Ref.weights_apply, Ref.taps_apply, Ref.bias_apply, Ref.down_apply]
  rfl

theorem ref1 (h : Agree m m' c) : Ref.res1 m' c = stateArr m c := by
  obtain ⟨h0, h1, h2, h3, h4, h5, h6, h7, h8⟩ := h
  funext x
  obtain ⟨j, b, f, rfl⟩ : ∃ (j : Fin 2) (b : Fin 128) (f : Fin 3072), x = ix3 j b f := ⟨x 0, x 1, x 2, eq_ix3 x⟩
  unfold Ref.res1
  rw [Ref.kept_joined, h0, h2, h3]
  simp only [Ref.gain_apply, Ref.weights_apply]
  rfl

/-! ## The claim -/

/-- **The kernel and the reference end with equal results.** -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => rowsOut m c, fun c => stateArr m c, ?_, ?_⟩
  · refine (θ_run _ _ _).mono (fun r h c => ?_) (run_main (F := Ideal) m g)
    refine ⟨?_, ?_, args_of m h.1 c⟩
    · exact (h.1.2 c main_v12_0 (by unfold R0; exact Finset.mem_singleton_self _)).trans (G_rows m c)
    · exact ((h.1.1 c).1 9).trans (arr9 m c)
  · refine (θ_run _ _ _).mono (fun r h c => ?_) (Cert.Reference2Ideal.Value.run (F := Ideal) m' g')
    obtain ⟨r0, r1, ra⟩ := h c
    refine ⟨r0.trans ((Ref.res_main_v76_eq m' c).trans (ref0 m c m' (hargs c))), r1.trans ?_, ra⟩
    exact Eq.trans (show _ = Ref.res1 m' c from rfl) (ref1 m c m' (hargs c))

end Cert.Ffn

end
-- ==== Proof.lean ====
/-
  The proof of `Cert.Claim`: the frames of the feed-forward call on the prompts, of that on the
  samples, of the call that leaves the convolution state of the meta tokens, and of their references, and that each call
  and its reference end with equal results.
-/
module

public import proofs.«01_k».proof.Defs
public import proofs.«01_k».proof.Proof.Kernel1.Frame
public import proofs.«01_k».proof.Proof.Kernel1Ideal.Frame
public import proofs.«01_k».proof.Proof.Gen.Reference1Ideal.Run
public import proofs.«01_k».proof.Proof.Prompt.Algebraic
public import proofs.«01_k».proof.Proof.Gen.Kernel3.Frame
public import proofs.«01_k».proof.Proof.Gen.Kernel3Ideal.Frame
public import proofs.«01_k».proof.Proof.Gen.Reference3Ideal.Run
public import proofs.«01_k».proof.Proof.State.Algebraic
public import proofs.«01_k».proof.Proof.Kernel2.Frame
public import proofs.«01_k».proof.Proof.Kernel2Ideal.Frame
public import proofs.«01_k».proof.Proof.Gen.Reference2Ideal.Run
public import proofs.«01_k».proof.Proof.Value.Algebraic

@[expose] public section

noncomputable section

namespace Cert.Proof

open Idealize.ShloMosaic Idealize.SL.Sem

theorem claim : Cert.Claim := ⟨Cert.Kernel1.Gen.facts, Cert.Kernel1Ideal.Gen.facts, Cert.Reference1Ideal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel1.Hand.frame m ρ,
  fun m ρ _ => Cert.Kernel1Ideal.Hand.frame m ρ,
  fun m ρ _ => (θ_run Cert.Reference1Ideal.defs _ _).mono (fun r h => ⟨fun c => (h c).2.2, sem_eq_zero_of_no_sems (by decide) r.2⟩)
    (Cert.Reference1Ideal.Value.run (F := Ideal) m ρ),
  fun m ρ _ => Cert.Kernel2.Hand.frame m ρ,
  fun m ρ _ => Cert.Kernel2Ideal.Hand.frame m ρ,
  fun m ρ _ => (θ_run Cert.Reference2Ideal.defs _ _).mono (fun r h => ⟨fun c => (h c).2.2, sem_eq_zero_of_no_sems (by decide) r.2⟩)
    (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems (by decide) r.2⟩)
    (Cert.Reference3Ideal.Value.run (F := Ideal) m ρ),
  trivial, Cert.Ffn.Prompt.algebraic, trivial, Cert.Ffn.algebraic, trivial, Cert.Ffn.State.algebraic⟩

end Cert.Proof

end
